-- ==== Defs.lean ====
def Pre_Kernel [hPre_ids_named : Cert.Pre_ids_named.Facts] (m : (ℓ : Loc Cert.Kernel.nD Cert.Kernel.τ Cert.Kernel.sig) → Buf (Elt Bits) ℓ) : Prop :=
  ∀ c : Dev Cert.Kernel.nD,
    (Cert.Pre_ids_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_ids_named : Cert.Pre_ids_named.Facts] (m : (ℓ : Loc Cert.KernelIdeal.nD Cert.KernelIdeal.τ Cert.KernelIdeal.sig) → Buf (Elt Ideal) ℓ) : Prop :=
  ∀ c : Dev Cert.KernelIdeal.nD,
    (Cert.Pre_ids_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_ids_named_and_scaled [hPre_ids_named_and_scaled : Cert.Pre_ids_named_and_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_ids_named_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ids_named_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ids_named_and_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_named_and_scaled [hPre_ids_named_and_scaled : Cert.Pre_ids_named_and_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_named_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ids_named_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ids_named_and_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] [hPre_ids_named : Cert.Pre_ids_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_ids_named : Cert.Pre_ids_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ids_named_and_scaled [hKernelIdeal : Cert.KernelIdeal.Facts] [hPre_ids_named_and_scaled : Cert.Pre_ids_named_and_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_named_and_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_named_and_scaled [hReferenceIdeal : Cert.ReferenceIdeal.Facts] [hPre_ids_named_and_scaled : Cert.Pre_ids_named_and_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_named_and_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ids_named_and_scaled [hKernelIdeal : Cert.KernelIdeal.Facts] [hReferenceIdeal : Cert.ReferenceIdeal.Facts] [hPre_ids_named_and_scaled : Cert.Pre_ids_named_and_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_named_and_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_named : Cert.Pre_ids_named.Facts) (hPre_ids_named_and_scaled : Cert.Pre_ids_named_and_scaled.Facts),
    quiescent_Kernel (hKernel := hKernel) (hPre_ids_named := hPre_ids_named)
    ∧ quiescent_KernelIdeal (hKernelIdeal := hKernelIdeal) (hPre_ids_named := hPre_ids_named)
    ∧ quiescent_KernelIdeal_pre_ids_named_and_scaled (hKernelIdeal := hKernelIdeal) (hPre_ids_named_and_scaled := hPre_ids_named_and_scaled)
    ∧ quiescent_ReferenceIdeal (hReferenceIdeal := hReferenceIdeal)
    ∧ quiescent_ReferenceIdeal_pre_ids_named_and_scaled (hReferenceIdeal := hReferenceIdeal) (hPre_ids_named_and_scaled := hPre_ids_named_and_scaled)
    ∧ preserves_Kernel_KernelIdeal
    ∧ algebraic_KernelIdeal_ReferenceIdeal_pre_ids_named_and_scaled (hKernelIdeal := hKernelIdeal) (hReferenceIdeal := hReferenceIdeal) (hPre_ids_named_and_scaled := hPre_ids_named_and_scaled)
-- ==== Pre_ids_named.lean ====
abbrev S3x640x10240 : Shape := ⟨3, ![3, 640, 10240]⟩
abbrev S3x640 : Shape := ⟨2, ![3, 640]⟩
abbrev S10240x384 : Shape := ⟨2, ![10240, 384]⟩
abbrev S384 : Shape := ⟨1, ![384]⟩
abbrev S2x384x192 : Shape := ⟨3, ![2, 384, 192]⟩
abbrev S192 : Shape := ⟨1, ![192]⟩
abbrev S_ : Shape := ⟨0, ![]⟩

class Facts : Prop where
  bcast_S_S3x640 : S_.BroadcastsInDim S3x640 (![] : Fin 0 → Fin S3x640.rank)

variable [Facts]

def fn {F : FTy → Type} [FloatOps F] (main_arg0 : IVec S3x640x10240 8) (main_arg1 : FVec F S3x640 .f32) (main_arg2 : FVec F S10240x384 .fp8e4m3) (main_arg3 : FVec F S384 .f32) (main_arg4 : FVec F S384 .f32) (main_arg5 : IVec S3x640 32) (main_arg6 : FVec F S2x384x192 .fp8e4m3) (main_arg7 : FVec F S192 .f32) (main_arg8 : FVec F S192 .f32) : IVec S3x640 1 :=
  let main_c : IVec S_ 32 := constantI S_ 32 200#32
  let main_v0 : IVec S3x640 32 := broadcastInDim S3x640 ![] bcast_S_S3x640 main_c
  let main_v1 : IVec S3x640 1 := cmpi .slt main_arg5 main_v0
  main_v1
-- ==== Pre_ids_named_and_scaled.lean ====
abbrev S3x640x10240 : Shape := ⟨3, ![3, 640, 10240]⟩
abbrev S3x640 : Shape := ⟨2, ![3, 640]⟩
abbrev S10240x384 : Shape := ⟨2, ![10240, 384]⟩
abbrev S384 : Shape := ⟨1, ![384]⟩
abbrev S2x384x192 : Shape := ⟨3, ![2, 384, 192]⟩
abbrev S192 : Shape := ⟨1, ![192]⟩
abbrev S_ : Shape := ⟨0, ![]⟩

class Facts : Prop where
  bcast_S_S3x640 : S_.BroadcastsInDim S3x640 (![] : Fin 0 → Fin S3x640.rank)
  bcast_S_S192 : S_.BroadcastsInDim S192 (![] : Fin 0 → Fin S192.rank)

variable [Facts]

def fn {F : FTy → Type} [FloatOps F] (main_arg0 : IVec S3x640x10240 8) (main_arg1 : FVec F S3x640 .f32) (main_arg2 : FVec F S10240x384 .fp8e4m3) (main_arg3 : FVec F S384 .f32) (main_arg4 : FVec F S384 .f32) (main_arg5 : IVec S3x640 32) (main_arg6 : FVec F S2x384x192 .fp8e4m3) (main_arg7 : FVec F S192 .f32) (main_arg8 : FVec F S192 .f32) : IVec S3x640 1 × IVec S192 1 × IVec S192 1 :=
  let main_c : IVec S_ 32 := constantI S_ 32 200#32
  let main_v0 : IVec S3x640 32 := broadcastInDim S3x640 ![] bcast_S_S3x640 main_c
  let main_v1 : IVec S3x640 1 := cmpi .slt main_arg5 main_v0
  let main_cst : FVec F S_ .f32 := constant S_ .f32 0x00000000#32
  let main_v2 : FVec F S192 .f32 := broadcastInDim S192 ![] bcast_S_S192 main_cst
  let main_v3 : IVec S192 1 := cmpf .oge main_arg7 main_v2
  let main_cst_0 : FVec F S_ .f32 := constant S_ .f32 0x7F800000#32
  let main_v4 : FVec F S192 .f32 := broadcastInDim S192 ![] bcast_S_S192 main_cst_0
  let main_v5 : IVec S192 1 := cmpf .olt main_arg7 main_v4
  (main_v1, main_v3, main_v5)
-- ==== Kernel.lean ====
abbrev S3x640x10240 : Shape := ⟨3, ![3, 640, 10240]⟩
abbrev S3x640 : Shape := ⟨2, ![3, 640]⟩
abbrev S10240x384 : Shape := ⟨2, ![10240, 384]⟩
abbrev S384 : Shape := ⟨1, ![384]⟩
abbrev S2x384x192 : Shape := ⟨3, ![2, 384, 192]⟩
abbrev S192 : Shape := ⟨1, ![192]⟩
abbrev S1920x10240 : Shape := ⟨2, ![1920, 10240]⟩
abbrev S1920x1 : Shape := ⟨2, ![1920, 1]⟩
abbrev S1x384 : Shape := ⟨2, ![1, 384]⟩
abbrev S1x192 : Shape := ⟨2, ![1, 192]⟩
abbrev S3x200x192 : Shape := ⟨3, ![3, 200, 192]⟩
abbrev S1920x384 : Shape := ⟨2, ![1920, 384]⟩
abbrev S3x200x384 : Shape := ⟨3, ![3, 200, 384]⟩
abbrev S5x128x128 : Shape := ⟨3, ![5, 128, 128]⟩
abbrev S5x608x128 : Shape := ⟨3, ![5, 608, 128]⟩
abbrev S128x10240 : Shape := ⟨2, ![128, 10240]⟩
abbrev S128x384 : Shape := ⟨2, ![128, 384]⟩
abbrev S128x1 : Shape := ⟨2, ![128, 1]⟩
abbrev S1x384x192 : Shape := ⟨3, ![1, 384, 192]⟩
abbrev S384x192 : Shape := ⟨2, ![384, 192]⟩
abbrev S128x192 : Shape := ⟨2, ![128, 192]⟩
abbrev S128x128 : Shape := ⟨2, ![128, 128]⟩
abbrev S1x128x128 : Shape := ⟨3, ![1, 128, 128]⟩
abbrev S128x64 : Shape := ⟨2, ![128, 64]⟩
abbrev S1x128x64 : Shape := ⟨3, ![1, 128, 64]⟩
abbrev S1x1 : Shape := ⟨2, ![1, 1]⟩
abbrev S1x1x128 : Shape := ⟨3, ![1, 1, 128]⟩
abbrev S1x128 : Shape := ⟨2, ![1, 128]⟩
abbrev S1x200x128 : Shape := ⟨3, ![1, 200, 128]⟩
abbrev S200x128 : Shape := ⟨2, ![200, 128]⟩
abbrev S200x384 : Shape := ⟨2, ![200, 384]⟩
abbrev S1x200x384 : Shape := ⟨3, ![1, 200, 384]⟩
abbrev S200x192 : Shape := ⟨2, ![200, 192]⟩
abbrev S1x200x64 : Shape := ⟨3, ![1, 200, 64]⟩
abbrev S200x64 : Shape := ⟨2, ![200, 64]⟩
abbrev S1x200x192 : Shape := ⟨3, ![1, 200, 192]⟩
abbrev S3x200x1 : Shape := ⟨3, ![3, 200, 1]⟩
abbrev S200x640 : Shape := ⟨2, ![200, 640]⟩
abbrev S1x640 : Shape := ⟨2, ![1, 640]⟩
abbrev S200 : Shape := ⟨1, ![200]⟩
abbrev S200x1 : Shape := ⟨2, ![200, 1]⟩
abbrev S1x200x1 : Shape := ⟨3, ![1, 200, 1]⟩
abbrev S3x200 : Shape := ⟨2, ![3, 200]⟩
abbrev S3x640x384 : Shape := ⟨3, ![3, 640, 384]⟩

abbrev nBuf : Space → Nat
  | .hbm => 21
  | .vmem => 17
  | .smem => 1
  | _ => 0

abbrev bufTy : (tb : Table) → Fin (tcTables nBuf tb) → BufTy
  | .hbm, ⟨0, _⟩ => ⟨S3x640x10240, .i8⟩
  | .hbm, ⟨1, _⟩ => ⟨S3x640, .f32⟩
  | .hbm, ⟨2, _⟩ => ⟨S10240x384, .fp8e4m3⟩
  | .hbm, ⟨3, _⟩ => ⟨S384, .f32⟩
  | .hbm, ⟨4, _⟩ => ⟨S384, .f32⟩
  | .hbm, ⟨5, _⟩ => ⟨S3x640, .i32⟩
  | .hbm, ⟨6, _⟩ => ⟨S2x384x192, .fp8e4m3⟩
  | .hbm, ⟨7, _⟩ => ⟨S192, .f32⟩
  | .hbm, ⟨8, _⟩ => ⟨S192, .f32⟩
  | .hbm, ⟨9, _⟩ => ⟨S1920x10240, .i8⟩
  | .hbm, ⟨10, _⟩ => ⟨S1920x1, .f32⟩
  | .hbm, ⟨11, _⟩ => ⟨S1x384, .f32⟩
  | .hbm, ⟨12, _⟩ => ⟨S1x384, .f32⟩
  | .hbm, ⟨13, _⟩ => ⟨S1x192, .f32⟩
  | .hbm, ⟨14, _⟩ => ⟨S1x192, .f32⟩
  | .hbm, ⟨15, _⟩ => ⟨S3x200x192, .bf16⟩
  | .hbm, ⟨16, _⟩ => ⟨S1920x384, .bf16⟩
  | .hbm, ⟨17, _⟩ => ⟨S3x200x384, .bf16⟩
  | .hbm, ⟨18, _⟩ => ⟨S3x200x1, .i32⟩
  | .hbm, ⟨19, _⟩ => ⟨S3x200, .i32⟩
  | .hbm, ⟨20, _⟩ => ⟨S3x640x384, .bf16⟩
  | .local _ .vmem, ⟨0, _⟩ => ⟨S1920x10240, .i8⟩
  | .local _ .vmem, ⟨1, _⟩ => ⟨S1920x1, .f32⟩
  | .local _ .vmem, ⟨2, _⟩ => ⟨S10240x384, .fp8e4m3⟩
  | .local _ .vmem, ⟨3, _⟩ => ⟨S1x384, .f32⟩
  | .local _ .vmem, ⟨4, _⟩ => ⟨S1x384, .f32⟩
  | .local _ .vmem, ⟨5, _⟩ => ⟨S2x384x192, .fp8e4m3⟩
  | .local _ .vmem, ⟨6, _⟩ => ⟨S1x192, .f32⟩
  | .local _ .vmem, ⟨7, _⟩ => ⟨S1x192, .f32⟩
  | .local _ .vmem, ⟨8, _⟩ => ⟨S3x200x192, .bf16⟩
  | .local _ .vmem, ⟨9, _⟩ => ⟨S1920x384, .bf16⟩
  | .local _ .vmem, ⟨10, _⟩ => ⟨S3x200x384, .bf16⟩
  | .local _ .vmem, ⟨11, _⟩ => ⟨S10240x384, .bf16⟩
  | .local _ .vmem, ⟨12, _⟩ => ⟨S2x384x192, .bf16⟩
  | .local _ .vmem, ⟨13, _⟩ => ⟨S5x128x128, .f32⟩
  | .local _ .vmem, ⟨14, _⟩ => ⟨S5x608x128, .f32⟩
  | .local _ .vmem, ⟨15, _⟩ => ⟨S3x640, .i32⟩
  | .local _ .vmem, ⟨16, _⟩ => ⟨S3x200x1, .i32⟩
  | .local _ .smem, ⟨0, _⟩ => ⟨S3x640, .i32⟩
  | _, _ => ⟨S3x640x10240, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg1_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c15_i32 : BitVec 32 := 15#32
  let v18 : BitVec 32 := Scalar.addi c0_i32 c15_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  v127
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let v129 : Index := Scalar.indexCast v128
  let c0_104 : Index := 0#32
  ![v129.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let v135 : Index := Scalar.indexCast v128
  let c0_108 : Index := 0#32
  ![v135.toNat, 0]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let v151 : Index := Scalar.indexCast v128
  let c0_114 : Index := 0#32
  ![v151.toNat, 0]
@[reducible] def k0_t2_loop : Scf.Loop 32 :=
  let c0_i32_142 : BitVec 32 := 0#32
  let c128_i32_143 : BitVec 32 := 128#32
  let v198 : BitVec 32 := Scalar.addi c0_i32_142 c128_i32_143
  let c1_i32_144 : BitVec 32 := 1#32
  ⟨c0_i32_142, v198, c1_i32_144⟩
def k0_off4 (k0_t1 : Fin k0_t1_loop.trips) (k0_t2 : Fin k0_t2_loop.trips) : Fin 2 → Nat :=
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_147 : BitVec 32 := 0#32
  let v200 : BitVec 1 := Scalar.cmpi .sgt v128 c0_i32_147
  let v201 : BitVec 32 := Scalar.extui v200
  let c0_i32_148 : BitVec 32 := 0#32
  let v202 : BitVec 1 := Scalar.cmpi .slt v128 c0_i32_148
  let v203 : BitVec 32 := Scalar.extui v202
  let v204 : BitVec 32 := Scalar.subi v201 v203
  let c640_i32_146 : BitVec 32 := 640#32
  let c0_i32_149 : BitVec 32 := 0#32
  let v205 : BitVec 1 := Scalar.cmpi .sgt c640_i32_146 c0_i32_149
  let v206 : BitVec 32 := Scalar.extui v205
  let c0_i32_150 : BitVec 32 := 0#32
  let v207 : BitVec 1 := Scalar.cmpi .slt c640_i32_146 c0_i32_150
  let v208 : BitVec 32 := Scalar.extui v207
  let v209 : BitVec 32 := Scalar.subi v206 v208
  let v210 : BitVec 1 := Scalar.cmpi .ne v204 v209
  let v211 : BitVec 32 := Scalar.remsi v128 c640_i32_146
  let c0_i32_151 : BitVec 32 := 0#32
  let v212 : BitVec 1 := Scalar.cmpi .ne v211 c0_i32_151
  let v213 : BitVec 1 := Scalar.andi v210 v212
  let v199 : BitVec 32 := Scalar.divsi v128 c640_i32_146
  let c1_i32_152 : BitVec 32 := 1#32
  let v214 : BitVec 32 := Scalar.subi v199 c1_i32_152
  let v215 : BitVec 32 := Scalar.select v213 v214 v199
  let v227 : Index := Scalar.indexCast v215
  let c640_i32_153 : BitVec 32 := 640#32
  let c0_i32_154 : BitVec 32 := 0#32
  let v216 : BitVec 1 := Scalar.cmpi .eq c640_i32_153 c0_i32_154
  let c1_i32_155 : BitVec 32 := 1#32
  let v217 : BitVec 32 := Scalar.select v216 c1_i32_155 c640_i32_153
  let v218 : BitVec 32 := Scalar.remsi v128 v217
  let c0_i32_157 : BitVec 32 := 0#32
  let v220 : BitVec 1 := Scalar.cmpi .slt v218 c0_i32_157
  let c0_i32_158 : BitVec 32 := 0#32
  let v221 : BitVec 1 := Scalar.cmpi .slt v217 c0_i32_158
  let v222 : BitVec 1 := Scalar.xori v220 v221
  let c0_i32_156 : BitVec 32 := 0#32
  let v219 : BitVec 1 := Scalar.cmpi .ne v218 c0_i32_156
  let v223 : BitVec 1 := Scalar.andi v222 v219
  let v224 : BitVec 32 := Scalar.addi v218 v217
  let v225 : BitVec 32 := Scalar.select v223 v224 v218
  let c0_i32_142 : BitVec 32 := 0#32
  let c1_i32_144 : BitVec 32 := 1#32
  let arg17 : BitVec 32 := Scf.iv c0_i32_142 c1_i32_144 k0_t2
  let v226 : BitVec 32 := Scalar.addi v225 arg17
  let v228 : Index := Scalar.indexCast v226
  ![v227.toNat, v228.toNat]
def k0_off5 (k0_t1 : Fin k0_t1_loop.trips) (v229 : BitVec 32) : Fin 3 → Nat :=
  let c0_160 : Index := 0#32
  let c0_i32_159 : BitVec 32 := 0#32
  let v230 : BitVec 1 := Scalar.cmpi .sge v229 c0_i32_159
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  let v231 : BitVec 32 := Scalar.addi v197 v229
  let c600_i32 : BitVec 32 := 600#32
  let v232 : BitVec 32 := Scalar.select v230 v231 c600_i32
  let v233 : Index := Scalar.indexCast v232
  let c0_161 : Index := 0#32
  ![0, v233.toNat, 0]

def k0_off6 (k0_t2 : Fin k0_t2_loop.trips) : Fin 3 → Nat :=
  let c0_162 : Index := 0#32
  let c0_i32_142 : BitVec 32 := 0#32
  let c1_i32_144 : BitVec 32 := 1#32
  let arg17 : BitVec 32 := Scf.iv c0_i32_142 c1_i32_144 k0_t2
  let v236 : Index := Scalar.indexCast arg17
  let c0_163 : Index := 0#32
  ![0, v236.toNat, 0]
def k0_off7 (k0_t1 : Fin k0_t1_loop.trips) (v229 : BitVec 32) : Fin 3 → Nat :=
  let c1_166 : Index := 1#32
  let c0_i32_159 : BitVec 32 := 0#32
  let v230 : BitVec 1 := Scalar.cmpi .sge v229 c0_i32_159
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  let v231 : BitVec 32 := Scalar.addi v197 v229
  let c600_i32 : BitVec 32 := 600#32
  let v232 : BitVec 32 := Scalar.select v230 v231 c600_i32
  let v244 : Index := Scalar.indexCast v232
  let c0_167 : Index := 0#32
  ![1, v244.toNat, 0]
def k0_off8 (k0_t2 : Fin k0_t2_loop.trips) : Fin 3 → Nat :=
  let c1_168 : Index := 1#32
  let c0_i32_142 : BitVec 32 := 0#32
  let c1_i32_144 : BitVec 32 := 1#32
  let arg17 : BitVec 32 := Scf.iv c0_i32_142 c1_i32_144 k0_t2
  let v247 : Index := Scalar.indexCast arg17
  let c0_169 : Index := 0#32
  ![1, v247.toNat, 0]
def k0_off9 (k0_t1 : Fin k0_t1_loop.trips) (v229 : BitVec 32) : Fin 3 → Nat :=
  let c2_172 : Index := 2#32
  let c0_i32_159 : BitVec 32 := 0#32
  let v230 : BitVec 1 := Scalar.cmpi .sge v229 c0_i32_159
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  let v231 : BitVec 32 := Scalar.addi v197 v229
  let c600_i32 : BitVec 32 := 600#32
  let v232 : BitVec 32 := Scalar.select v230 v231 c600_i32
  let v255 : Index := Scalar.indexCast v232
  let c0_173 : Index := 0#32
  ![2, v255.toNat, 0]
def k0_off10 (k0_t2 : Fin k0_t2_loop.trips) : Fin 3 → Nat :=
  let c2_174 : Index := 2#32
  let c0_i32_142 : BitVec 32 := 0#32
  let c1_i32_144 : BitVec 32 := 1#32
  let arg17 : BitVec 32 := Scf.iv c0_i32_142 c1_i32_144 k0_t2
  let v258 : Index := Scalar.indexCast arg17
  let c0_175 : Index := 0#32
  ![2, v258.toNat, 0]
def k0_off11 (k0_t1 : Fin k0_t1_loop.trips) (v229 : BitVec 32) : Fin 3 → Nat :=
  let c3_178 : Index := 3#32
  let c0_i32_159 : BitVec 32 := 0#32
  let v230 : BitVec 1 := Scalar.cmpi .sge v229 c0_i32_159
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  let v231 : BitVec 32 := Scalar.addi v197 v229
  let c600_i32 : BitVec 32 := 600#32
  let v232 : BitVec 32 := Scalar.select v230 v231 c600_i32
  let v266 : Index := Scalar.indexCast v232
  let c0_179 : Index := 0#32
  ![3, v266.toNat, 0]
def k0_off12 (k0_t2 : Fin k0_t2_loop.trips) : Fin 3 → Nat :=
  let c3_180 : Index := 3#32
  let c0_i32_142 : BitVec 32 := 0#32
  let c1_i32_144 : BitVec 32 := 1#32
  let arg17 : BitVec 32 := Scf.iv c0_i32_142 c1_i32_144 k0_t2
  let v269 : Index := Scalar.indexCast arg17
  let c0_181 : Index := 0#32
  ![3, v269.toNat, 0]
def k0_off13 (k0_t1 : Fin k0_t1_loop.trips) (v229 : BitVec 32) : Fin 3 → Nat :=
  let c4_184 : Index := 4#32
  let c0_i32_159 : BitVec 32 := 0#32
  let v230 : BitVec 1 := Scalar.cmpi .sge v229 c0_i32_159
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  let v231 : BitVec 32 := Scalar.addi v197 v229
  let c600_i32 : BitVec 32 := 600#32
  let v232 : BitVec 32 := Scalar.select v230 v231 c600_i32
  let v277 : Index := Scalar.indexCast v232
  let c0_185 : Index := 0#32
  ![4, v277.toNat, 0]

def k0_chk1 (k0_t1 : Fin k0_t1_loop.trips) (v229 : BitVec 32) : Prop :=
  (∀ a, (k0_off5 k0_t1 v229) a + S1x1x128.size a ≤ S5x608x128.size a) ∧
  (∀ a, (k0_off7 k0_t1 v229) a + S1x1x128.size a ≤ S5x608x128.size a) ∧
  (∀ a, (k0_off9 k0_t1 v229) a + S1x1x128.size a ≤ S5x608x128.size a) ∧
  (∀ a, (k0_off11 k0_t1 v229) a + S1x1x128.size a ≤ S5x608x128.size a) ∧
  (∀ a, (k0_off13 k0_t1 v229) a + S1x1x128.size a ≤ S5x608x128.size a)
theorem k0_off5_inb : ∀ (k0_t1 : Fin k0_t1_loop.trips) (v229 : BitVec 32) (k0_hw1 : k0_chk1 k0_t1 v229), ∀ a, (k0_off5 k0_t1 v229) a + S1x1x128.size a ≤ S5x608x128.size a := fun k0_t1 v229 k0_hw1 => k0_hw1.1
theorem k0_off7_inb : ∀ (k0_t1 : Fin k0_t1_loop.trips) (v229 : BitVec 32) (k0_hw1 : k0_chk1 k0_t1 v229), ∀ a, (k0_off7 k0_t1 v229) a + S1x1x128.size a ≤ S5x608x128.size a := fun k0_t1 v229 k0_hw1 => k0_hw1.2.1
theorem k0_off9_inb : ∀ (k0_t1 : Fin k0_t1_loop.trips) (v229 : BitVec 32) (k0_hw1 : k0_chk1 k0_t1 v229), ∀ a, (k0_off9 k0_t1 v229) a + S1x1x128.size a ≤ S5x608x128.size a := fun k0_t1 v229 k0_hw1 => k0_hw1.2.2.1
theorem k0_off11_inb : ∀ (k0_t1 : Fin k0_t1_loop.trips) (v229 : BitVec 32) (k0_hw1 : k0_chk1 k0_t1 v229), ∀ a, (k0_off11 k0_t1 v229) a + S1x1x128.size a ≤ S5x608x128.size a := fun k0_t1 v229 k0_hw1 => k0_hw1.2.2.2.1
theorem k0_off13_inb : ∀ (k0_t1 : Fin k0_t1_loop.trips) (v229 : BitVec 32) (k0_hw1 : k0_chk1 k0_t1 v229), ∀ a, (k0_off13 k0_t1 v229) a + S1x1x128.size a ≤ S5x608x128.size a := fun k0_t1 v229 k0_hw1 => k0_hw1.2.2.2.2

def k0_off14 (k0_t2 : Fin k0_t2_loop.trips) : Fin 3 → Nat :=
  let c4_186 : Index := 4#32
  let c0_i32_142 : BitVec 32 := 0#32
  let c1_i32_144 : BitVec 32 := 1#32
  let arg17 : BitVec 32 := Scf.iv c0_i32_142 c1_i32_144 k0_t2
  let v280 : Index := Scalar.indexCast arg17
  let c0_187 : Index := 0#32
  ![4, v280.toNat, 0]
abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x10240 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384x192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x200x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x200x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

abbrev stage1_0 : Fin 1 → Memref sig .tc .vmem S3x640 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x200x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S3x640x10240 : Shape := ⟨3, ![3, 640, 10240]⟩
abbrev S3x640 : Shape := ⟨2, ![3, 640]⟩
abbrev S10240x384 : Shape := ⟨2, ![10240, 384]⟩
abbrev S384 : Shape := ⟨1, ![384]⟩
abbrev S2x384x192 : Shape := ⟨3, ![2, 384, 192]⟩
abbrev S192 : Shape := ⟨1, ![192]⟩
abbrev S3x640x384 : Shape := ⟨3, ![3, 640, 384]⟩
abbrev S3x640x1 : Shape := ⟨3, ![3, 640, 1]⟩
abbrev S1x1x384 : Shape := ⟨3, ![1, 1, 384]⟩
abbrev S_ : Shape := ⟨0, ![]⟩
abbrev S3 : Shape := ⟨1, ![3]⟩
abbrev S3x1 : Shape := ⟨2, ![3, 1]⟩
abbrev S1920 : Shape := ⟨1, ![1920]⟩
abbrev S1x1920 : Shape := ⟨2, ![1, 1920]⟩
abbrev S600 : Shape := ⟨1, ![600]⟩
abbrev S600x1 : Shape := ⟨2, ![600, 1]⟩
abbrev S600x1920 : Shape := ⟨2, ![600, 1920]⟩
abbrev S1920x384 : Shape := ⟨2, ![1920, 384]⟩
abbrev S600x1920x1 : Shape := ⟨3, ![600, 1920, 1]⟩
abbrev S1x1920x384 : Shape := ⟨3, ![1, 1920, 384]⟩
abbrev S600x1920x384 : Shape := ⟨3, ![600, 1920, 384]⟩
abbrev S600x384 : Shape := ⟨2, ![600, 384]⟩
abbrev S1920x1 : Shape := ⟨2, ![1920, 1]⟩
abbrev S1x384x192 : Shape := ⟨3, ![1, 384, 192]⟩
abbrev S384x192 : Shape := ⟨2, ![384, 192]⟩
abbrev S1920x192 : Shape := ⟨2, ![1920, 192]⟩
abbrev S1x192 : Shape := ⟨2, ![1, 192]⟩
abbrev S1x1920x192 : Shape := ⟨3, ![1, 1920, 192]⟩
abbrev S600x1920x192 : Shape := ⟨3, ![600, 1920, 192]⟩
abbrev S600x192 : Shape := ⟨2, ![600, 192]⟩
abbrev S3x200x192 : Shape := ⟨3, ![3, 200, 192]⟩
abbrev S3x200 : Shape := ⟨2, ![3, 200]⟩
abbrev S3x200x384 : Shape := ⟨3, ![3, 200, 384]⟩

abbrev nBuf : Space → Nat
  | .hbm => 122
  | .vmem => 6
  | .smem => 0
  | _ => 0

abbrev bufTy : (tb : Table) → Fin (tcTables nBuf tb) → BufTy
  | .hbm, ⟨0, _⟩ => ⟨S3x640x10240, .i8⟩
  | .hbm, ⟨1, _⟩ => ⟨S3x640, .f32⟩
  | .hbm, ⟨2, _⟩ => ⟨S10240x384, .fp8e4m3⟩
  | .hbm, ⟨3, _⟩ => ⟨S384, .f32⟩
  | .hbm, ⟨4, _⟩ => ⟨S384, .f32⟩
  | .hbm, ⟨5, _⟩ => ⟨S3x640, .i32⟩
  | .hbm, ⟨6, _⟩ => ⟨S2x384x192, .fp8e4m3⟩
  | .hbm, ⟨7, _⟩ => ⟨S192, .f32⟩
  | .hbm, ⟨8, _⟩ => ⟨S192, .f32⟩
  | .hbm, ⟨9, _⟩ => ⟨S3x640x10240, .bf16⟩
  | .hbm, ⟨10, _⟩ => ⟨S10240x384, .bf16⟩
  | .hbm, ⟨11, _⟩ => ⟨S2x384x192, .bf16⟩
  | .hbm, ⟨12, _⟩ => ⟨S3x640x384, .f32⟩
  | .hbm, ⟨13, _⟩ => ⟨S3x640x1, .f32⟩
  | .hbm, ⟨14, _⟩ => ⟨S3x640x384, .f32⟩
  | .hbm, ⟨15, _⟩ => ⟨S3x640x384, .f32⟩
  | .hbm, ⟨16, _⟩ => ⟨S1x1x384, .f32⟩
  | .hbm, ⟨17, _⟩ => ⟨S3x640x384, .f32⟩
  | .hbm, ⟨18, _⟩ => ⟨S3x640x384, .f32⟩
  | .hbm, ⟨19, _⟩ => ⟨S1x1x384, .f32⟩
  | .hbm, ⟨20, _⟩ => ⟨S3x640x384, .f32⟩
  | .hbm, ⟨21, _⟩ => ⟨S3x640x384, .f32⟩
  | .hbm, ⟨22, _⟩ => ⟨S_, .f32⟩
  | .hbm, ⟨23, _⟩ => ⟨S3x640x384, .f32⟩
  | .hbm, ⟨24, _⟩ => ⟨S3x640x384, .f32⟩
  | .hbm, ⟨25, _⟩ => ⟨S3x640x384, .bf16⟩
  | .hbm, ⟨26, _⟩ => ⟨S3, .i32⟩
  | .hbm, ⟨27, _⟩ => ⟨S3x1, .i32⟩
  | .hbm, ⟨28, _⟩ => ⟨S_, .i32⟩
  | .hbm, ⟨29, _⟩ => ⟨S3x1, .i32⟩
  | .hbm, ⟨30, _⟩ => ⟨S3x1, .i32⟩
  | .hbm, ⟨31, _⟩ => ⟨S_, .i32⟩
  | .hbm, ⟨32, _⟩ => ⟨S3x640, .i32⟩
  | .hbm, ⟨33, _⟩ => ⟨S3x640, .i1⟩
  | .hbm, ⟨34, _⟩ => ⟨S3x640, .i32⟩
  | .hbm, ⟨35, _⟩ => ⟨S3x640, .i32⟩
  | .hbm, ⟨36, _⟩ => ⟨S_, .i32⟩
  | .hbm, ⟨37, _⟩ => ⟨S_, .i32⟩
  | .hbm, ⟨38, _⟩ => ⟨S3x640, .i32⟩
  | .hbm, ⟨39, _⟩ => ⟨S3x640, .i32⟩
  | .hbm, ⟨40, _⟩ => ⟨S1920, .i32⟩
  | .hbm, ⟨41, _⟩ => ⟨S1x1920, .i32⟩
  | .hbm, ⟨42, _⟩ => ⟨S600, .i32⟩
  | .hbm, ⟨43, _⟩ => ⟨S600x1, .i32⟩
  | .hbm, ⟨44, _⟩ => ⟨S600x1920, .i32⟩
  | .hbm, ⟨45, _⟩ => ⟨S600x1920, .i32⟩
  | .hbm, ⟨46, _⟩ => ⟨S600x1920, .i1⟩
  | .hbm, ⟨47, _⟩ => ⟨S600x1920, .i32⟩
  | .hbm, ⟨48, _⟩ => ⟨S_, .i32⟩
  | .hbm, ⟨49, _⟩ => ⟨S600, .i32⟩
  | .hbm, ⟨50, _⟩ => ⟨S600x1, .i32⟩
  | .hbm, ⟨51, _⟩ => ⟨S_, .i32⟩
  | .hbm, ⟨52, _⟩ => ⟨S600x1, .i32⟩
  | .hbm, ⟨53, _⟩ => ⟨S600x1, .i1⟩
  | .hbm, ⟨54, _⟩ => ⟨S1920x384, .f32⟩
  | .hbm, ⟨55, _⟩ => ⟨S600x1920x1, .i1⟩
  | .hbm, ⟨56, _⟩ => ⟨S1x1920x384, .f32⟩
  | .hbm, ⟨57, _⟩ => ⟨S_, .f32⟩
  | .hbm, ⟨58, _⟩ => ⟨S_, .f32⟩
  | .hbm, ⟨59, _⟩ => ⟨S600x1920x384, .i1⟩
  | .hbm, ⟨60, _⟩ => ⟨S600x1920x384, .f32⟩
  | .hbm, ⟨61, _⟩ => ⟨S600x1920x384, .f32⟩
  | .hbm, ⟨62, _⟩ => ⟨S600x1920x384, .f32⟩
  | .hbm, ⟨63, _⟩ => ⟨S_, .f32⟩
  | .hbm, ⟨64, _⟩ => ⟨S600x384, .f32⟩
  | .hbm, ⟨65, _⟩ => ⟨S_, .f32⟩
  | .hbm, ⟨66, _⟩ => ⟨S_, .f32⟩
  | .hbm, ⟨67, _⟩ => ⟨S600x384, .i1⟩
  | .hbm, ⟨68, _⟩ => ⟨S600x384, .f32⟩
  | .hbm, ⟨69, _⟩ => ⟨S600x384, .f32⟩
  | .hbm, ⟨70, _⟩ => ⟨S600x384, .bf16⟩
  | .hbm, ⟨71, _⟩ => ⟨S_, .i32⟩
  | .hbm, ⟨72, _⟩ => ⟨S3x640, .i32⟩
  | .hbm, ⟨73, _⟩ => ⟨S3x640, .i32⟩
  | .hbm, ⟨74, _⟩ => ⟨S3x640, .i32⟩
  | .hbm, ⟨75, _⟩ => ⟨S3x640, .i32⟩
  | .hbm, ⟨76, _⟩ => ⟨S1920, .i32⟩
  | .hbm, ⟨77, _⟩ => ⟨S_, .i32⟩
  | .hbm, ⟨78, _⟩ => ⟨S1920, .i32⟩
  | .hbm, ⟨79, _⟩ => ⟨S1920, .i1⟩
  | .hbm, ⟨80, _⟩ => ⟨S_, .i32⟩
  | .hbm, ⟨81, _⟩ => ⟨S1920, .i32⟩
  | .hbm, ⟨82, _⟩ => ⟨S1920, .i32⟩
  | .hbm, ⟨83, _⟩ => ⟨S1920, .i32⟩
  | .hbm, ⟨84, _⟩ => ⟨S1920x1, .i32⟩
  | .hbm, ⟨85, _⟩ => ⟨S1920x384, .bf16⟩
  | .hbm, ⟨86, _⟩ => ⟨S1920x384, .bf16⟩
  | .hbm, ⟨87, _⟩ => ⟨S1x384x192, .bf16⟩
  | .hbm, ⟨88, _⟩ => ⟨S384x192, .bf16⟩
  | .hbm, ⟨89, _⟩ => ⟨S1920x192, .f32⟩
  | .hbm, ⟨90, _⟩ => ⟨S1x384x192, .bf16⟩
  | .hbm, ⟨91, _⟩ => ⟨S384x192, .bf16⟩
  | .hbm, ⟨92, _⟩ => ⟨S1920x192, .f32⟩
  | .hbm, ⟨93, _⟩ => ⟨S1920x192, .f32⟩
  | .hbm, ⟨94, _⟩ => ⟨S1x192, .f32⟩
  | .hbm, ⟨95, _⟩ => ⟨S1920x192, .f32⟩
  | .hbm, ⟨96, _⟩ => ⟨S1920x192, .f32⟩
  | .hbm, ⟨97, _⟩ => ⟨S1x192, .f32⟩
  | .hbm, ⟨98, _⟩ => ⟨S1920x192, .f32⟩
  | .hbm, ⟨99, _⟩ => ⟨S1920x192, .f32⟩
  | .hbm, ⟨100, _⟩ => ⟨S_, .f32⟩
  | .hbm, ⟨101, _⟩ => ⟨S1920x192, .f32⟩
  | .hbm, ⟨102, _⟩ => ⟨S1920x192, .f32⟩
  | .hbm, ⟨103, _⟩ => ⟨S600x1920x1, .i1⟩
  | .hbm, ⟨104, _⟩ => ⟨S1x1920x192, .f32⟩
  | .hbm, ⟨105, _⟩ => ⟨S_, .f32⟩
  | .hbm, ⟨106, _⟩ => ⟨S_, .f32⟩
  | .hbm, ⟨107, _⟩ => ⟨S600x1920x192, .i1⟩
  | .hbm, ⟨108, _⟩ => ⟨S600x1920x192, .f32⟩
  | .hbm, ⟨109, _⟩ => ⟨S600x1920x192, .f32⟩
  | .hbm, ⟨110, _⟩ => ⟨S600x1920x192, .f32⟩
  | .hbm, ⟨111, _⟩ => ⟨S_, .f32⟩
  | .hbm, ⟨112, _⟩ => ⟨S600x192, .f32⟩
  | .hbm, ⟨113, _⟩ => ⟨S_, .f32⟩
  | .hbm, ⟨114, _⟩ => ⟨S_, .f32⟩
  | .hbm, ⟨115, _⟩ => ⟨S600x192, .i1⟩
  | .hbm, ⟨116, _⟩ => ⟨S600x192, .f32⟩
  | .hbm, ⟨117, _⟩ => ⟨S600x192, .f32⟩
  | .hbm, ⟨118, _⟩ => ⟨S600x192, .bf16⟩
  | .hbm, ⟨119, _⟩ => ⟨S3x200x192, .bf16⟩
  | .hbm, ⟨120, _⟩ => ⟨S3x200, .i32⟩
  | .hbm, ⟨121, _⟩ => ⟨S3x200x384, .bf16⟩
  | .local _ .vmem, ⟨0, _⟩ => ⟨S3x640x10240, .i8⟩
  | .local _ .vmem, ⟨1, _⟩ => ⟨S10240x384, .fp8e4m3⟩
  | .local _ .vmem, ⟨2, _⟩ => ⟨S2x384x192, .fp8e4m3⟩
  | .local _ .vmem, ⟨3, _⟩ => ⟨S3x640x10240, .bf16⟩
  | .local _ .vmem, ⟨4, _⟩ => ⟨S10240x384, .bf16⟩
  | .local _ .vmem, ⟨5, _⟩ => ⟨S2x384x192, .bf16⟩
  | _, _ => ⟨S3x640x10240, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_cst_5 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_7 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call4_cst : Ref sig .tc := ⟨.hbm, 100, rfl⟩
abbrev main_call4_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_v70 : Ref sig .tc := ⟨.hbm, 110, rfl⟩
abbrev main_cst_10 : Ref sig .tc := ⟨.hbm, 111, rfl⟩
abbrev main_v71 : Ref sig .tc := ⟨.hbm, 112, rfl⟩
abbrev main_cst_11 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x10240 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Rows.lean ====
module

public import proofs.«01_k».proof.Proof.Gen.Kernel.Loops
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first row of a block's scene, as the kernel computes it: the scene's number times 200. -/
def sceneRow (k0_t1 : Fin k0_t1_loop.trips) : BitVec 32 :=
  let c0_i32_159 : BitVec 32 := 0#32
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  v197

/-- The first table row of block `k1`'s scene, as a word: 200 rows a scene, five blocks a scene. -/
theorem sceneRow_eq : ∀ k1 : Fin k0_t1_loop.trips, sceneRow k1 = BitVec.ofNat 32 (200 * (k1.val / 5)) := by decide +kernel

/-- The row of the table that a point of block `k1` with voxel id `v` belongs to. -/
def rowAt (k1 : ℕ) (v : BitVec 32) : ℕ := if 0 ≤ v.toInt then 200 * (k1 / 5) + v.toNat else 600

/-- The outer loop runs over 15 blocks. -/
theorem trips1 : k0_t1_loop.trips = 15 := by decide +kernel
/-- The inner loop runs over 128 points. -/
theorem trips2 : k0_t2_loop.trips = 128 := by decide +kernel

/-- The row word the kernel computes for an id below 200 holds the point's row. -/
theorem row_word (k1 : Fin k0_t1_loop.trips) (v : BitVec 32) (hv : v.toInt < 200) :
    (Scalar.select (Scalar.cmpi .sge v 0#32) (Scalar.addi (sceneRow k1) v) 600#32).toNat = rowAt k1.val v := by
  have hk : k1.val < 15 := trips1 ▸ k1.isLt
  rw [sceneRow_eq]
  unfold rowAt
  by_cases h : 0 ≤ v.toInt
  · rw [if_pos h]
    have e : Scalar.cmpi .sge v 0#32 = 1#1 := by
      simp [Scalar.cmpi, IntOp.cmpi, BitVec.sle, h]
    rw [e]
    have hv' : v.toNat < 200 := by
      have := v.isLt
      rw [BitVec.toInt_eq_toNat_cond] at h hv
      split at h <;> split at hv <;> omega
    simp [Scalar.select, Scalar.addi, IntOp.addi, BitVec.toNat_add]
    omega
  · rw [if_neg h]
    have e : Scalar.cmpi .sge v 0#32 = 0#1 := by
      simp [Scalar.cmpi, IntOp.cmpi, BitVec.sle, h]
    rw [e]
    rfl

/-- The row of a point whose id is below 200 lies within the table. -/
theorem rowAt_lt (k1 : Fin k0_t1_loop.trips) (v : BitVec 32) (hv : v.toInt < 200) : rowAt k1.val v < 608 := by
  have hk : k1.val < 15 := trips1 ▸ k1.isLt
  unfold rowAt
  split
  · rename_i h
    have := v.isLt
    rw [BitVec.toInt_eq_toNat_cond] at h hv
    split at h <;> split at hv <;> omega
  · omega

/-- Where the first slab's update stands: at the point's row. -/
theorem off5_eq (k1 : Fin k0_t1_loop.trips) (v : BitVec 32) (hv : v.toInt < 200) : k0_off5 k1 v = ![0, rowAt k1.val v, 0] := by rw [← row_word k1 v hv]; rfl
/-- Where the second slab's update stands. -/
theorem off7_eq (k1 : Fin k0_t1_loop.trips) (v : BitVec 32) (hv : v.toInt < 200) : k0_off7 k1 v = ![1, rowAt k1.val v, 0] := by rw [← row_word k1 v hv]; rfl
/-- Where the third slab's update stands. -/
theorem off9_eq (k1 : Fin k0_t1_loop.trips) (v : BitVec 32) (hv : v.toInt < 200) : k0_off9 k1 v = ![2, rowAt k1.val v, 0] := by rw [← row_word k1 v hv]; rfl
/-- Where the fourth slab's update stands. -/
theorem off11_eq (k1 : Fin k0_t1_loop.trips) (v : BitVec 32) (hv : v.toInt < 200) : k0_off11 k1 v = ![3, rowAt k1.val v, 0] := by rw [← row_word k1 v hv]; rfl
/-- Where the last slab's update stands. -/
theorem off13_eq (k1 : Fin k0_t1_loop.trips) (v : BitVec 32) (hv : v.toInt < 200) : k0_off13 k1 v = ![4, rowAt k1.val v, 0] := by rw [← row_word k1 v hv]; rfl

/-- The word read for point `k2` of block `k1` is the id of point `128 k1 + k2`. -/
theorem off4_eq : ∀ (k1 : Fin k0_t1_loop.trips) (k2 : Fin k0_t2_loop.trips), k0_off4 k1 k2 = ![(128 * k1.val + k2.val) / 640, (128 * k1.val + k2.val) % 640] := by decide +kernel

/-- Where the second slab's features of point `k2` stand in the scratch. -/
theorem off8_eq : ∀ k2 : Fin k0_t2_loop.trips, k0_off8 k2 = ![1, k2.val, 0] := by decide +kernel

/-- A row within the table is in bounds in every slab: what the body assumes of each id. -/
theorem chk_of (k1 : Fin k0_t1_loop.trips) (v : BitVec 32) (hv : v.toInt < 200) : k0_chk1 k1 v := by
  have h := rowAt_lt k1 v hv
  unfold k0_chk1
  rw [off5_eq k1 v hv, off7_eq k1 v hv, off9_eq k1 v hv, off11_eq k1 v hv, off13_eq k1 v hv]
  refine ⟨?_, ?_, ?_, ?_, ?_⟩ <;> (intro a; fin_cases a <;> simp <;> omega)

end Cert.Kernel.Hand
end
-- ==== Proof.Kernel.Trip.lean ====
module

public import proofs.«01_k».proof.Proof.Kernel.Rows
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a buffer behind a whole memref holds. -/
abbrev Bf (c : Dev nD) {sp : Space} {S : Shape} {e : EltTy} (M : Memref sig .tc sp S e) : Type := Buf (Elt F) (M.view.loc (c : Thread nD τ))

/-- The memref's buffer held whole at contents `f`. -/
abbrev pt (c : Dev nD) {sp : Space} {S : Shape} {e : EltTy} (M : Memref sig .tc sp S e) (f : Bf (F := F) c M) : sProp 𝕄G :=
  M.view.loc (c : Thread nD τ) ↦{fullShare} f

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- Where the id of point `n` stands: its scene and its place in the scene. -/
def pointIdx (n : ℕ) : S3x640.Idx := fun a => match a with
  | 0 => ⟨n / 640 % 3, Nat.mod_lt _ (by decide)⟩
  | 1 => ⟨n % 640, Nat.mod_lt _ (by decide)⟩

/-- The id a trip reads is the id of its point. -/
theorem word_eq {κ : Kind} {sp : Space} (v : View sig κ sp S3x640 .i32) (f : v.ty.Contents (Elt F)) (k1 : Fin k0_t1_loop.trips) (k2 : Fin k0_t2_loop.trips)
    (x : (Rect.unit (s := S3x640) (k0_off4 k1 k2) S1x1.size (k0_off4_inb k1 k2)).toLoadRect.shape.Idx) :
    v.readAt (Elt F) (Rect.unit (s := S3x640) (k0_off4 k1 k2) S1x1.size (k0_off4_inb k1 k2)).toLoadRect f x = v.read (Elt F) f (pointIdx (128 * k1.val + k2.val)) := by
  have hk1 : k1.val < 15 := trips1 ▸ k1.isLt
  have hk2 : k2.val < 128 := trips2 ▸ k2.isLt
  have h0 : (x 0).val < 1 := (x 0).isLt
  have h1 : (x 1).val < 1 := (x 1).isLt
  show v.read (Elt F) f _ = _
  congr 1
  funext a
  apply Fin.ext
  fin_cases a
  · show k0_off4 k1 k2 0 + 1 * (x 0).val = (128 * k1.val + k2.val) / 640 % 3
    have e : k0_off4 k1 k2 0 = (128 * k1.val + k2.val) / 640 := congrFun (off4_eq k1 k2) 0
    rw [Nat.one_mul]
    omega
  · show k0_off4 k1 k2 1 + 1 * (x 1).val = (128 * k1.val + k2.val) % 640
    have e : k0_off4 k1 k2 1 = (128 * k1.val + k2.val) % 640 := congrFun (off4_eq k1 k2) 1
    rw [Nat.one_mul]
    omega

/-- One point's update: its row of every slab becomes the maximum of what stands there and the point's features. -/
def bump (T : S5x608x128.Idx → F .f32) (G : S5x128x128.Idx → F .f32) (r : ℕ) (p : Fin 128) : S5x608x128.Idx → F .f32 :=
  fun i => if (i 1).val = r then FloatOps.maximumf (T i) (G (fun a => match a with | 0 => i 0 | 1 => p | 2 => i 2)) else T i

/-- The same update in one slab alone. -/
def slabBump (j r : ℕ) (p : Fin 128) (T : S5x608x128.Idx → F .f32) (G : S5x128x128.Idx → F .f32) : S5x608x128.Idx → F .f32 :=
  fun i => if (i 0).val = j ∧ (i 1).val = r then FloatOps.maximumf (T i) (G (fun a => match a with | 0 => i 0 | 1 => p | 2 => i 2)) else T i

/-- Updating the five slabs one after another updates all of them. -/
theorem slabs_bump (T : S5x608x128.Idx → F .f32) (G : S5x128x128.Idx → F .f32) (r : ℕ) (p : Fin 128) :
    slabBump 4 r p (slabBump 3 r p (slabBump 2 r p (slabBump 1 r p (slabBump 0 r p T G) G) G) G) G = bump T G r p := by
  funext i
  have h5 : (i 0).val < 5 := (i 0).isLt
  unfold slabBump bump
  by_cases hr : (i 1).val = r
  · simp only [hr, and_true, if_true]
    have hc : (i 0).val = 0 ∨ (i 0).val = 1 ∨ (i 0).val = 2 ∨ (i 0).val = 3 ∨ (i 0).val = 4 := by omega
    rcases hc with h | h | h | h | h <;> simp [h]
  · simp only [hr, and_false, if_false]

/-- The first slab's stored row is the larger of the two rows read, lane by lane. -/
theorem pay3_eq (A B : Vec F S1x1x128 .f32) : k0_pay3 (k0_pay2 A) B = maximumf A B := by
  show maximumf (shapeCast S1x1x128 (shapeCast S1x128 A _) _) (shapeCast S1x1x128 (shapeCast S1x128 B _) _) = _
  rw [Idealize.ShloMosaic.shapeCast_shapeCast, Idealize.ShloMosaic.shapeCast_shapeCast]

/-- The second slab's stored row likewise. -/
theorem pay4_eq (A B : Vec F S1x1x128 .f32) : k0_pay4 A B = maximumf A B := pay3_eq A B
/-- The third slab's stored row likewise. -/
theorem pay5_eq (A B : Vec F S1x1x128 .f32) : k0_pay5 A B = maximumf A B := pay3_eq A B
/-- The last slab's stored row likewise. -/
theorem pay20_eq (A B : Vec F S1x1x128 .f32) : k0_pay20 A B = maximumf A B := pay3_eq A B

/-- A slab's store leaves that slab's row at the maximum of the row and the point's features. -/
theorem slab_store {κ : Kind} {sp sp' : Space} (v15 : View sig κ sp S5x608x128 .f32) (v14 : View sig κ sp' S5x128x128 .f32) (f15 : v15.ty.Contents (Elt F)) (f14 : v14.ty.Contents (Elt F))
    (L : List (View.Piece (Elt F) S5x608x128 .f32)) (off off14 : Fin 3 → ℕ) (inb : ∀ a, off a + S1x1x128.size a ≤ S5x608x128.size a) (inb14 : ∀ a, off14 a + S1x1x128.size a ≤ S5x128x128.size a)
    (j r : ℕ) (p : Fin 128) (h : off = ![j, r, 0]) (h14 : off14 = ![j, p.val, 0]) (P : FVec F S1x1x128 .f32)
    (hP : P = maximumf (F := F) (s := S1x1x128) (v15.readAt (Elt F) (Rect.unit (s := S5x608x128) off S1x1x128.size inb).toLoadRect (v15.writes (Elt F) f15 L))
          (v14.readAt (Elt F) (Rect.unit (s := S5x128x128) off14 S1x1x128.size inb14).toLoadRect f14)) :
    v15.read (Elt F) (v15.writes (Elt F) f15 (⟨Rect.unit (s := S5x608x128) off S1x1x128.size inb, P⟩ :: L))
      = slabBump j r p (v15.read (Elt F) (v15.writes (Elt F) f15 L)) (v14.read (Elt F) f14) := by
  subst h h14 hP
  funext i
  rw [View.read_writes_cons_unit v15 f15 inb _ L i rfl]
  unfold slabBump
  have hi2 : (i 2).val < 128 := (i 2).isLt
  have hiff : (∀ a : Fin 3, (![j, r, 0] : Fin 3 → ℕ) a ≤ (i a).val ∧ (i a).val < (![j, r, 0] : Fin 3 → ℕ) a + S1x1x128.size a) ↔ ((i 0).val = j ∧ (i 1).val = r) := by
    constructor
    · intro h
      have h0 := h 0
      have h1 := h 1
      simp at h0 h1
      omega
    · rintro ⟨h0, h1⟩ a
      fin_cases a <;> simp <;> omega
  by_cases hc : (i 0).val = j ∧ (i 1).val = r
  · rw [dif_pos (hiff.mpr hc), if_pos hc]
    show FloatOps.maximumf (v15.read (Elt F) (v15.writes (Elt F) f15 L) _) (v14.read (Elt F) f14 _) = _
    congr 1
    · congr 1
      funext a
      apply Fin.ext
      fin_cases a
      · show j + 1 * ((i 0).val - j) = (i 0).val
        omega
      · show r + 1 * ((i 1).val - r) = (i 1).val
        omega
      · show 0 + 1 * ((i 2).val - 0) = (i 2).val
        omega
    · congr 1
      funext a
      apply Fin.ext
      fin_cases a
      · show j + 1 * ((i 0).val - j) = (i 0).val
        omega
      · show p.val + 1 * ((i 1).val - r) = p.val
        omega
      · show 0 + 1 * ((i 2).val - 0) = (i 2).val
        omega
  · rw [dif_neg (fun h => hc (hiff.mp h)), if_neg hc]

set_option maxHeartbeats 4000000 in
/-- One trip of the inner loop: it reads its point's id and updates the table at the point's row, and leaves all else as it was. -/
theorem trip2 (𝒱 : Variants) (c : Dev nD) (bd : Option 𝒱.V) (E : Set ℕ) (k1 : Fin k0_t1_loop.trips) (v128 v197 w : BitVec 32) (k2 : Fin k0_t2_loop.trips)
    (f0 : Bf (F := F) c arg0) (f14 : Bf (F := F) c arg14) (f15 : Bf (F := F) c arg15) (hids : ∀ i, (show BitVec 32 from arg0.view.read (Elt F) f0 i).toInt < 200) :
    iprop(pt c arg0 f0 ∗ pt c arg14 f14 ∗ pt c arg15 f15)
      ⊢ wp Idealize.ShloMosaic.frame (wpE defs₀ 𝒱 (c : Thread nD τ) bd) E
        (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k1 v128 v197 w k2 ())
        (fun _ => iprop(pt c arg0 f0 ∗ pt c arg14 f14 ∗ ∃ f, pt c arg15 f ∗ ⌜arg15.view.read (Elt F) f = bump (arg15.view.read (Elt F) f15) (arg14.view.read (Elt F) f14)
          (rowAt k1.val (arg0.view.read (Elt F) f0 (pointIdx (128 * k1.val + k2.val)))) ⟨k2.val, trips2 ▸ k2.isLt⟩⌝)) := by
  unfold k0_t2_body
  have hw : k0_chk1 k1 (arg0.view.readAt (Elt F) (Rect.unit (s := S3x640) (k0_off4 k1 k2) S1x1.size (k0_off4_inb k1 k2)).toLoadRect f0 (Shape.Idx.first (numel1_S1x1.symm ▸ Nat.one_pos))) :=
    chk_of _ _ (hids _)
  iintro ⟨H0, H14, H15⟩
  sl_exec
  sl_step
  isplitl [H0]; · iexact H0
  isplitl [H14]; · iexact H14
  iexists _
  isplitl [H15]; · iexact H15
  ipureintro
  have hwd := word_eq arg0.view f0 k1 k2 (Shape.Idx.first (numel1_S1x1.symm ▸ Nat.one_pos))
  rw [← slabs_bump]
  refine (slab_store arg15.view arg14.view f15 f14 _ _ _ _ (k0_off14_inb k2) 4 _ ⟨k2.val, trips2 ▸ k2.isLt⟩ ((off13_eq k1 _ (hids _)).trans (congrArg (fun u : BitVec 32 => ![4, rowAt k1.val u, 0]) hwd)) (k0_off14_eq _) _ (pay20_eq _ _)).trans ?_
  refine congrArg (fun T => slabBump 4 _ _ T _) ?_
  unfold trip2.sl.H15_4
  refine (slab_store arg15.view arg14.view f15 f14 _ _ _ _ (k0_off12_inb k2) 3 _ ⟨k2.val, trips2 ▸ k2.isLt⟩ ((off11_eq k1 _ (hids _)).trans (congrArg (fun u : BitVec 32 => ![3, rowAt k1.val u, 0]) hwd)) (k0_off12_eq _) _ (pay20_eq _ _)).trans ?_
  refine congrArg (fun T => slabBump 3 _ _ T _) ?_
  unfold trip2.sl.H15_3
  refine (slab_store arg15.view arg14.view f15 f14 _ _ _ _ (k0_off10_inb k2) 2 _ ⟨k2.val, trips2 ▸ k2.isLt⟩ ((off9_eq k1 _ (hids _)).trans (congrArg (fun u : BitVec 32 => ![2, rowAt k1.val u, 0]) hwd)) (k0_off10_eq _) _ (pay5_eq _ _)).trans ?_
  refine congrArg (fun T => slabBump 2 _ _ T _) ?_
  unfold trip2.sl.H15_2
  refine (slab_store arg15.view arg14.view f15 f14 _ _ _ _ (k0_off8_inb k2) 1 _ ⟨k2.val, trips2 ▸ k2.isLt⟩ ((off7_eq k1 _ (hids _)).trans (congrArg (fun u : BitVec 32 => ![1, rowAt k1.val u, 0]) hwd)) (off8_eq _) _ (pay4_eq _ _)).trans ?_
  refine congrArg (fun T => slabBump 1 _ _ T _) ?_
  unfold trip2.sl.H15_1
  refine (slab_store arg15.view arg14.view f15 f14 _ _ _ _ (k0_off6_inb k2) 0 _ ⟨k2.val, trips2 ▸ k2.isLt⟩ ((off5_eq k1 _ (hids _)).trans (congrArg (fun u : BitVec 32 => ![0, rowAt k1.val u, 0]) hwd)) (k0_off6_eq _) _ (pay3_eq _ _)).trans ?_
  refine congrArg (fun T => slabBump 0 _ _ T _) ?_
  rfl

end Cert.Kernel.Hand
end
-- ==== Proof.Kernel.Vals.lean ====
module

public import proofs.«01_k».proof.Proof.Kernel.Trip
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! The contents of the scratch and of the three outputs, written as functions of what the kernel's operands hold. -/

section Values

variable (I : S3x640.Idx → BitVec 32) (X : S1920x10240.Idx → Elt F .i8) (XS : S1920x1.Idx → F .f32) (WB : S10240x384.Idx → F .bf16)
  (WS B : S1x384.Idx → F .f32) (W2 : S2x384x192.Idx → F .bf16) (W2S : S1x192.Idx → F .f32)

/-- The 128 rows of block `b` of the points' inputs. -/
def blkX (b : ℕ) : Vec F S128x10240 .i8 := fun i => X (fun a => match a with
  | 0 => ⟨(128 * b + (i 0).val) % 1920, Nat.mod_lt _ (by decide)⟩
  | 1 => i 1)

/-- The 128 scales of block `b`. -/
def blkXS (b : ℕ) : Vec F S128x1 .f32 := fun i => XS (fun a => match a with
  | 0 => ⟨(128 * b + (i 0).val) % 1920, Nat.mod_lt _ (by decide)⟩
  | 1 => i 1)

/-- The first slab of the second layer's weights: the half that multiplies the point's own features. -/
def w2top : Vec F S1x384x192 .bf16 := fun i => W2 (fun a => match a with
  | 0 => (⟨0, by decide⟩ : Fin 2)
  | 1 => i 1
  | 2 => i 2)

/-- Block `b`'s first-layer features. -/
def hBlk (b : ℕ) : FVec F S128x384 .f32 := k0_pay7 (blkX X b) WB (blkXS XS b) WS B

/-- Block `b`'s first-layer features as stored. -/
def hbBlk (b : ℕ) : FVec F S128x384 .bf16 := k0_pay8 (blkX X b) WB (blkXS XS b) WS B

/-- Block `b`'s products with the first half of the second layer's weights. -/
def aBlk (b : ℕ) : FVec F S128x192 .f32 := k0_pay9 (blkX X b) WB (blkXS XS b) WS B (w2top W2) W2S

/-- What a block's three-slab features and two-slab products look like in the scratch. -/
def gOf (h : FVec F S128x384 .f32) (a : FVec F S128x192 .f32) : S5x128x128.Idx → F .f32 := fun i =>
  if h0 : (i 0).val < 3 then h (fun x => match x with | 0 => i 1 | 1 => ⟨128 * (i 0).val + (i 2).val, by have := (i 2).isLt; change _ < 128 at this; change _ < 384; omega⟩)
  else if h3 : (i 0).val = 3 then a (fun x => match x with | 0 => i 1 | 1 => ⟨(i 2).val, by have := (i 2).isLt; change _ < 128 at this; change _ < 192; omega⟩)
  else if h4 : (i 2).val < 64 then a (fun x => match x with | 0 => i 1 | 1 => ⟨128 + (i 2).val, by change _ < 192; omega⟩)
  else Scalar.ofBits .f32 0x00000000#32

/-- Block `b`'s features and products, as the inner loop reads them. -/
def gBlk (b : ℕ) : S5x128x128.Idx → F .f32 := gOf (hBlk X XS WB WS B b) (aBlk X XS WB WS B W2 W2S b)

/-- The table after the first `n` points. -/
def tabP : ℕ → S5x608x128.Idx → F .f32
  | 0 => k0_pay17
  | n + 1 => bump (tabP n) (gBlk X XS WB WS B W2 W2S (n / 128)) (rowAt (n / 128) (I (pointIdx n))) ⟨n % 128, Nat.mod_lt _ (by decide)⟩

/-- What the points' features output holds: each row its block's row. -/
def pfV : S1920x384.Idx → F .bf16 := fun i => hbBlk X XS WB WS B ((i 0).val / 128) (fun a => match a with
  | 0 => ⟨(i 0).val % 128, Nat.mod_lt _ (by decide)⟩
  | 1 => i 1)

end Values
end Cert.Kernel.Hand
end
-- ==== Proof.Kernel.Blocks.lean ====
module

public import proofs.«01_k».proof.Proof.Kernel.Vals
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A load of block `k1`'s rows of the points' features. -/
theorem load_blkX {κ : Kind} {sp : Space} (v : View sig κ sp S1920x10240 .i8) (f : v.ty.Contents (Elt F)) (k1 : Fin k0_t1_loop.trips) :
    v.readAt (Elt F) (Rect.unit (s := S1920x10240) (k0_off1 k1) S128x10240.size (k0_off1_inb k1)).toLoadRect f = blkX (F := F) (v.read (Elt F) f) k1.val := by
  have hk : k1.val < 15 := trips1 ▸ k1.isLt
  funext x
  have h0 : (x 0).val < 128 := (x 0).isLt
  show v.read (Elt F) f _ = v.read (Elt F) f _
  congr 1
  funext a
  apply Fin.ext
  fin_cases a
  · show k0_off1 k1 0 + 1 * (x 0).val = (128 * k1.val + (x 0).val) % 1920
    have e : k0_off1 k1 0 = 128 * k1.val := congrFun (k0_off1_eq k1) 0
    rw [Nat.one_mul]
    omega
  · show k0_off1 k1 1 + 1 * (x 1).val = (x 1).val
    have e : k0_off1 k1 1 = 0 := congrFun (k0_off1_eq k1) 1
    rw [Nat.one_mul]
    omega

/-- A load of block `k1`'s scales. -/
theorem load_blkXS {κ : Kind} {sp : Space} (v : View sig κ sp S1920x1 .f32) (f : v.ty.Contents (Elt F)) (k1 : Fin k0_t1_loop.trips) :
    v.readAt (Elt F) (Rect.unit (s := S1920x1) (k0_off2 k1) S128x1.size (k0_off2_inb k1)).toLoadRect f = blkXS (F := F) (v.read (Elt F) f) k1.val := by
  have hk : k1.val < 15 := trips1 ▸ k1.isLt
  funext x
  have h0 : (x 0).val < 128 := (x 0).isLt
  show v.read (Elt F) f _ = v.read (Elt F) f _
  congr 1
  funext a
  apply Fin.ext
  fin_cases a
  · show k0_off2 k1 0 + 1 * (x 0).val = (128 * k1.val + (x 0).val) % 1920
    have e : k0_off2 k1 0 = 128 * k1.val := congrFun (k0_off2_eq k1) 0
    rw [Nat.one_mul]
    omega
  · show k0_off2 k1 1 + 1 * (x 1).val = (x 1).val
    have e : k0_off2 k1 1 = 0 := congrFun (k0_off2_eq k1) 1
    rw [Nat.one_mul]
    omega

/-- A load of the first slab of the second layer's weights. -/
theorem load_w2top {κ : Kind} {sp : Space} (v : View sig κ sp S2x384x192 .bf16) (f : v.ty.Contents (Elt F)) :
    v.readAt (Elt F) (Rect.unit (s := S2x384x192) ![0, 0, 0] S1x384x192.size inb_S2x384x192_S1x384x192_0_0_0).toLoadRect f = w2top (F := F) (v.read (Elt F) f) := by
  funext x
  have h0 : (x 0).val < 1 := (x 0).isLt
  show v.read (Elt F) f _ = v.read (Elt F) f _
  congr 1
  funext a
  apply Fin.ext
  fin_cases a
  · show 0 + 1 * (x 0).val = 0
    omega
  · show 0 + 1 * (x 1).val = (x 1).val
    omega
  · show 0 + 1 * (x 2).val = (x 2).val
    omega

/-- The row and lane of a point's features, for a store of a block of rows. -/
theorem read_rows {κ : Kind} {sp : Space} (v : View sig κ sp S1920x384 .bf16) (f : v.ty.Contents (Elt F)) (k1 : Fin k0_t1_loop.trips) (P : FVec F S128x384 .bf16) (V : S1920x384.Idx → F .bf16)
    (hP : ∀ i : S1920x384.Idx, (i 0).val / 128 = k1.val → P (fun a => match a with | 0 => ⟨(i 0).val % 128, Nat.mod_lt _ (by decide)⟩ | 1 => i 1) = V i)
    (h : ∀ i : S1920x384.Idx, (i 0).val < 128 * k1.val → v.read (Elt F) f i = V i) (i : S1920x384.Idx) (hi : (i 0).val < 128 * (k1.val + 1)) :
    v.read (Elt F) (v.writes (Elt F) f [⟨Rect.unit (s := S1920x384) (k0_off3 k1) S128x384.size (k0_off3_inb k1), P⟩]) i = V i := by
  refine (View.read_writes_cons_unit v f (k0_off3_inb k1) P [] i (k0_off3_eq k1)).trans ?_
  have hi1 : (i 1).val < 384 := (i 1).isLt
  by_cases hc : 128 * k1.val ≤ (i 0).val
  · have hm : ∀ a : Fin 2, (![128 * k1.val, 0] : Fin 2 → ℕ) a ≤ (i a).val ∧ (i a).val < (![128 * k1.val, 0] : Fin 2 → ℕ) a + S128x384.size a := by
      intro a
      fin_cases a <;> simp <;> omega
    rw [dif_pos hm, ← hP i (by omega)]
    congr 1
    funext a
    apply Fin.ext
    fin_cases a
    · show (i 0).val - 128 * k1.val = (i 0).val % 128
      omega
    · show (i 1).val - 0 = (i 1).val
      omega
  · have hm : ¬ ∀ a : Fin 2, (![128 * k1.val, 0] : Fin 2 → ℕ) a ≤ (i a).val ∧ (i a).val < (![128 * k1.val, 0] : Fin 2 → ℕ) a + S128x384.size a := by
      intro h
      have := (h 0).1
      simp at this
      omega
    rw [dif_neg hm]
    exact h i (by omega)

/-- An index's row and lane within its slab. -/
def gIdx (i : S5x128x128.Idx) : S1x128x128.Idx := fun a => match a with
  | 0 => (⟨0, by decide⟩ : Fin 1)
  | 1 => i 1
  | 2 => i 2

/-- The same, within the last slab's 64 lanes. -/
def gIdx64 (i : S5x128x128.Idx) (h : (i 2).val < 64) : S1x128x64.Idx := fun a => match a with
  | 0 => (⟨0, by decide⟩ : Fin 1)
  | 1 => i 1
  | 2 => (⟨(i 2).val, h⟩ : Fin 64)

/-- The five stores into the scratch leave in it the block's features and products. -/
theorem read_g {κ : Kind} {sp : Space} (v : View sig κ sp S5x128x128 .f32) (f : v.ty.Contents (Elt F)) (h : FVec F S128x384 .f32) (a : FVec F S128x192 .f32) (P0 : FVec F S1x128x128 .f32)
    (hP0 : P0 = shapeCast S1x128x128 (extractStridedSlice S128x128 ![0, 0] h slices_S128x384_o0_0_S128x128) shapeCasts_S128x128_S1x128x128)
    (hz : ∀ i : S5x128x128.Idx, (i 0).val = 4 → 64 ≤ (i 2).val → v.read (Elt F) f i = Scalar.ofBits .f32 0x00000000#32) :
    v.read (Elt F) (v.writes (Elt F) f
      [⟨Rect.unit (s := S5x128x128) ![4, 0, 0] S1x128x64.size inb_S5x128x128_S1x128x64_4_0_0, k0_pay14 a⟩,
       ⟨Rect.unit (s := S5x128x128) ![3, 0, 0] S1x128x128.size inb_S5x128x128_S1x128x128_3_0_0, k0_pay13 a⟩,
       ⟨Rect.unit (s := S5x128x128) ![2, 0, 0] S1x128x128.size inb_S5x128x128_S1x128x128_2_0_0, k0_pay12 h⟩,
       ⟨Rect.unit (s := S5x128x128) ![1, 0, 0] S1x128x128.size inb_S5x128x128_S1x128x128_1_0_0, k0_pay11 h⟩,
       ⟨Rect.unit (s := S5x128x128) ![0, 0, 0] S1x128x128.size inb_S5x128x128_S1x128x128_0_0_0, P0⟩]) = gOf h a := by
  subst hP0
  funext i
  have h0 : (i 0).val < 5 := (i 0).isLt
  have h1 : (i 1).val < 128 := (i 1).isLt
  have h2 : (i 2).val < 128 := (i 2).isLt
  have hc : (i 0).val = 0 ∨ (i 0).val = 1 ∨ (i 0).val = 2 ∨ (i 0).val = 3 ∨ (i 0).val = 4 := by omega
  rcases hc with hc | hc | hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 0 + (i 2).val = 128 * (i 0).val + (i 2).val
        omega
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay11
      refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 128 + (i 2).val = 128 * (i 0).val + (i 2).val
        omega
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay12
      refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 256 + (i 2).val = 128 * (i 0).val + (i 2).val
        omega
  · refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay13
      refine (shapeCast_addUnit_apply ![128, 128] _ shapeCasts_S128x128_S1x128x128 (gIdx i)).trans ?_
      unfold gOf
      rw [dif_neg (show ¬ (i 0).val < 3 by omega), dif_pos hc]
      show a _ = a _
      congr 1
      funext x
      apply Fin.ext
      fin_cases x
      · show 0 + (i 1).val = (i 1).val
        omega
      · show 0 + (i 2).val = (i 2).val
        omega
  · by_cases h64 : (i 2).val < 64
    · refine (View.read_writes_cons_unit_of_mem v f _ _ _ i (gIdx64 i h64) rfl ?_).trans ?_
      · intro x; fin_cases x <;> simp [gIdx64, hc]
      · unfold k0_pay14
        refine (shapeCast_addUnit_apply ![128, 64] _ shapeCasts_S128x64_S1x128x64 _).trans ?_
        unfold gOf
        rw [dif_neg (show ¬ (i 0).val < 3 by omega), dif_neg (show ¬ (i 0).val = 3 by omega), dif_pos h64]
        show a _ = a _
        congr 1
        funext x
        apply Fin.ext
        fin_cases x
        · show 0 + (i 1).val = (i 1).val
          omega
        · show 128 + (i 2).val = 128 + (i 2).val
          rfl
    · refine (View.read_writes_cons_unit_of_not_mem v f _ _ _ i rfl (2 : Fin 3) (by simp; omega)).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      unfold gOf
      rw [dif_neg (show ¬ (i 0).val < 3 by omega), dif_neg (show ¬ (i 0).val = 3 by omega), dif_neg h64]
      exact hz i hc (by omega)

end Cert.Kernel.Hand
end
-- ==== Proof.Kernel.Outer.lean ====
module

public import proofs.«01_k».proof.Proof.Kernel.Blocks
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- The three buffers the blocks fill, after the first `k` blocks: the rows stored so far, the last slab's unused lanes still zero, the
    table of the points so far. -/
def Filled (c : Dev nD) (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13) (k : ℕ)
    (f10 : Bf (F := F) c arg10) (f14 : Bf (F := F) c arg14) (f15 : Bf (F := F) c arg15) : Prop :=
  (∀ i : S1920x384.Idx, (i 0).val < 128 * k → arg10.view.read (Elt F) f10 i = pfV (arg1.view.read (Elt F) f1) (arg2.view.read (Elt F) f2) (arg12.view.read (Elt F) f12) (arg4.view.read (Elt F) f4) (arg5.view.read (Elt F) f5) i)
  ∧ (∀ i : S5x128x128.Idx, (i 0).val = 4 → 64 ≤ (i 2).val → arg14.view.read (Elt F) f14 i = Scalar.ofBits .f32 0x00000000#32)
  ∧ arg15.view.read (Elt F) f15 = tabP (arg0.view.read (Elt F) f0) (arg1.view.read (Elt F) f1) (arg2.view.read (Elt F) f2) (arg12.view.read (Elt F) f12) (arg4.view.read (Elt F) f4) (arg5.view.read (Elt F) f5) (arg13.view.read (Elt F) f13) (arg7.view.read (Elt F) f7) (128 * k)

/-- What the outer loop holds after its first `k` blocks. -/
def outerInv (c : Dev nD) (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13) (k : ℕ) : sProp 𝕄G :=
  iprop(pt c arg0 f0 ∗ pt c arg1 f1 ∗ pt c arg2 f2 ∗ pt c arg4 f4 ∗ pt c arg5 f5 ∗ pt c arg7 f7 ∗ pt c arg12 f12 ∗ pt c arg13 f13
    ∗ ∃ f10, ∃ f14, ∃ f15, pt c arg10 f10 ∗ pt c arg14 f14 ∗ pt c arg15 f15 ∗ ⌜Filled arg0 arg1 arg2 arg4 arg5 arg7 arg10 arg12 arg13 arg14 arg15 c f0 f1 f2 f4 f5 f7 f12 f13 k f10 f14 f15⌝)

/-- One more point of block `k1`. -/
theorem tabP_point (I : S3x640.Idx → BitVec 32) (X : S1920x10240.Idx → Elt F .i8) (XS : S1920x1.Idx → F .f32) (WB : S10240x384.Idx → F .bf16)
    (WS B : S1x384.Idx → F .f32) (W2 : S2x384x192.Idx → F .bf16) (W2S : S1x192.Idx → F .f32) (k1 k : ℕ) (hk : k < 128) :
    tabP I X XS WB WS B W2 W2S (128 * k1 + (k + 1)) = bump (tabP I X XS WB WS B W2 W2S (128 * k1 + k)) (gBlk X XS WB WS B W2 W2S k1) (rowAt k1 (I (pointIdx (128 * k1 + k)))) ⟨k, hk⟩ := by
  have e1 : (128 * k1 + k) / 128 = k1 := by omega
  have e2 : (128 * k1 + k) % 128 = k := by omega
  rw [show 128 * k1 + (k + 1) = (128 * k1 + k) + 1 from rfl, tabP]
  simp only [e1, e2]

set_option pp.proofs false in
set_option maxHeartbeats 4000000 in
/-- One block: its features are stored, and its points update the table one after another. -/
theorem trip1 (𝒱 : Variants) (c : Dev nD) (bd : Option 𝒱.V) (E : Set ℕ) (k1 : Fin k0_t1_loop.trips)
    (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13)
    (hids : ∀ i, (show BitVec 32 from arg0.view.read (Elt F) f0 i).toInt < 200) :
    outerInv arg0 arg1 arg2 arg4 arg5 arg7 arg10 arg12 arg13 arg14 arg15 c f0 f1 f2 f4 f5 f7 f12 f13 k1.val
      ⊢ wp Idealize.ShloMosaic.frame (wpE defs₀ 𝒱 (c : Thread nD τ) bd) E
        (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k1 ())
        (fun _ => outerInv arg0 arg1 arg2 arg4 arg5 arg7 arg10 arg12 arg13 arg14 arg15 c f0 f1 f2 f4 f5 f7 f12 f13 (k1.val + 1)) := by
  unfold k0_t1_body outerInv
  iintro ⟨H0, H1, H2, H4, H5, H7, H12, H13, %f10, %f14, %f15, H10, H14, H15, %hF⟩
  obtain ⟨h10, h14, h15⟩ := hF
  sl_exec
  sl_for (fun (k : ℕ) (_ : Unit) => iprop(pt c arg0 f0 ∗ (∃ g, pt c arg14 g ∗ ⌜arg14.view.read (Elt F) g = gBlk (arg1.view.read (Elt F) f1) (arg2.view.read (Elt F) f2) (arg12.view.read (Elt F) f12) (arg4.view.read (Elt F) f4) (arg5.view.read (Elt F) f5) (arg13.view.read (Elt F) f13) (arg7.view.read (Elt F) f7) k1.val⌝)
      ∗ ∃ f, pt c arg15 f ∗ ⌜arg15.view.read (Elt F) f = tabP (arg0.view.read (Elt F) f0) (arg1.view.read (Elt F) f1) (arg2.view.read (Elt F) f2) (arg12.view.read (Elt F) f12) (arg4.view.read (Elt F) f4) (arg5.view.read (Elt F) f5) (arg13.view.read (Elt F) f13) (arg7.view.read (Elt F) f7) (128 * k1.val + k)⌝)) $$ [H0 H14 H15]
  · intro k acc
    iintro ⟨H0, ⟨%g, H14, %hg⟩, %f, H15, %hf⟩
    iapply (wp_wand_r Idealize.ShloMosaic.frame (wpE (defs₀ (F := F)) 𝒱 (c : Thread nD τ) bd) E)
    isplitl [H0 H14 H15]
    · iapply (trip2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E k1 _ _ _ k f0 g f hids)
      isplitl [H0]; · iexact H0
      isplitl [H14]; · iexact H14
      iexact H15
    · iintro %_ ⟨H0, H14, %f', H15, %hf'⟩
      isplitl [H0]; · iexact H0
      isplitl [H14]
      · iexists g
        isplitl [H14]; · iexact H14
        ipureintro; exact hg
      iexists f'
      isplitl [H15]; · iexact H15
      ipureintro
      rw [hf', hf, hg]
      exact (tabP_point _ _ _ _ _ _ _ _ k1.val k.val (trips2 ▸ k.isLt)).symm
  · isplitl [H0]; · iexact H0
    isplitl [H14]
    · iexists _
      isplitl [H14]; · iexact H14
      ipureintro
      refine (read_g arg14.view f14 (hBlk (arg1.view.read (Elt F) f1) (arg2.view.read (Elt F) f2) (arg12.view.read (Elt F) f12) (arg4.view.read (Elt F) f4) (arg5.view.read (Elt F) f5) k1.val)
        (aBlk (arg1.view.read (Elt F) f1) (arg2.view.read (Elt F) f2) (arg12.view.read (Elt F) f12) (arg4.view.read (Elt F) f4) (arg5.view.read (Elt F) f5) (arg13.view.read (Elt F) f13) (arg7.view.read (Elt F) f7) k1.val) _ rfl h14 |> fun h => Eq.trans ?_ h)
      unfold hBlk aBlk
      rw [← load_blkX, ← load_blkXS, ← load_w2top, ← View.readAt_full arg12.view f12 inb_S10240x384_S10240x384_0_0, ← View.readAt_full arg4.view f4 inb_S1x384_S1x384_0_0, ← View.readAt_full arg5.view f5 inb_S1x384_S1x384_0_0, ← View.readAt_full arg7.view f7 inb_S1x192_S1x192_0_0]
      rfl
    · iexists _
      isplitl [H15]; · iexact H15
      ipureintro; exact h15
  · iintro %acc ⟨H0, ⟨%g, H14, %hg⟩, %f, H15, %hf⟩
    sl_step
    isplitl [H0]; · iexact H0
    isplitl [H1]; · iexact H1
    isplitl [H2]; · iexact H2
    isplitl [H4]; · iexact H4
    isplitl [H5]; · iexact H5
    isplitl [H7]; · iexact H7
    isplitl [H12]; · iexact H12
    isplitl [H13]; · iexact H13
    iexists _
    iexists g
    iexists f
    isplitl [H10]; · iexact H10
    isplitl [H14]; · iexact H14
    isplitl [H15]; · iexact H15
    ipureintro
    refine ⟨?_, ?_, ?_⟩
    · refine read_rows arg10.view f10 k1 _ _ (fun i hi => ?_) h10
      unfold pfV hbBlk
      rw [load_blkX, load_blkXS, View.readAt_full arg12.view f12 inb_S10240x384_S10240x384_0_0, View.readAt_full arg4.view f4 inb_S1x384_S1x384_0_0, View.readAt_full arg5.view f5 inb_S1x384_S1x384_0_0, hi]
      refine congrArg _ (funext fun a => ?_)
      fin_cases a <;> rfl
    · intro i h4 h64
      rw [hg]
      unfold gBlk gOf
      rw [dif_neg (by omega), dif_neg (by omega), dif_neg (by omega)]
    · exact hf.trans (congrArg _ (congrArg (fun t => 128 * k1.val + t) trips2))

end Cert.Kernel.Hand
end
-- ==== Proof.Kernel.Scenes.lean ====
module

public import proofs.«01_k».proof.Proof.Kernel.Vals
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The 200 rows of scene `s` in slab `j` of a table. -/
def tabWin (T : S5x608x128.Idx → F .f32) (j s : ℕ) : Vec F S1x200x128 .f32 := fun i => T (fun a => match a with
  | 0 => ⟨j % 5, Nat.mod_lt _ (by decide)⟩
  | 1 => ⟨(200 * s + (i 1).val) % 608, Nat.mod_lt _ (by decide)⟩
  | 2 => i 2)

/-- The 200 rows of scene `s` in the first 64 lanes of the last slab of a table. -/
def tabWin64 (T : S5x608x128.Idx → F .f32) (s : ℕ) : Vec F S1x200x64 .f32 := fun i => T (fun a => match a with
  | 0 => (⟨4, by decide⟩ : Fin 5)
  | 1 => ⟨(200 * s + (i 1).val) % 608, Nat.mod_lt _ (by decide)⟩
  | 2 => ⟨(i 2).val, Nat.lt_of_lt_of_le (i 2).isLt (by decide)⟩)

/-- The second slab of the second layer's weights: the half that multiplies the voxel's features. -/
def w2bot (W2 : S2x384x192.Idx → F .bf16) : Vec F S1x384x192 .bf16 := fun i => W2 (fun a => match a with
  | 0 => (⟨1, by decide⟩ : Fin 2)
  | 1 => i 1
  | 2 => i 2)

/-- Scene `s`'s voxel features. -/
def vfS (T : S5x608x128.Idx → F .f32) (s : ℕ) : FVec F S1x200x384 .bf16 := k0_pay32 (tabWin T 0 s) (tabWin T 1 s) (tabWin T 2 s)

/-- Scene `s`'s second-layer voxel features. -/
def vf2S (T : S5x608x128.Idx → F .f32) (W2 : S2x384x192.Idx → F .bf16) (W2S B2 : S1x192.Idx → F .f32) (s : ℕ) : FVec F S1x200x192 .bf16 :=
  k0_pay25 (k0_pay21 (tabWin T 0 s)) (k0_pay22 (tabWin T 1 s)) (tabWin T 2 s) (w2bot W2) W2S (tabWin T 3 s) (tabWin64 T s) B2

/-- The voxel features' output: each scene its own. -/
def vfV (T : S5x608x128.Idx → F .f32) : S3x200x384.Idx → F .bf16 := fun i => vfS T (i 0).val (fun a => match a with
  | 0 => (⟨0, by decide⟩ : Fin 1)
  | 1 => i 1
  | 2 => i 2)

/-- The second-layer voxel features' output: each scene its own. -/
def vf2V (T : S5x608x128.Idx → F .f32) (W2 : S2x384x192.Idx → F .bf16) (W2S B2 : S1x192.Idx → F .f32) : S3x200x192.Idx → F .bf16 :=
  fun i => vf2S T W2 W2S B2 (i 0).val (fun a => match a with
  | 0 => (⟨0, by decide⟩ : Fin 1)
  | 1 => i 1
  | 2 => i 2)

/-- A load of a scene's rows of a slab. -/
theorem load_tab {κ : Kind} {sp : Space} (v : View sig κ sp S5x608x128 .f32) (f : v.ty.Contents (Elt F)) (off : Fin 3 → ℕ) (inb : ∀ a, off a + S1x200x128.size a ≤ S5x608x128.size a)
    (j s : ℕ) (hj : j < 5) (hs : s < 3) (h : off = ![j, 200 * s, 0]) :
    v.readAt (Elt F) (Rect.unit (s := S5x608x128) off S1x200x128.size inb).toLoadRect f = tabWin (v.read (Elt F) f) j s := by
  subst h
  funext x
  have h0 : (x 0).val < 1 := (x 0).isLt
  have h1 : (x 1).val < 200 := (x 1).isLt
  show v.read (Elt F) f _ = v.read (Elt F) f _
  congr 1
  funext a
  apply Fin.ext
  fin_cases a
  · show j + 1 * (x 0).val = j % 5
    omega
  · show 200 * s + 1 * (x 1).val = (200 * s + (x 1).val) % 608
    omega
  · show 0 + 1 * (x 2).val = (x 2).val
    omega

/-- A load of a scene's rows of the last slab's first 64 lanes. -/
theorem load_tab64 {κ : Kind} {sp : Space} (v : View sig κ sp S5x608x128 .f32) (f : v.ty.Contents (Elt F)) (off : Fin 3 → ℕ) (inb : ∀ a, off a + S1x200x64.size a ≤ S5x608x128.size a)
    (s : ℕ) (hs : s < 3) (h : off = ![4, 200 * s, 0]) :
    v.readAt (Elt F) (Rect.unit (s := S5x608x128) off S1x200x64.size inb).toLoadRect f = tabWin64 (v.read (Elt F) f) s := by
  subst h
  funext x
  have h0 : (x 0).val < 1 := (x 0).isLt
  have h1 : (x 1).val < 200 := (x 1).isLt
  show v.read (Elt F) f _ = v.read (Elt F) f _
  congr 1
  funext a
  apply Fin.ext
  fin_cases a
  · show 4 + 1 * (x 0).val = 4
    omega
  · show 200 * s + 1 * (x 1).val = (200 * s + (x 1).val) % 608
    omega
  · show 0 + 1 * (x 2).val = (x 2).val
    omega

/-- A load of the second slab of the second layer's weights. -/
theorem load_w2bot {κ : Kind} {sp : Space} (v : View sig κ sp S2x384x192 .bf16) (f : v.ty.Contents (Elt F)) :
    v.readAt (Elt F) (Rect.unit (s := S2x384x192) ![1, 0, 0] S1x384x192.size inb_S2x384x192_S1x384x192_1_0_0).toLoadRect f = w2bot (F := F) (v.read (Elt F) f) := by
  funext x
  have h0 : (x 0).val < 1 := (x 0).isLt
  show v.read (Elt F) f _ = v.read (Elt F) f _
  congr 1
  funext a
  apply Fin.ext
  fin_cases a
  · show 1 + 1 * (x 0).val = 1
    omega
  · show 0 + 1 * (x 1).val = (x 1).val
    omega
  · show 0 + 1 * (x 2).val = (x 2).val
    omega

/-- Stores of the three scenes leave each scene's own. -/
theorem read_scenes384 {κ : Kind} {sp : Space} (v : View sig κ sp S3x200x384 .bf16) (f : v.ty.Contents (Elt F)) (P : ℕ → FVec F S1x200x384 .bf16) :
    v.read (Elt F) (v.writes (Elt F) f
      [⟨Rect.unit (s := S3x200x384) ![2, 0, 0] S1x200x384.size inb_S3x200x384_S1x200x384_2_0_0, P 2⟩,
       ⟨Rect.unit (s := S3x200x384) ![1, 0, 0] S1x200x384.size inb_S3x200x384_S1x200x384_1_0_0, P 1⟩,
       ⟨Rect.unit (s := S3x200x384) ![0, 0, 0] S1x200x384.size inb_S3x200x384_S1x200x384_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

/-- Stores of the three scenes leave each scene's own. -/
theorem read_scenes192 {κ : Kind} {sp : Space} (v : View sig κ sp S3x200x192 .bf16) (f : v.ty.Contents (Elt F)) (P : ℕ → FVec F S1x200x192 .bf16) :
    v.read (Elt F) (v.writes (Elt F) f
      [⟨Rect.unit (s := S3x200x192) ![2, 0, 0] S1x200x192.size inb_S3x200x192_S1x200x192_2_0_0, P 2⟩,
       ⟨Rect.unit (s := S3x200x192) ![1, 0, 0] S1x200x192.size inb_S3x200x192_S1x200x192_1_0_0, P 1⟩,
       ⟨Rect.unit (s := S3x200x192) ![0, 0, 0] S1x200x192.size inb_S3x200x192_S1x200x192_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

end Cert.Kernel.Hand
end
-- ==== Proof.Kernel.Body.lean ====
module

public import proofs.«01_k».proof.Proof.Kernel.Outer
public import proofs.«01_k».proof.Proof.Kernel.Scenes
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The table after all the points, from the kernel's operands. -/
def tabEnd (I : S3x640.Idx → BitVec 32) (X : S1920x10240.Idx → Elt F .i8) (XS : S1920x1.Idx → F .f32) (W : S10240x384.Idx → Elt F .fp8e4m3)
    (WS B : S1x384.Idx → F .f32) (W2 : S2x384x192.Idx → Elt F .fp8e4m3) (W2S : S1x192.Idx → F .f32) : S5x608x128.Idx → F .f32 :=
  tabP I X XS (k0_pay15 W) WS B (k0_pay16 W2) W2S 1920

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- What the second-layer voxel output, the points' output and the voxel output hold at the end. -/
def Ends (c : Dev nD) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) : Prop :=
  arg9.view.read (Elt F) f9 = vf2V (tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7)) (k0_pay16 (arg6.view.read (Elt F) f6)) (arg7.view.read (Elt F) f7) (arg8.view.read (Elt F) f8)
  ∧ arg10.view.read (Elt F) f10 = pfV (arg1.view.read (Elt F) f1) (arg2.view.read (Elt F) f2) (k0_pay15 (arg3.view.read (Elt F) f3)) (arg4.view.read (Elt F) f4) (arg5.view.read (Elt F) f5)
  ∧ arg11.view.read (Elt F) f11 = vfV (tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7))

set_option pp.proofs false in
set_option maxHeartbeats 8000000 in
/-- The fused kernel: from whatever its outputs and scratch hold, it leaves its operands as they are and its outputs at their values. -/
theorem body0 (𝒱 : Variants) (c : Dev nD) (bd : Option 𝒱.V) (E : Set ℕ) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)
    (hids : ∀ i, (show BitVec 32 from arg0.view.read (Elt F) f0 i).toInt < 200) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15)
      ⊢ wp Idealize.ShloMosaic.frame (wpE defs₀ 𝒱 (c : Thread nD τ) bd) E (cc0_vfe2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ ∃ f9, ∃ f10, ∃ f11, ∃ f12, ∃ f13, ∃ f14, ∃ f15, pt c arg9 f9 ∗ pt c arg10 f10 ∗ pt c arg11 f11 ∗ pt c arg12 f12 ∗ pt c arg13 f13 ∗ pt c arg14 f14 ∗ pt c arg15 f15
          ∗ ⌜Ends arg0 arg1 arg2 arg3 arg4 arg5 arg6 arg7 arg8 arg9 arg10 arg11 c f0 f1 f2 f3 f4 f5 f6 f7 f8 f9 f10 f11⌝)) := by
  rw [cc0_vfe2_eq_skeleton]
  unfold cc0_vfe2_skel
  iintro ⟨H0, H1, H2, H3, H4, H5, H6, H7, H8, H9, H10, H11, H12, H13, H14, H15⟩
  sl_exec
  sl_for (fun (k : ℕ) (_ : Unit) => iprop(∃ g12, ∃ g13, outerInv arg0 arg1 arg2 arg4 arg5 arg7 arg10 arg12 arg13 arg14 arg15 c f0 f1 f2 f4 f5 f7 g12 g13 k
      ∗ ⌜arg12.view.read (Elt F) g12 = k0_pay15 (arg3.view.read (Elt F) f3) ∧ arg13.view.read (Elt F) g13 = k0_pay16 (arg6.view.read (Elt F) f6)⌝)) $$ [H0 H1 H2 H4 H5 H7 H10 H12 H13 H14 H15]
  · intro k acc
    iintro ⟨%g12, %g13, H, %hw⟩
    iapply (wp_wand_r Idealize.ShloMosaic.frame (wpE (defs₀ (F := F)) 𝒱 (c : Thread nD τ) bd) E)
    isplitl [H]
    · iapply (trip1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E k f0 f1 f2 f4 f5 f7 g12 g13 hids)
      iexact H
    · iintro %_ H
      iexists g12
      iexists g13
      isplitl [H]; · iexact H
      ipureintro; exact hw
  · unfold outerInv
    iexists _
    iexists _
    isplitl [H0 H1 H2 H4 H5 H7 H10 H12 H13 H14 H15]
    · isplitl [H0]; · iexact H0
      isplitl [H1]; · iexact H1
      isplitl [H2]; · iexact H2
      isplitl [H4]; · iexact H4
      isplitl [H5]; · iexact H5
      isplitl [H7]; · iexact H7
      isplitl [H12]; · iexact H12
      isplitl [H13]; · iexact H13
      iexists f10
      iexists _
      iexists _
      isplitl [H10]; · iexact H10
      isplitl [H14]; · iexact H14
      isplitl [H15]; · iexact H15
      ipureintro
      refine ⟨fun i hi => absurd hi (by omega), fun i _ _ => ?_, ?_⟩
      · unfold body0.sl.H14_1
        rw [View.read_writes_full]
        rfl
      · unfold body0.sl.H15_1
        rw [View.read_writes_full]
        rfl
    · ipureintro
      unfold body0.sl.H12_1 body0.sl.H13_1
      rw [View.read_writes_full, View.read_writes_full, View.readAt_full, View.readAt_full]
      exact ⟨rfl, rfl⟩
  · unfold outerInv
    iintro %acc ⟨%g12, %g13, ⟨H0, H1, H2, H4, H5, H7, H12, H13, %g10, %g14, %g15, H10, H14, H15, %hF⟩, %hw⟩
    sl_exec
    sl_step
    have hT : arg15.view.read (Elt F) g15 = tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) := by
      obtain ⟨-, -, h⟩ := hF
      rw [h, hw.1, hw.2]
      exact congrArg _ (congrArg (fun t => 128 * t) trips1)
    have e0 : k0_pay25 (body0.sl.r arg15 c g15) (body0.sl.r_1 arg15 c g15) (body0.sl.r_2 arg15 c g15) (arg13.view.readAt (Elt F) (Rect.unit (s := S2x384x192) ![1, 0, 0] S1x384x192.size inb_S2x384x192_S1x384x192_1_0_0).toLoadRect g13) (arg7.view.readAt (Elt F) (Rect.unit (s := S1x192) ![0, 0] S1x192.size inb_S1x192_S1x192_0_0).toLoadRect f7) (arg15.view.readAt (Elt F) (Rect.unit (s := S5x608x128) ![3, 0, 0] S1x200x128.size inb_S5x608x128_S1x200x128_3_0_0).toLoadRect g15) (arg15.view.readAt (Elt F) (Rect.unit (s := S5x608x128) ![4, 0, 0] S1x200x64.size inb_S5x608x128_S1x200x64_4_0_0).toLoadRect g15) (arg8.view.readAt (Elt F) (Rect.unit (s := S1x192) ![0, 0] S1x192.size inb_S1x192_S1x192_0_0).toLoadRect f8) = vf2S (arg15.view.read (Elt F) g15) (arg13.view.read (Elt F) g13) (arg7.view.read (Elt F) f7) (arg8.view.read (Elt F) f8) 0 := by
      unfold vf2S
      rw [← load_tab arg15.view g15 ![0, 0, 0] inb_S5x608x128_S1x200x128_0_0_0 0 0 (by decide) (by decide) rfl, ← load_tab arg15.view g15 ![1, 0, 0] inb_S5x608x128_S1x200x128_1_0_0 1 0 (by decide) (by decide) rfl, ← load_tab arg15.view g15 ![2, 0, 0] inb_S5x608x128_S1x200x128_2_0_0 2 0 (by decide) (by decide) rfl, ← load_tab arg15.view g15 ![3, 0, 0] inb_S5x608x128_S1x200x128_3_0_0 3 0 (by decide) (by decide) rfl, ← load_tab64 arg15.view g15 ![4, 0, 0] inb_S5x608x128_S1x200x64_4_0_0 0 (by decide) rfl, ← load_w2bot, ← View.readAt_full arg7.view f7 inb_S1x192_S1x192_0_0, ← View.readAt_full arg8.view f8 inb_S1x192_S1x192_0_0]
      rfl
    have e1 : k0_pay30 (body0.sl.r_4 arg7 arg8 arg13 arg15 c f7 f8 g13 g15) = vf2S (arg15.view.read (Elt F) g15) (arg13.view.read (Elt F) g13) (arg7.view.read (Elt F) f7) (arg8.view.read (Elt F) f8) 1 := by
      unfold vf2S
      rw [← load_tab arg15.view g15 ![0, 200, 0] inb_S5x608x128_S1x200x128_0_200_0 0 1 (by decide) (by decide) rfl, ← load_tab arg15.view g15 ![1, 200, 0] inb_S5x608x128_S1x200x128_1_200_0 1 1 (by decide) (by decide) rfl, ← load_tab arg15.view g15 ![2, 200, 0] inb_S5x608x128_S1x200x128_2_200_0 2 1 (by decide) (by decide) rfl, ← load_tab arg15.view g15 ![3, 200, 0] inb_S5x608x128_S1x200x128_3_200_0 3 1 (by decide) (by decide) rfl, ← load_tab64 arg15.view g15 ![4, 200, 0] inb_S5x608x128_S1x200x64_4_200_0 1 (by decide) rfl, ← load_w2bot, ← View.readAt_full arg7.view f7 inb_S1x192_S1x192_0_0, ← View.readAt_full arg8.view f8 inb_S1x192_S1x192_0_0]
      rfl
    have e2 : k0_pay1 (body0.sl.r_5 arg7 arg13 arg15 c f7 g13 g15) (body0.sl.r_6 arg8 c f8) = vf2S (arg15.view.read (Elt F) g15) (arg13.view.read (Elt F) g13) (arg7.view.read (Elt F) f7) (arg8.view.read (Elt F) f8) 2 := by
      unfold vf2S
      rw [← load_tab arg15.view g15 ![0, 400, 0] inb_S5x608x128_S1x200x128_0_400_0 0 2 (by decide) (by decide) rfl, ← load_tab arg15.view g15 ![1, 400, 0] inb_S5x608x128_S1x200x128_1_400_0 1 2 (by decide) (by decide) rfl, ← load_tab arg15.view g15 ![2, 400, 0] inb_S5x608x128_S1x200x128_2_400_0 2 2 (by decide) (by decide) rfl, ← load_tab arg15.view g15 ![3, 400, 0] inb_S5x608x128_S1x200x128_3_400_0 3 2 (by decide) (by decide) rfl, ← load_tab64 arg15.view g15 ![4, 400, 0] inb_S5x608x128_S1x200x64_4_400_0 2 (by decide) rfl, ← load_w2bot, ← View.readAt_full arg7.view f7 inb_S1x192_S1x192_0_0, ← View.readAt_full arg8.view f8 inb_S1x192_S1x192_0_0]
      rfl
    have q0 : k0_pay24 (body0.sl.r arg15 c g15) (body0.sl.r_1 arg15 c g15) (body0.sl.r_2 arg15 c g15) = vfS (arg15.view.read (Elt F) g15) 0 := by
      unfold vfS
      rw [← load_tab arg15.view g15 ![0, 0, 0] inb_S5x608x128_S1x200x128_0_0_0 0 0 (by decide) (by decide) rfl, ← load_tab arg15.view g15 ![1, 0, 0] inb_S5x608x128_S1x200x128_1_0_0 1 0 (by decide) (by decide) rfl, ← load_tab arg15.view g15 ![2, 0, 0] inb_S5x608x128_S1x200x128_2_0_0 2 0 (by decide) (by decide) rfl]
      rfl
    have q1 : k0_pay28 (body0.sl.r_3 arg15 c g15) (arg15.view.readAt (Elt F) (Rect.unit (s := S5x608x128) ![1, 200, 0] S1x200x128.size inb_S5x608x128_S1x200x128_1_200_0).toLoadRect g15) (arg15.view.readAt (Elt F) (Rect.unit (s := S5x608x128) ![2, 200, 0] S1x200x128.size inb_S5x608x128_S1x200x128_2_200_0).toLoadRect g15) = vfS (arg15.view.read (Elt F) g15) 1 := by
      unfold vfS
      rw [← load_tab arg15.view g15 ![0, 200, 0] inb_S5x608x128_S1x200x128_0_200_0 0 1 (by decide) (by decide) rfl, ← load_tab arg15.view g15 ![1, 200, 0] inb_S5x608x128_S1x200x128_1_200_0 1 1 (by decide) (by decide) rfl, ← load_tab arg15.view g15 ![2, 200, 0] inb_S5x608x128_S1x200x128_2_200_0 2 1 (by decide) (by decide) rfl]
      rfl
    have q2 : k0_pay32 (arg15.view.readAt (Elt F) (Rect.unit (s := S5x608x128) ![0, 400, 0] S1x200x128.size inb_S5x608x128_S1x200x128_0_400_0).toLoadRect g15) (arg15.view.readAt (Elt F) (Rect.unit (s := S5x608x128) ![1, 400, 0] S1x200x128.size inb_S5x608x128_S1x200x128_1_400_0).toLoadRect g15) (arg15.view.readAt (Elt F) (Rect.unit (s := S5x608x128) ![2, 400, 0] S1x200x128.size inb_S5x608x128_S1x200x128_2_400_0).toLoadRect g15) = vfS (arg15.view.read (Elt F) g15) 2 := by
      unfold vfS
      rw [← load_tab arg15.view g15 ![0, 400, 0] inb_S5x608x128_S1x200x128_0_400_0 0 2 (by decide) (by decide) rfl, ← load_tab arg15.view g15 ![1, 400, 0] inb_S5x608x128_S1x200x128_1_400_0 1 2 (by decide) (by decide) rfl, ← load_tab arg15.view g15 ![2, 400, 0] inb_S5x608x128_S1x200x128_2_400_0 2 2 (by decide) (by decide) rfl]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _
    iexists g10
    iexists _
    iexists g12
    iexists g13
    iexists g14
    iexists g15
    isplitl [H9]; · iexact H9
    isplitl [H10]; · iexact H10
    isplitl [H11]; · iexact H11
    isplitl [H12]; · iexact H12
    isplitl [H13]; · iexact H13
    isplitl [H14]; · iexact H14
    isplitl [H15]; · iexact H15
    ipureintro
    refine ⟨?_, ?_, ?_⟩
    · rw [e0, e1, e2, ← hT, ← hw.2]
      exact read_scenes192 arg9.view f9 (vf2S _ _ _ _)
    · funext i
      rw [← hw.1]
      refine hF.1 i (Nat.lt_of_lt_of_le (i 0).isLt (le_of_eq ?_))
      exact (congrArg (fun t => 128 * t) trips1).symm
    · rw [q0, q1, q2, ← hT]
      exact read_scenes384 arg11.view f11 (vfS _)

end Cert.Kernel.Hand
end
-- ==== Proof.Kernel.Counts.lean ====
module

public import proofs.«01_k».proof.Proof.Kernel.Scenes
public import proofs.«01_k».proof.Proof.Kernel.Trip
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Scene `s`'s ids, one row. -/
def idsRow (I : S3x640.Idx → BitVec 32) (s : ℕ) : S1x640.Idx → BitVec 32 := fun i => I (fun a => match a with
  | 0 => (⟨s % 3, Nat.mod_lt _ (by decide)⟩ : Fin 3)
  | 1 => i 1)

/-- Scene `s`'s counts. -/
def countS (I : S3x640.Idx → BitVec 32) (s : ℕ) : S1x200x1.Idx → BitVec 32 := k1_pay1 (F := F) (idsRow I s)

/-- The counts' output: each scene its own. -/
def countsV (I : S3x640.Idx → BitVec 32) : S3x200x1.Idx → BitVec 32 := fun i => countS (F := F) I (i 0).val (fun a => match a with
  | 0 => (⟨0, by decide⟩ : Fin 1)
  | 1 => i 1
  | 2 => i 2)

/-- A load of a scene's ids. -/
theorem load_ids {κ : Kind} {sp : Space} (v : View sig κ sp S3x640 .i32) (f : v.ty.Contents (Elt F)) (off : Fin 2 → ℕ) (inb : ∀ a, off a + S1x640.size a ≤ S3x640.size a)
    (s : ℕ) (hs : s < 3) (h : off = ![s, 0]) :
    v.readAt (Elt F) (Rect.unit (s := S3x640) off S1x640.size inb).toLoadRect f = idsRow (v.read (Elt F) f) s := by
  subst h
  funext x
  have h0 : (x 0).val < 1 := (x 0).isLt
  show v.read (Elt F) f _ = v.read (Elt F) f _
  congr 1
  funext a
  apply Fin.ext
  fin_cases a
  · show s + 1 * (x 0).val = s % 3
    omega
  · show 0 + 1 * (x 1).val = (x 1).val
    omega

/-- Stores of the three scenes leave each scene's own. -/
theorem read_scenes1 {κ : Kind} {sp : Space} (v : View sig κ sp S3x200x1 .i32) (f : v.ty.Contents (Elt F)) (P : ℕ → Vec F S1x200x1 .i32) :
    v.read (Elt F) (v.writes (Elt F) f
      [⟨Rect.unit (s := S3x200x1) ![2, 0, 0] S1x200x1.size inb_S3x200x1_S1x200x1_2_0_0, P 2⟩,
       ⟨Rect.unit (s := S3x200x1) ![1, 0, 0] S1x200x1.size inb_S3x200x1_S1x200x1_1_0_0, P 1⟩,
       ⟨Rect.unit (s := S3x200x1) ![0, 0, 0] S1x200x1.size inb_S3x200x1_S1x200x1_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

/-- The counting kernel: from whatever its output holds, it leaves the ids as they are and each scene's counts. -/
theorem body1 (arg0 : Memref sig .tc .vmem S3x640 .i32) (harg0 : arg0.IsWhole) (arg1 : Memref sig .tc .vmem S3x200x1 .i32) (harg1 : arg1.IsWhole)
    (𝒱 : Variants) (c : Dev nD) (bd : Option 𝒱.V) (E : Set ℕ) (f0 : Bf (F := F) c arg0) (f1 : Bf (F := F) c arg1) :
    iprop(pt c arg0 f0 ∗ pt c arg1 f1)
      ⊢ wp Idealize.ShloMosaic.frame (wpE defs₀ 𝒱 (c : Thread nD τ) bd) E (cc1_counts (F := F) arg0 harg0 arg1 harg1)
        (fun _ => iprop(pt c arg0 f0 ∗ ∃ f1, pt c arg1 f1 ∗ ⌜arg1.view.read (Elt F) f1 = countsV (F := F) (arg0.view.read (Elt F) f0)⌝)) := by
  rw [cc1_counts_eq_skeleton]
  unfold cc1_counts_skel
  iintro ⟨H0, H1⟩
  sl_exec
  sl_step
  isplitl [H0]; · iexact H0
  iexists _
  isplitl [H1]; · iexact H1
  ipureintro
  rw [load_ids arg0.view f0 ![0, 0] inb_S3x640_S1x640_0_0 0 (by decide) rfl, load_ids arg0.view f0 ![1, 0] inb_S3x640_S1x640_1_0 1 (by decide) rfl, load_ids arg0.view f0 ![2, 0] inb_S3x640_S1x640_2_0 2 (by decide) rfl]
  exact read_scenes1 arg1.view f1 (countS (F := F) (arg0.view.read (Elt F) f0))

end Cert.Kernel.Hand
end
-- ==== Proof.Kernel.Run.lean ====
module

public import proofs.«01_k».proof.Proof.Kernel.Body
public import proofs.«01_k».proof.Proof.Kernel.Counts
public import proofs.«01_k».proof.Proof.Gen.Kernel.Launch
public import proofs.«01_k».proof.Proof.Gen.Kernel.Points
public import proofs.«01_k».proof.Proof.Gen.Kernel.Regions
public import Idealize.ShloMosaic.Lib.Pipeline.RegionArraysS
public import Idealize.ShloMosaic.Lib.Pipeline.FrameTail
public import Idealize.ShloMosaic.Lib.VecWindow
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- No variants: the kernels' loops are bounded. -/
abbrev 𝒱₀ : Variants := Variants.none

/-! ## The fused kernel's region -/

/-- Window 0 of the first region is the whole of `main_arg5`. -/
theorem read0_0 (f : S3x640.Idx → Elt F .i32) : ((cfg0.win 0).blk t0_0).view.read (Elt F) f = f := by
  funext i
  refine congrArg f (funext fun a => Fin.ext ?_)
  refine (Pipeline.Window.rect_emb_val win0_0 t0_0 i a).trans ?_
  fin_cases a <;> exact Nat.zero_add _
/-- Window 1 of the first region is the whole of `main_v0`. -/
theorem read0_1 (f : S1920x10240.Idx → Elt F .i8) : ((cfg0.win 1).blk t0_0).view.read (Elt F) f = f := by
  funext i
  refine congrArg f (funext fun a => Fin.ext ?_)
  refine (Pipeline.Window.rect_emb_val win0_1 t0_0 i a).trans ?_
  fin_cases a <;> exact Nat.zero_add _
/-- Window 2 of the first region is the whole of `main_v1`. -/
theorem read0_2 (f : S1920x1.Idx → Elt F .f32) : ((cfg0.win 2).blk t0_0).view.read (Elt F) f = f := by
  funext i
  refine congrArg f (funext fun a => Fin.ext ?_)
  refine (Pipeline.Window.rect_emb_val win0_2 t0_0 i a).trans ?_
  fin_cases a <;> exact Nat.zero_add _
/-- Window 3 of the first region is the whole of `main_arg2`. -/
theorem read0_3 (f : S10240x384.Idx → Elt F .fp8e4m3) : ((cfg0.win 3).blk t0_0).view.read (Elt F) f = f := by
  funext i
  refine congrArg f (funext fun a => Fin.ext ?_)
  refine (Pipeline.Window.rect_emb_val win0_3 t0_0 i a).trans ?_
  fin_cases a <;> exact Nat.zero_add _
/-- Window 4 of the first region is the whole of `main_v2`. -/
theorem read0_4 (f : S1x384.Idx → Elt F .f32) : ((cfg0.win 4).blk t0_0).view.read (Elt F) f = f := by
  funext i
  refine congrArg f (funext fun a => Fin.ext ?_)
  refine (Pipeline.Window.rect_emb_val win0_4 t0_0 i a).trans ?_
  fin_cases a <;> exact Nat.zero_add _
/-- Window 5 of the first region is the whole of `main_v3`. -/
theorem read0_5 (f : S1x384.Idx → Elt F .f32) : ((cfg0.win 5).blk t0_0).view.read (Elt F) f = f := by
  funext i
  refine congrArg f (funext fun a => Fin.ext ?_)
  refine (Pipeline.Window.rect_emb_val win0_5 t0_0 i a).trans ?_
  fin_cases a <;> exact Nat.zero_add _
/-- Window 6 of the first region is the whole of `main_arg6`. -/
theorem read0_6 (f : S2x384x192.Idx → Elt F .fp8e4m3) : ((cfg0.win 6).blk t0_0).view.read (Elt F) f = f := by
  funext i
  refine congrArg f (funext fun a => Fin.ext ?_)
  refine (Pipeline.Window.rect_emb_val win0_6 t0_0 i a).trans ?_
  fin_cases a <;> exact Nat.zero_add _
/-- Window 7 of the first region is the whole of `main_v4`. -/
theorem read0_7 (f : S1x192.Idx → Elt F .f32) : ((cfg0.win 7).blk t0_0).view.read (Elt F) f = f := by
  funext i
  refine congrArg f (funext fun a => Fin.ext ?_)
  refine (Pipeline.Window.rect_emb_val win0_7 t0_0 i a).trans ?_
  fin_cases a <;> exact Nat.zero_add _
/-- Window 8 of the first region is the whole of `main_v5`. -/
theorem read0_8 (f : S1x192.Idx → Elt F .f32) : ((cfg0.win 8).blk t0_0).view.read (Elt F) f = f := by
  funext i
  refine congrArg f (funext fun a => Fin.ext ?_)
  refine (Pipeline.Window.rect_emb_val win0_8 t0_0 i a).trans ?_
  fin_cases a <;> exact Nat.zero_add _
/-- Window 9 of the first region is the whole of `main_v6_0`. -/
theorem read0_9 (f : S3x200x192.Idx → Elt F .bf16) : ((cfg0.win 9).blk t0_0).view.read (Elt F) f = f := by
  funext i
  refine congrArg f (funext fun a => Fin.ext ?_)
  refine (Pipeline.Window.rect_emb_val win0_9 t0_0 i a).trans ?_
  fin_cases a <;> exact Nat.zero_add _
/-- Window 10 of the first region is the whole of `main_v6_1`. -/
theorem read0_10 (f : S1920x384.Idx → Elt F .bf16) : ((cfg0.win 10).blk t0_0).view.read (Elt F) f = f := by
  funext i
  refine congrArg f (funext fun a => Fin.ext ?_)
  refine (Pipeline.Window.rect_emb_val win0_10 t0_0 i a).trans ?_
  fin_cases a <;> exact Nat.zero_add _
/-- Window 11 of the first region is the whole of `main_v6_2`. -/
theorem read0_11 (f : S3x200x384.Idx → Elt F .bf16) : ((cfg0.win 11).blk t0_0).view.read (Elt F) f = f := by
  funext i
  refine congrArg f (funext fun a => Fin.ext ?_)
  refine (Pipeline.Window.rect_emb_val win0_11 t0_0 i a).trans ?_
  fin_cases a <;> exact Nat.zero_add _
/-- What the first region stages of `main_arg5`, window 0. -/
abbrev stg0_0 (V : Valuation τ sig (Elt F)) : S3x640.Idx → Elt F .i32 := ((cfg0.win 0).blk t0_0).view.read (Elt F) (V (Proc.devRef .tc main_arg5))
/-- What the first region stages of `main_v0`, window 1. -/
abbrev stg0_1 (V : Valuation τ sig (Elt F)) : S1920x10240.Idx → Elt F .i8 := ((cfg0.win 1).blk t0_0).view.read (Elt F) (V (Proc.devRef .tc main_v0))
/-- What the first region stages of `main_v1`, window 2. -/
abbrev stg0_2 (V : Valuation τ sig (Elt F)) : S1920x1.Idx → Elt F .f32 := ((cfg0.win 2).blk t0_0).view.read (Elt F) (V (Proc.devRef .tc main_v1))
/-- What the first region stages of `main_arg2`, window 3. -/
abbrev stg0_3 (V : Valuation τ sig (Elt F)) : S10240x384.Idx → Elt F .fp8e4m3 := ((cfg0.win 3).blk t0_0).view.read (Elt F) (V (Proc.devRef .tc main_arg2))
/-- What the first region stages of `main_v2`, window 4. -/
abbrev stg0_4 (V : Valuation τ sig (Elt F)) : S1x384.Idx → Elt F .f32 := ((cfg0.win 4).blk t0_0).view.read (Elt F) (V (Proc.devRef .tc main_v2))
/-- What the first region stages of `main_v3`, window 5. -/
abbrev stg0_5 (V : Valuation τ sig (Elt F)) : S1x384.Idx → Elt F .f32 := ((cfg0.win 5).blk t0_0).view.read (Elt F) (V (Proc.devRef .tc main_v3))
/-- What the first region stages of `main_arg6`, window 6. -/
abbrev stg0_6 (V : Valuation τ sig (Elt F)) : S2x384x192.Idx → Elt F .fp8e4m3 := ((cfg0.win 6).blk t0_0).view.read (Elt F) (V (Proc.devRef .tc main_arg6))
/-- What the first region stages of `main_v4`, window 7. -/
abbrev stg0_7 (V : Valuation τ sig (Elt F)) : S1x192.Idx → Elt F .f32 := ((cfg0.win 7).blk t0_0).view.read (Elt F) (V (Proc.devRef .tc main_v4))
/-- What the first region stages of `main_v5`, window 8. -/
abbrev stg0_8 (V : Valuation τ sig (Elt F)) : S1x192.Idx → Elt F .f32 := ((cfg0.win 8).blk t0_0).view.read (Elt F) (V (Proc.devRef .tc main_v5))

/-- The table after all the points, from what the region stages. -/
def tab0 (V : Valuation τ sig (Elt F)) : S5x608x128.Idx → F .f32 :=
  tabEnd (stg0_0 V) (stg0_1 V) (stg0_2 V) (stg0_3 V) (stg0_4 V) (stg0_5 V) (stg0_6 V) (stg0_7 V)

/-- The second-layer voxel features the region leaves. -/
def out9 (V : Valuation τ sig (Elt F)) : S3x200x192.Idx → F .bf16 := vf2V (tab0 V) (k0_pay16 (stg0_6 V)) (stg0_7 V) (stg0_8 V)
/-- The points' features the region leaves. -/
def out10 (V : Valuation τ sig (Elt F)) : S1920x384.Idx → F .bf16 := pfV (stg0_1 V) (stg0_2 V) (k0_pay15 (stg0_3 V)) (stg0_4 V) (stg0_5 V)
/-- The voxel features the region leaves. -/
def out11 (V : Valuation τ sig (Elt F)) : S3x200x384.Idx → F .bf16 := vfV (tab0 V)

/-- What window `w`'s staging buffer holds after the first region's body. -/
def after0 (V : Valuation τ sig (Elt F)) (w : Fin 12) : (cfg0.win w).block.Idx → Elt F (cfg0.win w).elt :=
  match w with
  | ⟨0, _⟩ => stg0_0 V
  | ⟨1, _⟩ => stg0_1 V
  | ⟨2, _⟩ => stg0_2 V
  | ⟨3, _⟩ => stg0_3 V
  | ⟨4, _⟩ => stg0_4 V
  | ⟨5, _⟩ => stg0_5 V
  | ⟨6, _⟩ => stg0_6 V
  | ⟨7, _⟩ => stg0_7 V
  | ⟨8, _⟩ => stg0_8 V
  | ⟨9, _⟩ => out9 V
  | ⟨10, _⟩ => out10 V
  | ⟨11, _⟩ => out11 V

/-- The first region's proof data over buffers `V`: arrays as entered, staging buffers at `after0`, the scratch at something, nothing owed. -/
def dat0 (V : Dev nD → Valuation τ sig (Elt F)) (c : Dev nD) : Dat τ (Elt F) Unit ℕ (UR sig nD τ) ℕ cfg0 c where
  A w := V c (Proc.devRef .tc (Pipeline.arrRef spec0 w))
  after w _ := after0 (V c) w
  Φ _ := Pipeline.scopedRest (Ix := Unit) (Name := ℕ) (U := UR sig nD τ) (Lvl := ℕ) (Val := Elt F) spec0 c
  q _ := fullShare
  owed _ := 0

set_option maxHeartbeats 4000000 in
/-- The first region's body: its staging buffers and scratch taken apart, `body0` applied, its post put together again. -/
theorem body_obligation0 (V : Dev nD → Valuation τ sig (Elt F)) (hids : ∀ c (i : S3x640.Idx), (show BitVec 32 from V c (Proc.devRef .tc main_arg5) i).toInt < 200) (c : Dev nD) :
    BodyObligation (dat0 V c) (defs₀ (F := F)) 𝒱₀ () Set.univ := fun t => by
  obtain rfl := fin_N0 t
  rw [bigSep_W0, bigSep_W0]
  simp only [owns_whole_eq]
  rw [show (dat0 V c).Φ t0_0.castSucc = Pipeline.scopedRest spec0 c from rfl, show (dat0 V c).Φ t0_0.succ = Pipeline.scopedRest spec0 c from rfl]
  unfold Dat.owesAt Pipeline.owesWithin; rw [scopedRest0_eq]
  rw [show (dat0 V c).owed t0_0.castSucc = 0 from rfl, show (dat0 V c).owed t0_0.succ = 0 from rfl]
  iintro ⟨⟨⟨%g12, H12⟩, ⟨%g13, H13⟩, ⟨%g14, H14⟩, ⟨%g15, H15⟩, HR1, HR2⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  replace hf0 : f0 = stg0_0 (V c) := hf0.trans (by unfold Dat.before; rw [if_pos (fetch0_0 t0_0)]; rfl)
  subst hf0
  replace hf1 : f1 = stg0_1 (V c) := hf1.trans (by unfold Dat.before; rw [if_pos (fetch0_1 t0_0)]; rfl)
  subst hf1
  replace hf2 : f2 = stg0_2 (V c) := hf2.trans (by unfold Dat.before; rw [if_pos (fetch0_2 t0_0)]; rfl)
  subst hf2
  replace hf3 : f3 = stg0_3 (V c) := hf3.trans (by unfold Dat.before; rw [if_pos (fetch0_3 t0_0)]; rfl)
  subst hf3
  replace hf4 : f4 = stg0_4 (V c) := hf4.trans (by unfold Dat.before; rw [if_pos (fetch0_4 t0_0)]; rfl)
  subst hf4
  replace hf5 : f5 = stg0_5 (V c) := hf5.trans (by unfold Dat.before; rw [if_pos (fetch0_5 t0_0)]; rfl)
  subst hf5
  replace hf6 : f6 = stg0_6 (V c) := hf6.trans (by unfold Dat.before; rw [if_pos (fetch0_6 t0_0)]; rfl)
  subst hf6
  replace hf7 : f7 = stg0_7 (V c) := hf7.trans (by unfold Dat.before; rw [if_pos (fetch0_7 t0_0)]; rfl)
  subst hf7
  replace hf8 : f8 = stg0_8 (V c) := hf8.trans (by unfold Dat.before; rw [if_pos (fetch0_8 t0_0)]; rfl)
  subst hf8
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15]
  · iapply (body0 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (win0_10.stage (cfg0.slots t0_0 10)) (hstage0_10 0) (win0_11.stage (cfg0.slots t0_0 11)) (hstage0_11 0) (Memref.whole cc0_scratch0) (Memref.isWhole_whole _) (Memref.whole cc0_scratch1) (Memref.isWhole_whole _) (Memref.whole cc0_scratch2) (Memref.isWhole_whole _) (Memref.whole cc0_scratch3) (Memref.isWhole_whole _) 𝒱₀ c none Set.univ (stg0_0 (V c)) (stg0_1 (V c)) (stg0_2 (V c)) (stg0_3 (V c)) (stg0_4 (V c)) (stg0_5 (V c)) (stg0_6 (V c)) (stg0_7 (V c)) (stg0_8 (V c)) f9 f10 f11 g12 g13 g14 g15 (fun i => by have e := congrFun (read0_0 (F := F) (V c (Proc.devRef .tc main_arg5))) i; have h := hids c i; rw [← e] at h; exact h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H0, H1, H2, H3, H4, H5, H6, H7, H8, %g9, %g10, %g11, %g12, %g13, %g14, %g15, H9, H10, H11, H12, H13, H14, H15, %he⟩
    obtain ⟨he9, he10, he11⟩ := he
    isplitl [H12 H13 H14 H15 HR1 HR2]
    · isplitl [H12]; · iexists _; iexact H12
      isplitl [H13]; · iexists _; iexact H13
      isplitl [H14]; · iexists _; iexact H14
      isplitl [H15]; · iexists _; iexact H15
      isplitl [HR1] <;> iassumption
    isplitl [HO]; · iexact HO
    isplitl [H0]
    · iexists _; isplitr; swap; (· iexact H0); ipureintro; rfl
    isplitl [H1]
    · iexists _; isplitr; swap; (· iexact H1); ipureintro; rfl
    isplitl [H2]
    · iexists _; isplitr; swap; (· iexact H2); ipureintro; rfl
    isplitl [H3]
    · iexists _; isplitr; swap; (· iexact H3); ipureintro; rfl
    isplitl [H4]
    · iexists _; isplitr; swap; (· iexact H4); ipureintro; rfl
    isplitl [H5]
    · iexists _; isplitr; swap; (· iexact H5); ipureintro; rfl
    isplitl [H6]
    · iexists _; isplitr; swap; (· iexact H6); ipureintro; rfl
    isplitl [H7]
    · iexists _; isplitr; swap; (· iexact H7); ipureintro; rfl
    isplitl [H8]
    · iexists _; isplitr; swap; (· iexact H8); ipureintro; rfl
    isplitl [H9]
    · iexists _; isplitr; swap; (· iexact H9); ipureintro; exact he9
    isplitl [H10]
    · iexists _; isplitr; swap; (· iexact H10); ipureintro; exact he10
    · iexists _; isplitr; swap; (· iexact H11); ipureintro; exact he11

/-- What the first region leaves in `main_v6_0`. -/
theorem arrAt0_9 (V : Dev nD → Valuation τ sig (Elt F)) (c : Dev nD) : (dat0 V c).arrAt 9 cfg0.N = out9 (V c) := by
  refine (read0_9 (F := F) ((dat0 V c).arrAt 9 cfg0.N)).symm.trans ?_
  refine ((dat0 V c).read_blk_arrAt_eq_flushed 9 (fun t t' _ _ h => absurd ((fin_N0 t).trans (fin_N0 t').symm) h) cfg0.N t0_0 t0_0.isLt (flush0_9 t0_0)).trans ?_
  rfl

/-- What the first region leaves in `main_v6_1`. -/
theorem arrAt0_10 (V : Dev nD → Valuation τ sig (Elt F)) (c : Dev nD) : (dat0 V c).arrAt 10 cfg0.N = out10 (V c) := by
  refine (read0_10 (F := F) ((dat0 V c).arrAt 10 cfg0.N)).symm.trans ?_
  refine ((dat0 V c).read_blk_arrAt_eq_flushed 10 (fun t t' _ _ h => absurd ((fin_N0 t).trans (fin_N0 t').symm) h) cfg0.N t0_0 t0_0.isLt (flush0_10 t0_0)).trans ?_
  rfl

/-- What the first region leaves in `main_v6_2`. -/
theorem arrAt0_11 (V : Dev nD → Valuation τ sig (Elt F)) (c : Dev nD) : (dat0 V c).arrAt 11 cfg0.N = out11 (V c) := by
  refine (read0_11 (F := F) ((dat0 V c).arrAt 11 cfg0.N)).symm.trans ?_
  refine ((dat0 V c).read_blk_arrAt_eq_flushed 11 (fun t t' _ _ h => absurd ((fin_N0 t).trans (fin_N0 t').symm) h) cfg0.N t0_0 t0_0.isLt (flush0_11 t0_0)).trans ?_
  rfl

/-! ## The counting kernel's region -/

/-- Window 0 of the second region is the whole of `main_arg5`. -/
theorem read1_0 (f : S3x640.Idx → Elt F .i32) : ((cfg1.win 0).blk t1_0).view.read (Elt F) f = f := by
  funext i
  refine congrArg f (funext fun a => Fin.ext ?_)
  refine (Pipeline.Window.rect_emb_val win1_0 t1_0 i a).trans ?_
  fin_cases a <;> exact Nat.zero_add _
/-- Window 1 of the second region is the whole of `main_v7`. -/
theorem read1_1 (f : S3x200x1.Idx → Elt F .i32) : ((cfg1.win 1).blk t1_0).view.read (Elt F) f = f := by
  funext i
  refine congrArg f (funext fun a => Fin.ext ?_)
  refine (Pipeline.Window.rect_emb_val win1_1 t1_0 i a).trans ?_
  fin_cases a <;> exact Nat.zero_add _

/-- What the second region stages of `main_arg5`. -/
abbrev stg1_0 (V : Valuation τ sig (Elt F)) : S3x640.Idx → Elt F .i32 := ((cfg1.win 0).blk t1_0).view.read (Elt F) (V (Proc.devRef .tc main_arg5))

/-- The counts the region leaves. -/
def outC (V : Valuation τ sig (Elt F)) : S3x200x1.Idx → BitVec 32 := countsV (F := F) (stg1_0 V)

/-- What window `w`'s staging buffer holds after the second region's body. -/
def after1 (V : Valuation τ sig (Elt F)) (w : Fin 2) : (cfg1.win w).block.Idx → Elt F (cfg1.win w).elt :=
  match w with
  | ⟨0, _⟩ => stg1_0 V
  | ⟨1, _⟩ => outC V

/-- The second region's output buffer after its body. -/
theorem after1_1 (V : Valuation τ sig (Elt F)) : after1 V 1 = outC V := by unfold after1; rfl

/-- The second region's proof data over buffers `V`. -/
def dat1 (V : Dev nD → Valuation τ sig (Elt F)) (c : Dev nD) : Dat τ (Elt F) Unit ℕ (UR sig nD τ) ℕ cfg1 c where
  A w := V c (Proc.devRef .tc (Pipeline.arrRef spec1 w))
  after w _ := after1 (V c) w
  Φ _ := Pipeline.scopedRest (Ix := Unit) (Name := ℕ) (U := UR sig nD τ) (Lvl := ℕ) (Val := Elt F) spec1 c
  q _ := fullShare
  owed _ := 0

/-- The second region's output buffer after its body, as its proof data say. -/
theorem dat1_after (V : Dev nD → Valuation τ sig (Elt F)) (c : Dev nD) : (dat1 V c).after 1 t1_0 = outC (V c) := by
  unfold dat1; dsimp only; exact after1_1 (V c)

set_option maxHeartbeats 4000000 in
/-- The second region's body: its staging buffers taken apart, `body1` applied, its post put together again. -/
theorem body_obligation1 (V : Dev nD → Valuation τ sig (Elt F)) (c : Dev nD) : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Pipeline.scopedRest spec1 c from rfl, show (dat1 V c).Φ t1_0.succ = Pipeline.scopedRest spec1 c from rfl]
  unfold Dat.owesAt Pipeline.owesWithin
  rw [show (dat1 V c).owed t1_0.castSucc = 0 from rfl, show (dat1 V c).owed t1_0.succ = 0 from rfl]
  iintro ⟨HR, HO, ⟨%d0, %f0, %hf0, H0⟩, ⟨%d1, %f1, %hf1, H1⟩⟩
  replace hf0 : f0 = stg1_0 (V c) := hf0.trans (by unfold Dat.before; rw [if_pos (fetch1_0 t1_0)]; rfl)
  subst hf0
  iapply (wp_wand_r Idealize.ShloMosaic.frame (wpE (defs₀ (F := F)) 𝒱₀ (c : Thread nD τ) none) Set.univ)
  isplitl [H0 H1]
  · iapply (body1 (win1_0.stage (cfg1.slots t1_0 0)) (hstage1_0 0) (win1_1.stage (cfg1.slots t1_0 1)) (hstage1_1 0) 𝒱₀ c none Set.univ (stg1_0 (V c)) f1)
    isplitl [H0]; · iexact H0
    iexact H1
  · iintro %_ ⟨H0, %g1, H1, %he⟩
    isplitl [HR]; · iexact HR
    isplitl [HO]; · iexact HO
    isplitl [H0]
    · iexists _; isplitr; swap; (· iexact H0); ipureintro; rfl
    · iexists _; isplitr; swap; (· iexact H1); ipureintro; refine Eq.trans ?_ (dat1_after V c).symm; exact he

/-- What the second region leaves in `main_v7`. -/
theorem arrAt1_1 (V : Dev nD → Valuation τ sig (Elt F)) (c : Dev nD) : (dat1 V c).arrAt 1 cfg1.N = outC (V c) := by
  refine (read1_1 (F := F) ((dat1 V c).arrAt 1 cfg1.N)).symm.trans ?_
  refine ((dat1 V c).read_blk_arrAt_eq_flushed 1 (fun t t' _ _ h => absurd ((fin_N1 t).trans (fin_N1 t').symm) h) cfg1.N t1_0 t1_0.isLt (flush1_1 t1_0)).trans ?_
  show (cfg1.win 1).cut (cfg1.grid.coords t1_0) ((dat1 V c).after 1 t1_0) = outC (V c)
  rw [dat1_after]
  rfl

/-! ## The program's run -/

variable (m : (ℓ : Loc nD τ sig) → Buf (Elt F) ℓ) (ρ : Dev nD → PrngReg)

/-- Core `c`'s unscoped buffers at launch. -/
def U0 (c : Dev nD) : Valuation τ sig (Elt F) := fun b => m (c, b)
/-- After the reshapes of the arguments. -/
def U1 (c : Dev nD) : Valuation τ sig (Elt F) := StableHlo.after hostOps0 (U0 m c)
/-- After the fused kernel. -/
def U2 (c : Dev nD) : Valuation τ sig (Elt F) := Pipeline.afterRegion (dat0 (U1 m) c) (U1 m c)
/-- After the counting kernel. -/
def U3 (c : Dev nD) : Valuation τ sig (Elt F) := Pipeline.afterRegion (dat1 (U2 m) c) (U2 m c)
/-- After the reshapes of the results. -/
def U4 (c : Dev nD) : Valuation τ sig (Elt F) := StableHlo.after hostOps2 (U3 m c)

/-- The two regions' proof data. -/
def dats : (p : Fin 2) → (c : Dev nD) → Dat τ (Elt F) Unit ℕ (UR sig nD τ) ℕ (Pipeline.pin (pcfgs (F := F)) adm p) c := fun p => match p with
  | ⟨0, _⟩ => dat0 (U1 m)
  | ⟨1, _⟩ => dat1 (U2 m)

/-- Every staging wait stands at one index of one level. -/
abbrev L : GSem nD τ sig → Finset Unit := fun g => if g.1.2 = .tc then Finset.univ else ∅
/-- Every wait stands at level zero. -/
abbrev lv : GSem nD τ sig → Unit → ℕ := fun _ _ => 0
/-- What rides beside the buffers: nothing owed. -/
abbrev R (c : Dev nD) : sProp 𝕄G := iprop((∃ W, owes (c : Thread nD τ) (0 : CellTallies nD τ sig Unit) W) ∗ emp ∗ emp)

/-- Nothing is owed, so nothing is waited for out of order. -/
theorem cut (p : Fin 2) : Pipeline.LevelCut (nD := nD) (τ := τ) (pcfgs (F := F)) adm () L lv p (fun _ => 0) (fun _ => (0 : ℕ)) where
  hι c w s := by show () ∈ (if _ then _ else _); rw [if_pos rfl]; exact Finset.mem_univ _
  hιb c w s := le_refl _
  hD c g i h := absurd h (Nat.lt_irrefl 0)

set_option backward.isDefEq.respectTransparency.types false in
/-- The fused kernel's region, entered from the buffers at `U1` and left at `U2`. -/
def reg0 (hids : ∀ c (i : S3x640.Idx), (show BitVec 32 from U1 m c (Proc.devRef .tc main_arg5) i).toInt < 200) :
    Pipeline.RegionSeg (pcfgs (F := F)) adm (dats m) () defs₀ 𝒱₀ L lv 0 :=
  Pipeline.RegionSeg.ofHeldIn (pcfgs (F := F)) adm (dats m) () defs₀ 𝒱₀ L lv 0 (fun _ => 0) (Pipeline.ucRefs τ sig) (fun _ => iprop(emp)) (fun _ => iprop(emp))
    launch0.toP rfl (fun c => (body_obligation0 (U1 m) hids c).loose) (fun _ _ => rfl) (fun _ => rfl) (fun c => (dat0 (U1 m) c).share_full fun _ => rfl)
    (fun c => by show iprop(Pipeline.scopedRest (Ix := Unit) (Name := ℕ) (U := UR sig nD τ) (Lvl := ℕ) (Val := Elt F) spec0 c ∗ emp) ⊢ Pipeline.scopedRest (Ix := Unit) (Name := ℕ) (U := UR sig nD τ) (Lvl := ℕ) (Val := Elt F) spec0 c; iintro ⟨H, -⟩; iexact H) (fun c => by show Pipeline.scopedRest (Ix := Unit) (Name := ℕ) (U := UR sig nD τ) (Lvl := ℕ) (Val := Elt F) spec0 c ⊢ iprop(Pipeline.scopedRest (Ix := Unit) (Name := ℕ) (U := UR sig nD τ) (Lvl := ℕ) (Val := Elt F) spec0 c ∗ emp); iintro H; isplitl [H]; (· iexact H); iempintro) (fun _ => 0) (cut 0) (fun _ => iprop(emp)) (U1 m) (fun _ _ => rfl)

set_option backward.isDefEq.respectTransparency.types false in
/-- The counting kernel's region, entered from the buffers at `U2` and left at `U3`. -/
def reg1 : Pipeline.RegionSeg (pcfgs (F := F)) adm (dats m) () defs₀ 𝒱₀ L lv 1 :=
  Pipeline.RegionSeg.ofHeldIn (pcfgs (F := F)) adm (dats m) () defs₀ 𝒱₀ L lv 1 (fun _ => 0) (Pipeline.ucRefs τ sig) (fun _ => iprop(emp)) (fun _ => iprop(emp))
    launch1.toP rfl (fun c => (body_obligation1 (U2 m) c).loose) (fun _ _ => rfl) (fun _ => rfl) (fun c => (dat1 (U2 m) c).share_full fun _ => rfl)
    (fun c => by show iprop(Pipeline.scopedRest (Ix := Unit) (Name := ℕ) (U := UR sig nD τ) (Lvl := ℕ) (Val := Elt F) spec1 c ∗ emp) ⊢ Pipeline.scopedRest (Ix := Unit) (Name := ℕ) (U := UR sig nD τ) (Lvl := ℕ) (Val := Elt F) spec1 c; iintro ⟨H, -⟩; iexact H) (fun c => by show Pipeline.scopedRest (Ix := Unit) (Name := ℕ) (U := UR sig nD τ) (Lvl := ℕ) (Val := Elt F) spec1 c ⊢ iprop(Pipeline.scopedRest (Ix := Unit) (Name := ℕ) (U := UR sig nD τ) (Lvl := ℕ) (Val := Elt F) spec1 c ∗ emp); iintro H; isplitl [H]; (· iexact H); iempintro) (fun _ => 0) (cut 1) (fun _ => iprop(emp)) (U2 m) (fun _ _ => rfl)

/-- The reshapes of the arguments, as a stretch of the run. -/
def hseg0 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) R
/-- The reshapes of the results, as a stretch of the run. -/
def hseg2 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) R

/-- Every window's array is an unscoped buffer. -/
theorem arrs0_sub : Pipeline.arrRefs (τ := τ) (pcfgs (F := F) 0).spec ⊆ Pipeline.ucRefs τ sig := by
  show Pipeline.arrRefs (τ := τ) spec0 ⊆ Pipeline.ucRefs τ sig
  decide

set_option backward.isDefEq.respectTransparency.types false in
/-- The region's entry. -/
theorem enter0 (hids : ∀ c (i : S3x640.Idx), (show BitVec 32 from U1 m c (Proc.devRef .tc main_arg5) i).toInt < 200) (c : Dev nD) : iprop(StableHlo.held (c.tc : Thread nD τ) (Pipeline.ucRefs τ sig) (U1 m c) ∗ R c) ⊢ (reg0 m hids).pre c := by
  unfold reg0
  exact Pipeline.RegionSeg.ofHeldIn_pre (pcs := pcfgs (F := F)) (a := adm) (pdats := dats m) (p := 0) (D := fun _ => 0) (X := fun _ => iprop(emp)) (R := fun _ => iprop(emp)) (W := U1 m) arrs0_sub c

set_option backward.isDefEq.respectTransparency.types false in
/-- The region's exit. -/
theorem leave0 (hids : ∀ c (i : S3x640.Idx), (show BitVec 32 from U1 m c (Proc.devRef .tc main_arg5) i).toInt < 200) (c : Dev nD) : (reg0 m hids).post c ⊢ iprop(StableHlo.held (c.tc : Thread nD τ) (Pipeline.ucRefs τ sig) (U2 m c) ∗ R c) := by
  unfold reg0
  exact Pipeline.RegionSeg.ofHeldIn_post arrs0_sub c

/-- Every window's array is an unscoped buffer. -/
theorem arrs1_sub : Pipeline.arrRefs (τ := τ) (pcfgs (F := F) 1).spec ⊆ Pipeline.ucRefs τ sig := by
  show Pipeline.arrRefs (τ := τ) spec1 ⊆ Pipeline.ucRefs τ sig
  decide

set_option backward.isDefEq.respectTransparency.types false in
/-- The region's entry. -/
theorem enter1 (c : Dev nD) : iprop(StableHlo.held (c.tc : Thread nD τ) (Pipeline.ucRefs τ sig) (U2 m c) ∗ R c) ⊢ (reg1 m).pre c := by
  unfold reg1
  exact Pipeline.RegionSeg.ofHeldIn_pre (pcs := pcfgs (F := F)) (a := adm) (pdats := dats m) (p := 1) (D := fun _ => 0) (X := fun _ => iprop(emp)) (R := fun _ => iprop(emp)) (W := U2 m) arrs1_sub c

set_option backward.isDefEq.respectTransparency.types false in
/-- The region's exit. -/
theorem leave1 (c : Dev nD) : (reg1 m).post c ⊢ iprop(StableHlo.held (c.tc : Thread nD τ) (Pipeline.ucRefs τ sig) (U3 m c) ∗ R c) := by
  unfold reg1
  exact Pipeline.RegionSeg.ofHeldIn_post arrs1_sub c

set_option backward.isDefEq.respectTransparency.types false in
/-- From any memory whose ids are below 200 and zero counters, every run of the program ends with every unscoped buffer at `U4` and every
    counter at zero. -/
theorem run_all (hids : ∀ c (i : S3x640.Idx), (show BitVec 32 from U1 m c (Proc.devRef .tc main_arg5) i).toInt < 200) :
    θ_run defs (onTc (τ := τ) (main (F := F))) ⟨m, fun _ => 0, ρ⟩
      (fun r => (∀ c : Dev nD, ∀ b ∈ Pipeline.ucRefs τ sig, r.2.mem (c, b) = U4 m c b) ∧ r.2.sem = fun _ => 0) := by
  refine Pipeline.θ_run_regions_kit_sems (pcfgs (F := F)) adm (dats m) () cellOf_inj emb₁ defs₀ 𝒱₀ L lv m ρ main
    [.host (hseg0 m), .region (reg0 m hids), .region (reg1 m), .host (hseg2 m)]
    (fun c Q => by rw [main_segs adm (dats m) () 𝒱₀ L lv (hseg0 m) (hseg2 m) (reg0 m hids) (reg1 m) rfl rfl c])
    (by simp only [Pipeline.Seg.pipes_host, Pipeline.Seg.pipes_region, Pipeline.Seg.pipes_nil]; decide) (O₀ := 0) (hL := fun g h => if_neg h) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (U0 m c) ∗ R c))
    (Tₙ := fun c => StableHlo.held (c : Thread nD τ) (Pipeline.ucRefs τ sig) (U4 m c))
    (hch := ?_) (hinit := ?_)
    (QY := fun c s => ∀ b ∈ Pipeline.ucRefs τ sig, s.mem (c, b) = U4 m c b) (hfin := fun c s' => ?_)
    (hQ := fun _ h hz => ⟨h, funext fun g => hz g (.inr (regions_no_unscoped g.2))⟩)
  · iintro Hu; imodintro
    isplitl [Hu]
    · iapply (show (ownU _ : sProp 𝕄G) ⊢ BI.own (emb₁ (initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · exact ⟨fun _ => .rfl, enter0 m hids, fun c => (leave0 m hids c).trans (enter1 m c), leave1 m, fun c => by
        show iprop(StableHlo.held (c.tc : Thread nD τ) (Pipeline.ucRefs τ sig) (U4 m c) ∗ R c) ⊢ _
        iintro ⟨Hh, HO, -, -⟩
        isplitl [Hh] <;> iassumption⟩
  · refine Pipeline.initEach L lv fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact h
    · iexact HSI

end Cert.Kernel.Hand
end
-- ==== Proof.Kernel.Values.lean ====
module

public import proofs.«01_k».proof.Proof.Kernel.Run

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A buffer the first reshapes do not write is as launched when the fused kernel runs. -/
theorem U1_of (c : Dev nD) (r : Ref sig .tc) (h : r ∉ hostOps0_W) : U1 m c (Proc.devRef .tc r) = m ((c : Thread nD τ).loc r) :=
  StableHlo.after_of_writes_sub hostOps0 _ hostOps0_writes h

/-- A buffer that is no output of the fused kernel goes through its region. -/
theorem U2_of (c : Dev nD) (r : Ref sig .tc) (h : ∀ w, Pipeline.arrRef spec0 w = r → (cfg0.win w).isOut = false) : U2 m c (Proc.devRef .tc r) = U1 m c (Proc.devRef .tc r) :=
  Pipeline.afterRegion_keeps (dat0 (U1 m) c) (U1 m c) launch0.win.arr_inj (fun _ => rfl) r h

/-- A buffer that is no output of the counting kernel goes through its region. -/
theorem U3_of (c : Dev nD) (r : Ref sig .tc) (h : ∀ w, Pipeline.arrRef spec1 w = r → (cfg1.win w).isOut = false) : U3 m c (Proc.devRef .tc r) = U2 m c (Proc.devRef .tc r) :=
  Pipeline.afterRegion_keeps (dat1 (U2 m) c) (U2 m c) launch1.win.arr_inj (fun _ => rfl) r h

/-- A buffer the last reshapes do not write goes through them. -/
theorem U4_of (c : Dev nD) (r : Ref sig .tc) (h : r ∉ hostOps2_W) : U4 m c (Proc.devRef .tc r) = U3 m c (Proc.devRef .tc r) :=
  StableHlo.after_of_writes_sub hostOps2 _ hostOps2_writes h

/-- Argument 0 ends as launched. -/
theorem U4_arg0 (c : Dev nD) : U4 m c (Proc.devRef .tc main_arg0) = m ((c : Thread nD τ).loc main_arg0) :=
  (U4_of m c main_arg0 (by decide)).trans <| (U3_of m c main_arg0 (by decide)).trans <| (U2_of m c main_arg0 (by decide)).trans (U1_of m c main_arg0 (by decide))
/-- Argument 1 ends as launched. -/
theorem U4_arg1 (c : Dev nD) : U4 m c (Proc.devRef .tc main_arg1) = m ((c : Thread nD τ).loc main_arg1) :=
  (U4_of m c main_arg1 (by decide)).trans <| (U3_of m c main_arg1 (by decide)).trans <| (U2_of m c main_arg1 (by decide)).trans (U1_of m c main_arg1 (by decide))
/-- Argument 2 ends as launched. -/
theorem U4_arg2 (c : Dev nD) : U4 m c (Proc.devRef .tc main_arg2) = m ((c : Thread nD τ).loc main_arg2) :=
  (U4_of m c main_arg2 (by decide)).trans <| (U3_of m c main_arg2 (by decide)).trans <| (U2_of m c main_arg2 (by decide)).trans (U1_of m c main_arg2 (by decide))
/-- Argument 3 ends as launched. -/
theorem U4_arg3 (c : Dev nD) : U4 m c (Proc.devRef .tc main_arg3) = m ((c : Thread nD τ).loc main_arg3) :=
  (U4_of m c main_arg3 (by decide)).trans <| (U3_of m c main_arg3 (by decide)).trans <| (U2_of m c main_arg3 (by decide)).trans (U1_of m c main_arg3 (by decide))
/-- Argument 4 ends as launched. -/
theorem U4_arg4 (c : Dev nD) : U4 m c (Proc.devRef .tc main_arg4) = m ((c : Thread nD τ).loc main_arg4) :=
  (U4_of m c main_arg4 (by decide)).trans <| (U3_of m c main_arg4 (by decide)).trans <| (U2_of m c main_arg4 (by decide)).trans (U1_of m c main_arg4 (by decide))
/-- Argument 5 ends as launched. -/
theorem U4_arg5 (c : Dev nD) : U4 m c (Proc.devRef .tc main_arg5) = m ((c : Thread nD τ).loc main_arg5) :=
  (U4_of m c main_arg5 (by decide)).trans <| (U3_of m c main_arg5 (by decide)).trans <| (U2_of m c main_arg5 (by decide)).trans (U1_of m c main_arg5 (by decide))
/-- Argument 6 ends as launched. -/
theorem U4_arg6 (c : Dev nD) : U4 m c (Proc.devRef .tc main_arg6) = m ((c : Thread nD τ).loc main_arg6) :=
  (U4_of m c main_arg6 (by decide)).trans <| (U3_of m c main_arg6 (by decide)).trans <| (U2_of m c main_arg6 (by decide)).trans (U1_of m c main_arg6 (by decide))
/-- Argument 7 ends as launched. -/
theorem U4_arg7 (c : Dev nD) : U4 m c (Proc.devRef .tc main_arg7) = m ((c : Thread nD τ).loc main_arg7) :=
  (U4_of m c main_arg7 (by decide)).trans <| (U3_of m c main_arg7 (by decide)).trans <| (U2_of m c main_arg7 (by decide)).trans (U1_of m c main_arg7 (by decide))
/-- Argument 8 ends as launched. -/
theorem U4_arg8 (c : Dev nD) : U4 m c (Proc.devRef .tc main_arg8) = m ((c : Thread nD τ).loc main_arg8) :=
  (U4_of m c main_arg8 (by decide)).trans <| (U3_of m c main_arg8 (by decide)).trans <| (U2_of m c main_arg8 (by decide)).trans (U1_of m c main_arg8 (by decide))

/-- What the program leaves in its result `main_v6_0`. -/
theorem U4_main_v6_0 (c : Dev nD) : U4 m c (Proc.devRef .tc main_v6_0) = out9 (U1 m c) :=
  (U4_of m c main_v6_0 (by decide)).trans <| (U3_of m c main_v6_0 (by decide)).trans <|
    (Pipeline.afterRegion_arr (dat0 (U1 m) c) (U1 m c) launch0.win.arr_inj 9).trans (arrAt0_9 (U1 m) c)

/-- What the program leaves in its result `main_v6_2`. -/
theorem U4_main_v6_2 (c : Dev nD) : U4 m c (Proc.devRef .tc main_v6_2) = out11 (U1 m c) :=
  (U4_of m c main_v6_2 (by decide)).trans <| (U3_of m c main_v6_2 (by decide)).trans <|
    (Pipeline.afterRegion_arr (dat0 (U1 m) c) (U1 m c) launch0.win.arr_inj 11).trans (arrAt0_11 (U1 m) c)

/-- The points' features before the last reshape. -/
theorem U3_main_v6_1 (c : Dev nD) : U3 m c (Proc.devRef .tc main_v6_1) = out10 (U1 m c) :=
  (U3_of m c main_v6_1 (by decide)).trans ((Pipeline.afterRegion_arr (dat0 (U1 m) c) (U1 m c) launch0.win.arr_inj 10).trans (arrAt0_10 (U1 m) c))

/-- The counts before the last reshape. -/
theorem U3_main_v7 (c : Dev nD) : U3 m c (Proc.devRef .tc main_v7) = countsV (F := F) (m ((c : Thread nD τ).loc main_arg5)) := by
  refine (Pipeline.afterRegion_arr (dat1 (U2 m) c) (U2 m c) launch1.win.arr_inj 1).trans ((arrAt1_1 (U2 m) c).trans ?_)
  unfold outC
  refine congrArg (countsV (F := F)) ((read1_0 (F := F) _).trans ?_)
  exact (U2_of m c main_arg5 (by decide)).trans (U1_of m c main_arg5 (by decide))

/-- What the program leaves in its result `main_v8`. -/
theorem U4_main_v8 (c : Dev nD) : U4 m c (Proc.devRef .tc main_v8) = shapeCast S3x200 (countsV (F := F) (m ((c : Thread nD τ).loc main_arg5))) shapeCasts_S3x200x1_S3x200 := by
  rw [← U3_main_v7]
  unfold U4
  after_results
  rfl

/-- What the program leaves in its result `main_v9`. -/
theorem U4_main_v9 (c : Dev nD) : U4 m c (Proc.devRef .tc main_v9) = shapeCast S3x640x384 (out10 (U1 m c)) shapeCasts_S1920x384_S3x640x384 := by
  rw [← U3_main_v6_1]
  unfold U4
  after_results
  rfl

/-- What the fused kernel reads in `main_v0`. -/
theorem U1_main_v0 (c : Dev nD) : U1 m c (Proc.devRef .tc main_v0) = shapeCast S1920x10240 (m ((c : Thread nD τ).loc main_arg0)) shapeCasts_S3x640x10240_S1920x10240 := by
  unfold U1
  after_results
  rfl

/-- What the fused kernel reads in `main_v1`. -/
theorem U1_main_v1 (c : Dev nD) : U1 m c (Proc.devRef .tc main_v1) = shapeCast S1920x1 (m ((c : Thread nD τ).loc main_arg1)) shapeCasts_S3x640_S1920x1 := by
  unfold U1
  after_results
  rfl

/-- What the fused kernel reads in `main_v2`. -/
theorem U1_main_v2 (c : Dev nD) : U1 m c (Proc.devRef .tc main_v2) = shapeCast S1x384 (m ((c : Thread nD τ).loc main_arg3)) shapeCasts_S384_S1x384 := by
  unfold U1
  after_results
  rfl

/-- What the fused kernel reads in `main_v3`. -/
theorem U1_main_v3 (c : Dev nD) : U1 m c (Proc.devRef .tc main_v3) = shapeCast S1x384 (m ((c : Thread nD τ).loc main_arg4)) shapeCasts_S384_S1x384 := by
  unfold U1
  after_results
  rfl

/-- What the fused kernel reads in `main_v4`. -/
theorem U1_main_v4 (c : Dev nD) : U1 m c (Proc.devRef .tc main_v4) = shapeCast S1x192 (m ((c : Thread nD τ).loc main_arg7)) shapeCasts_S192_S1x192 := by
  unfold U1
  after_results
  rfl

/-- What the fused kernel reads in `main_v5`. -/
theorem U1_main_v5 (c : Dev nD) : U1 m c (Proc.devRef .tc main_v5) = shapeCast S1x192 (m ((c : Thread nD τ).loc main_arg8)) shapeCasts_S192_S1x192 := by
  unfold U1
  after_results
  rfl

/-- From any memory whose ids are below 200 and zero counters, every run ends with the four results at their values, the arguments as
    launched and every counter at zero. -/
theorem run_values (hids : ∀ (c : Dev nD) (i : S3x640.Idx), (show BitVec 32 from m ((c : Thread nD τ).loc main_arg5) i).toInt < 200) :
    θ_run defs (onTc (τ := τ) (main (F := F))) ⟨m, fun _ => 0, ρ⟩ (fun r => (∀ c : Dev nD,
      (r.2.mem ((c.tc : Thread nD τ).loc main_v6_0) = out9 (U1 m c)
      ∧ r.2.mem ((c.tc : Thread nD τ).loc main_v8) = shapeCast S3x200 (countsV (F := F) (m ((c : Thread nD τ).loc main_arg5))) shapeCasts_S3x200x1_S3x200
      ∧ r.2.mem ((c.tc : Thread nD τ).loc main_v9) = shapeCast S3x640x384 (out10 (U1 m c)) shapeCasts_S1920x384_S3x640x384
      ∧ r.2.mem ((c.tc : Thread nD τ).loc main_v6_2) = out11 (U1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have hids' : ∀ c (i : S3x640.Idx), (show BitVec 32 from U1 m c (Proc.devRef .tc main_arg5) i).toInt < 200 := fun c i => by
    have e := congrFun (U1_of m c main_arg5 (by decide)) i
    have h := hids c i
    rw [← e] at h
    exact h
  refine (θ_run defs _ _).mono (fun r h => ⟨fun c => ?_, h.2⟩) (run_all m ρ hids')
  have u : ∀ (b : Ref sig .tc), b.isScoped = false → r.2.mem ((c.tc : Thread nD τ).loc b) = U4 m c (Proc.devRef .tc b) := fun b hb =>
    h.1 c (Proc.devRef .tc b) (Finset.mem_filter.mpr ⟨StableHlo.devRef_mem_tcRefs b, by rw [show (Proc.devRef .tc b : DevRef τ sig).isScoped = b.isScoped from rfl, hb]; exact Bool.false_ne_true⟩)
  exact ⟨⟨(u main_v6_0 (by decide)).trans (U4_main_v6_0 m c), (u main_v8 (by decide)).trans (U4_main_v8 m c),
      (u main_v9 (by decide)).trans (U4_main_v9 m c), (u main_v6_2 (by decide)).trans (U4_main_v6_2 m c)⟩,
    (u main_arg0 (by decide)).trans (U4_arg0 m c),
    (u main_arg1 (by decide)).trans (U4_arg1 m c),
    (u main_arg2 (by decide)).trans (U4_arg2 m c),
    (u main_arg3 (by decide)).trans (U4_arg3 m c),
    (u main_arg4 (by decide)).trans (U4_arg4 m c),
    (u main_arg5 (by decide)).trans (U4_arg5 m c),
    (u main_arg6 (by decide)).trans (U4_arg6 m c),
    (u main_arg7 (by decide)).trans (U4_arg7 m c),
    (u main_arg8 (by decide)).trans (U4_arg8 m c)⟩

end Cert.Kernel.Hand
end
-- ==== Proof.KernelIdeal.Rows.lean ====
module

public import proofs.«01_k».proof.Proof.Gen.KernelIdeal.Loops
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first row of a block's scene, as the kernel computes it: the scene's number times 200. -/
def sceneRow (k0_t1 : Fin k0_t1_loop.trips) : BitVec 32 :=
  let c0_i32_159 : BitVec 32 := 0#32
  let c0_i32 : BitVec 32 := 0#32
  let c1_i32 : BitVec 32 := 1#32
  let arg16 : BitVec 32 := Scf.iv c0_i32 c1_i32 k0_t1
  let c128_i32 : BitVec 32 := 128#32
  let v127 : BitVec 32 := Scalar.muli arg16 c128_i32
  let v128 : BitVec 32 := v127
  let c0_i32_136 : BitVec 32 := 0#32
  let v181 : BitVec 1 := Scalar.cmpi .sgt v128 c0_i32_136
  let v182 : BitVec 32 := Scalar.extui v181
  let c0_i32_137 : BitVec 32 := 0#32
  let v183 : BitVec 1 := Scalar.cmpi .slt v128 c0_i32_137
  let v184 : BitVec 32 := Scalar.extui v183
  let v185 : BitVec 32 := Scalar.subi v182 v184
  let c640_i32 : BitVec 32 := 640#32
  let c0_i32_138 : BitVec 32 := 0#32
  let v186 : BitVec 1 := Scalar.cmpi .sgt c640_i32 c0_i32_138
  let v187 : BitVec 32 := Scalar.extui v186
  let c0_i32_139 : BitVec 32 := 0#32
  let v188 : BitVec 1 := Scalar.cmpi .slt c640_i32 c0_i32_139
  let v189 : BitVec 32 := Scalar.extui v188
  let v190 : BitVec 32 := Scalar.subi v187 v189
  let v191 : BitVec 1 := Scalar.cmpi .ne v185 v190
  let v192 : BitVec 32 := Scalar.remsi v128 c640_i32
  let c0_i32_140 : BitVec 32 := 0#32
  let v193 : BitVec 1 := Scalar.cmpi .ne v192 c0_i32_140
  let v194 : BitVec 1 := Scalar.andi v191 v193
  let v180 : BitVec 32 := Scalar.divsi v128 c640_i32
  let c1_i32_141 : BitVec 32 := 1#32
  let v195 : BitVec 32 := Scalar.subi v180 c1_i32_141
  let v196 : BitVec 32 := Scalar.select v194 v195 v180
  let c200_i32 : BitVec 32 := 200#32
  let v197 : BitVec 32 := Scalar.muli v196 c200_i32
  v197

/-- The first table row of block `k1`'s scene, as a word: 200 rows a scene, five blocks a scene. -/
theorem sceneRow_eq : ∀ k1 : Fin k0_t1_loop.trips, sceneRow k1 = BitVec.ofNat 32 (200 * (k1.val / 5)) := by decide +kernel

/-- The row of the table that a point of block `k1` with voxel id `v` belongs to. -/
def rowAt (k1 : ℕ) (v : BitVec 32) : ℕ := if 0 ≤ v.toInt then 200 * (k1 / 5) + v.toNat else 600

/-- The outer loop runs over 15 blocks. -/
theorem trips1 : k0_t1_loop.trips = 15 := by decide +kernel
/-- The inner loop runs over 128 points. -/
theorem trips2 : k0_t2_loop.trips = 128 := by decide +kernel

/-- The row word the kernel computes for an id below 200 holds the point's row. -/
theorem row_word (k1 : Fin k0_t1_loop.trips) (v : BitVec 32) (hv : v.toInt < 200) :
    (Scalar.select (Scalar.cmpi .sge v 0#32) (Scalar.addi (sceneRow k1) v) 600#32).toNat = rowAt k1.val v := by
  have hk : k1.val < 15 := trips1 ▸ k1.isLt
  rw [sceneRow_eq]
  unfold rowAt
  by_cases h : 0 ≤ v.toInt
  · rw [if_pos h]
    have e : Scalar.cmpi .sge v 0#32 = 1#1 := by
      simp [Scalar.cmpi, IntOp.cmpi, BitVec.sle, h]
    rw [e]
    have hv' : v.toNat < 200 := by
      have := v.isLt
      rw [BitVec.toInt_eq_toNat_cond] at h hv
      split at h <;> split at hv <;> omega
    simp [Scalar.select, Scalar.addi, IntOp.addi, BitVec.toNat_add]
    omega
  · rw [if_neg h]
    have e : Scalar.cmpi .sge v 0#32 = 0#1 := by
      simp [Scalar.cmpi, IntOp.cmpi, BitVec.sle, h]
    rw [e]
    rfl

/-- The row of a point whose id is below 200 lies within the table. -/
theorem rowAt_lt (k1 : Fin k0_t1_loop.trips) (v : BitVec 32) (hv : v.toInt < 200) : rowAt k1.val v < 608 := by
  have hk : k1.val < 15 := trips1 ▸ k1.isLt
  unfold rowAt
  split
  · rename_i h
    have := v.isLt
    rw [BitVec.toInt_eq_toNat_cond] at h hv
    split at h <;> split at hv <;> omega
  · omega

/-- Where the first slab's update stands: at the point's row. -/
theorem off5_eq (k1 : Fin k0_t1_loop.trips) (v : BitVec 32) (hv : v.toInt < 200) : k0_off5 k1 v = ![0, rowAt k1.val v, 0] := by rw [← row_word k1 v hv]; rfl
/-- Where the second slab's update stands. -/
theorem off7_eq (k1 : Fin k0_t1_loop.trips) (v : BitVec 32) (hv : v.toInt < 200) : k0_off7 k1 v = ![1, rowAt k1.val v, 0] := by rw [← row_word k1 v hv]; rfl
/-- Where the third slab's update stands. -/
theorem off9_eq (k1 : Fin k0_t1_loop.trips) (v : BitVec 32) (hv : v.toInt < 200) : k0_off9 k1 v = ![2, rowAt k1.val v, 0] := by rw [← row_word k1 v hv]; rfl
/-- Where the fourth slab's update stands. -/
theorem off11_eq (k1 : Fin k0_t1_loop.trips) (v : BitVec 32) (hv : v.toInt < 200) : k0_off11 k1 v = ![3, rowAt k1.val v, 0] := by rw [← row_word k1 v hv]; rfl
/-- Where the last slab's update stands. -/
theorem off13_eq (k1 : Fin k0_t1_loop.trips) (v : BitVec 32) (hv : v.toInt < 200) : k0_off13 k1 v = ![4, rowAt k1.val v, 0] := by rw [← row_word k1 v hv]; rfl

/-- The word read for point `k2` of block `k1` is the id of point `128 k1 + k2`. -/
theorem off4_eq : ∀ (k1 : Fin k0_t1_loop.trips) (k2 : Fin k0_t2_loop.trips), k0_off4 k1 k2 = ![(128 * k1.val + k2.val) / 640, (128 * k1.val + k2.val) % 640] := by decide +kernel

/-- Where the second slab's features of point `k2` stand in the scratch. -/
theorem off8_eq : ∀ k2 : Fin k0_t2_loop.trips, k0_off8 k2 = ![1, k2.val, 0] := by decide +kernel

/-- A row within the table is in bounds in every slab: what the body assumes of each id. -/
theorem chk_of (k1 : Fin k0_t1_loop.trips) (v : BitVec 32) (hv : v.toInt < 200) : k0_chk1 k1 v := by
  have h := rowAt_lt k1 v hv
  unfold k0_chk1
  rw [off5_eq k1 v hv, off7_eq k1 v hv, off9_eq k1 v hv, off11_eq k1 v hv, off13_eq k1 v hv]
  refine ⟨?_, ?_, ?_, ?_, ?_⟩ <;> (intro a; fin_cases a <;> simp <;> omega)

end Cert.KernelIdeal.Hand
end
-- ==== Proof.KernelIdeal.Trip.lean ====
module

public import proofs.«01_k».proof.Proof.KernelIdeal.Rows
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a buffer behind a whole memref holds. -/
abbrev Bf (c : Dev nD) {sp : Space} {S : Shape} {e : EltTy} (M : Memref sig .tc sp S e) : Type := Buf (Elt F) (M.view.loc (c : Thread nD τ))

/-- The memref's buffer held whole at contents `f`. -/
abbrev pt (c : Dev nD) {sp : Space} {S : Shape} {e : EltTy} (M : Memref sig .tc sp S e) (f : Bf (F := F) c M) : sProp 𝕄G :=
  M.view.loc (c : Thread nD τ) ↦{fullShare} f

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- Where the id of point `n` stands: its scene and its place in the scene. -/
def pointIdx (n : ℕ) : S3x640.Idx := fun a => match a with
  | 0 => ⟨n / 640 % 3, Nat.mod_lt _ (by decide)⟩
  | 1 => ⟨n % 640, Nat.mod_lt _ (by decide)⟩

/-- The id a trip reads is the id of its point. -/
theorem word_eq {κ : Kind} {sp : Space} (v : View sig κ sp S3x640 .i32) (f : v.ty.Contents (Elt F)) (k1 : Fin k0_t1_loop.trips) (k2 : Fin k0_t2_loop.trips)
    (x : (Rect.unit (s := S3x640) (k0_off4 k1 k2) S1x1.size (k0_off4_inb k1 k2)).toLoadRect.shape.Idx) :
    v.readAt (Elt F) (Rect.unit (s := S3x640) (k0_off4 k1 k2) S1x1.size (k0_off4_inb k1 k2)).toLoadRect f x = v.read (Elt F) f (pointIdx (128 * k1.val + k2.val)) := by
  have hk1 : k1.val < 15 := trips1 ▸ k1.isLt
  have hk2 : k2.val < 128 := trips2 ▸ k2.isLt
  have h0 : (x 0).val < 1 := (x 0).isLt
  have h1 : (x 1).val < 1 := (x 1).isLt
  show v.read (Elt F) f _ = _
  congr 1
  funext a
  apply Fin.ext
  fin_cases a
  · show k0_off4 k1 k2 0 + 1 * (x 0).val = (128 * k1.val + k2.val) / 640 % 3
    have e : k0_off4 k1 k2 0 = (128 * k1.val + k2.val) / 640 := congrFun (off4_eq k1 k2) 0
    rw [Nat.one_mul]
    omega
  · show k0_off4 k1 k2 1 + 1 * (x 1).val = (128 * k1.val + k2.val) % 640
    have e : k0_off4 k1 k2 1 = (128 * k1.val + k2.val) % 640 := congrFun (off4_eq k1 k2) 1
    rw [Nat.one_mul]
    omega

/-- One point's update: its row of every slab becomes the maximum of what stands there and the point's features. -/
def bump (T : S5x608x128.Idx → F .f32) (G : S5x128x128.Idx → F .f32) (r : ℕ) (p : Fin 128) : S5x608x128.Idx → F .f32 :=
  fun i => if (i 1).val = r then FloatOps.maximumf (T i) (G (fun a => match a with | 0 => i 0 | 1 => p | 2 => i 2)) else T i

/-- The same update in one slab alone. -/
def slabBump (j r : ℕ) (p : Fin 128) (T : S5x608x128.Idx → F .f32) (G : S5x128x128.Idx → F .f32) : S5x608x128.Idx → F .f32 :=
  fun i => if (i 0).val = j ∧ (i 1).val = r then FloatOps.maximumf (T i) (G (fun a => match a with | 0 => i 0 | 1 => p | 2 => i 2)) else T i

/-- Updating the five slabs one after another updates all of them. -/
theorem slabs_bump (T : S5x608x128.Idx → F .f32) (G : S5x128x128.Idx → F .f32) (r : ℕ) (p : Fin 128) :
    slabBump 4 r p (slabBump 3 r p (slabBump 2 r p (slabBump 1 r p (slabBump 0 r p T G) G) G) G) G = bump T G r p := by
  funext i
  have h5 : (i 0).val < 5 := (i 0).isLt
  unfold slabBump bump
  by_cases hr : (i 1).val = r
  · simp only [hr, and_true, if_true]
    have hc : (i 0).val = 0 ∨ (i 0).val = 1 ∨ (i 0).val = 2 ∨ (i 0).val = 3 ∨ (i 0).val = 4 := by omega
    rcases hc with h | h | h | h | h <;> simp [h]
  · simp only [hr, and_false, if_false]

/-- The first slab's stored row is the larger of the two rows read, lane by lane. -/
theorem pay3_eq (A B : Vec F S1x1x128 .f32) : k0_pay3 (k0_pay2 A) B = maximumf A B := by
  show maximumf (shapeCast S1x1x128 (shapeCast S1x128 A _) _) (shapeCast S1x1x128 (shapeCast S1x128 B _) _) = _
  rw [Idealize.ShloMosaic.shapeCast_shapeCast, Idealize.ShloMosaic.shapeCast_shapeCast]

/-- The second slab's stored row likewise. -/
theorem pay4_eq (A B : Vec F S1x1x128 .f32) : k0_pay4 A B = maximumf A B := pay3_eq A B
/-- The third slab's stored row likewise. -/
theorem pay5_eq (A B : Vec F S1x1x128 .f32) : k0_pay5 A B = maximumf A B := pay3_eq A B
/-- The last slab's stored row likewise. -/
theorem pay20_eq (A B : Vec F S1x1x128 .f32) : k0_pay20 A B = maximumf A B := pay3_eq A B

/-- A slab's store leaves that slab's row at the maximum of the row and the point's features. -/
theorem slab_store {κ : Kind} {sp sp' : Space} (v15 : View sig κ sp S5x608x128 .f32) (v14 : View sig κ sp' S5x128x128 .f32) (f15 : v15.ty.Contents (Elt F)) (f14 : v14.ty.Contents (Elt F))
    (L : List (View.Piece (Elt F) S5x608x128 .f32)) (off off14 : Fin 3 → ℕ) (inb : ∀ a, off a + S1x1x128.size a ≤ S5x608x128.size a) (inb14 : ∀ a, off14 a + S1x1x128.size a ≤ S5x128x128.size a)
    (j r : ℕ) (p : Fin 128) (h : off = ![j, r, 0]) (h14 : off14 = ![j, p.val, 0]) (P : FVec F S1x1x128 .f32)
    (hP : P = maximumf (F := F) (s := S1x1x128) (v15.readAt (Elt F) (Rect.unit (s := S5x608x128) off S1x1x128.size inb).toLoadRect (v15.writes (Elt F) f15 L))
          (v14.readAt (Elt F) (Rect.unit (s := S5x128x128) off14 S1x1x128.size inb14).toLoadRect f14)) :
    v15.read (Elt F) (v15.writes (Elt F) f15 (⟨Rect.unit (s := S5x608x128) off S1x1x128.size inb, P⟩ :: L))
      = slabBump j r p (v15.read (Elt F) (v15.writes (Elt F) f15 L)) (v14.read (Elt F) f14) := by
  subst h h14 hP
  funext i
  rw [View.read_writes_cons_unit v15 f15 inb _ L i rfl]
  unfold slabBump
  have hi2 : (i 2).val < 128 := (i 2).isLt
  have hiff : (∀ a : Fin 3, (![j, r, 0] : Fin 3 → ℕ) a ≤ (i a).val ∧ (i a).val < (![j, r, 0] : Fin 3 → ℕ) a + S1x1x128.size a) ↔ ((i 0).val = j ∧ (i 1).val = r) := by
    constructor
    · intro h
      have h0 := h 0
      have h1 := h 1
      simp at h0 h1
      omega
    · rintro ⟨h0, h1⟩ a
      fin_cases a <;> simp <;> omega
  by_cases hc : (i 0).val = j ∧ (i 1).val = r
  · rw [dif_pos (hiff.mpr hc), if_pos hc]
    show FloatOps.maximumf (v15.read (Elt F) (v15.writes (Elt F) f15 L) _) (v14.read (Elt F) f14 _) = _
    congr 1
    · congr 1
      funext a
      apply Fin.ext
      fin_cases a
      · show j + 1 * ((i 0).val - j) = (i 0).val
        omega
      · show r + 1 * ((i 1).val - r) = (i 1).val
        omega
      · show 0 + 1 * ((i 2).val - 0) = (i 2).val
        omega
    · congr 1
      funext a
      apply Fin.ext
      fin_cases a
      · show j + 1 * ((i 0).val - j) = (i 0).val
        omega
      · show p.val + 1 * ((i 1).val - r) = p.val
        omega
      · show 0 + 1 * ((i 2).val - 0) = (i 2).val
        omega
  · rw [dif_neg (fun h => hc (hiff.mp h)), if_neg hc]

set_option maxHeartbeats 4000000 in
/-- One trip of the inner loop: it reads its point's id and updates the table at the point's row, and leaves all else as it was. -/
theorem trip2 (𝒱 : Variants) (c : Dev nD) (bd : Option 𝒱.V) (E : Set ℕ) (k1 : Fin k0_t1_loop.trips) (v128 v197 w : BitVec 32) (k2 : Fin k0_t2_loop.trips)
    (f0 : Bf (F := F) c arg0) (f14 : Bf (F := F) c arg14) (f15 : Bf (F := F) c arg15) (hids : ∀ i, (show BitVec 32 from arg0.view.read (Elt F) f0 i).toInt < 200) :
    iprop(pt c arg0 f0 ∗ pt c arg14 f14 ∗ pt c arg15 f15)
      ⊢ wp Idealize.ShloMosaic.frame (wpE defs₀ 𝒱 (c : Thread nD τ) bd) E
        (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k1 v128 v197 w k2 ())
        (fun _ => iprop(pt c arg0 f0 ∗ pt c arg14 f14 ∗ ∃ f, pt c arg15 f ∗ ⌜arg15.view.read (Elt F) f = bump (arg15.view.read (Elt F) f15) (arg14.view.read (Elt F) f14)
          (rowAt k1.val (arg0.view.read (Elt F) f0 (pointIdx (128 * k1.val + k2.val)))) ⟨k2.val, trips2 ▸ k2.isLt⟩⌝)) := by
  unfold k0_t2_body
  have hw : k0_chk1 k1 (arg0.view.readAt (Elt F) (Rect.unit (s := S3x640) (k0_off4 k1 k2) S1x1.size (k0_off4_inb k1 k2)).toLoadRect f0 (Shape.Idx.first (numel1_S1x1.symm ▸ Nat.one_pos))) :=
    chk_of _ _ (hids _)
  iintro ⟨H0, H14, H15⟩
  sl_exec
  sl_step
  isplitl [H0]; · iexact H0
  isplitl [H14]; · iexact H14
  iexists _
  isplitl [H15]; · iexact H15
  ipureintro
  have hwd := word_eq arg0.view f0 k1 k2 (Shape.Idx.first (numel1_S1x1.symm ▸ Nat.one_pos))
  rw [← slabs_bump]
  refine (slab_store arg15.view arg14.view f15 f14 _ _ _ _ (k0_off14_inb k2) 4 _ ⟨k2.val, trips2 ▸ k2.isLt⟩ ((off13_eq k1 _ (hids _)).trans (congrArg (fun u : BitVec 32 => ![4, rowAt k1.val u, 0]) hwd)) (k0_off14_eq _) _ (pay20_eq _ _)).trans ?_
  refine congrArg (fun T => slabBump 4 _ _ T _) ?_
  unfold trip2.sl.H15_4
  refine (slab_store arg15.view arg14.view f15 f14 _ _ _ _ (k0_off12_inb k2) 3 _ ⟨k2.val, trips2 ▸ k2.isLt⟩ ((off11_eq k1 _ (hids _)).trans (congrArg (fun u : BitVec 32 => ![3, rowAt k1.val u, 0]) hwd)) (k0_off12_eq _) _ (pay20_eq _ _)).trans ?_
  refine congrArg (fun T => slabBump 3 _ _ T _) ?_
  unfold trip2.sl.H15_3
  refine (slab_store arg15.view arg14.view f15 f14 _ _ _ _ (k0_off10_inb k2) 2 _ ⟨k2.val, trips2 ▸ k2.isLt⟩ ((off9_eq k1 _ (hids _)).trans (congrArg (fun u : BitVec 32 => ![2, rowAt k1.val u, 0]) hwd)) (k0_off10_eq _) _ (pay5_eq _ _)).trans ?_
  refine congrArg (fun T => slabBump 2 _ _ T _) ?_
  unfold trip2.sl.H15_2
  refine (slab_store arg15.view arg14.view f15 f14 _ _ _ _ (k0_off8_inb k2) 1 _ ⟨k2.val, trips2 ▸ k2.isLt⟩ ((off7_eq k1 _ (hids _)).trans (congrArg (fun u : BitVec 32 => ![1, rowAt k1.val u, 0]) hwd)) (off8_eq _) _ (pay4_eq _ _)).trans ?_
  refine congrArg (fun T => slabBump 1 _ _ T _) ?_
  unfold trip2.sl.H15_1
  refine (slab_store arg15.view arg14.view f15 f14 _ _ _ _ (k0_off6_inb k2) 0 _ ⟨k2.val, trips2 ▸ k2.isLt⟩ ((off5_eq k1 _ (hids _)).trans (congrArg (fun u : BitVec 32 => ![0, rowAt k1.val u, 0]) hwd)) (k0_off6_eq _) _ (pay3_eq _ _)).trans ?_
  refine congrArg (fun T => slabBump 0 _ _ T _) ?_
  rfl

end Cert.KernelIdeal.Hand
end
-- ==== Proof.KernelIdeal.Vals.lean ====
module

public import proofs.«01_k».proof.Proof.KernelIdeal.Trip
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! The contents of the scratch and of the three outputs, written as functions of what the kernel's operands hold. -/

section Values

variable (I : S3x640.Idx → BitVec 32) (X : S1920x10240.Idx → Elt F .i8) (XS : S1920x1.Idx → F .f32) (WB : S10240x384.Idx → F .bf16)
  (WS B : S1x384.Idx → F .f32) (W2 : S2x384x192.Idx → F .bf16) (W2S : S1x192.Idx → F .f32)

/-- The 128 rows of block `b` of the points' inputs. -/
def blkX (b : ℕ) : Vec F S128x10240 .i8 := fun i => X (fun a => match a with
  | 0 => ⟨(128 * b + (i 0).val) % 1920, Nat.mod_lt _ (by decide)⟩
  | 1 => i 1)

/-- The 128 scales of block `b`. -/
def blkXS (b : ℕ) : Vec F S128x1 .f32 := fun i => XS (fun a => match a with
  | 0 => ⟨(128 * b + (i 0).val) % 1920, Nat.mod_lt _ (by decide)⟩
  | 1 => i 1)

/-- The first slab of the second layer's weights: the half that multiplies the point's own features. -/
def w2top : Vec F S1x384x192 .bf16 := fun i => W2 (fun a => match a with
  | 0 => (⟨0, by decide⟩ : Fin 2)
  | 1 => i 1
  | 2 => i 2)

/-- Block `b`'s first-layer features. -/
def hBlk (b : ℕ) : FVec F S128x384 .f32 := k0_pay7 (blkX X b) WB (blkXS XS b) WS B

/-- Block `b`'s first-layer features as stored. -/
def hbBlk (b : ℕ) : FVec F S128x384 .bf16 := k0_pay8 (blkX X b) WB (blkXS XS b) WS B

/-- Block `b`'s products with the first half of the second layer's weights. -/
def aBlk (b : ℕ) : FVec F S128x192 .f32 := k0_pay9 (blkX X b) WB (blkXS XS b) WS B (w2top W2) W2S

/-- What a block's three-slab features and two-slab products look like in the scratch. -/
def gOf (h : FVec F S128x384 .f32) (a : FVec F S128x192 .f32) : S5x128x128.Idx → F .f32 := fun i =>
  if h0 : (i 0).val < 3 then h (fun x => match x with | 0 => i 1 | 1 => ⟨128 * (i 0).val + (i 2).val, by have := (i 2).isLt; change _ < 128 at this; change _ < 384; omega⟩)
  else if h3 : (i 0).val = 3 then a (fun x => match x with | 0 => i 1 | 1 => ⟨(i 2).val, by have := (i 2).isLt; change _ < 128 at this; change _ < 192; omega⟩)
  else if h4 : (i 2).val < 64 then a (fun x => match x with | 0 => i 1 | 1 => ⟨128 + (i 2).val, by change _ < 192; omega⟩)
  else Scalar.ofBits .f32 0x00000000#32

/-- Block `b`'s features and products, as the inner loop reads them. -/
def gBlk (b : ℕ) : S5x128x128.Idx → F .f32 := gOf (hBlk X XS WB WS B b) (aBlk X XS WB WS B W2 W2S b)

/-- The table after the first `n` points. -/
def tabP : ℕ → S5x608x128.Idx → F .f32
  | 0 => k0_pay17
  | n + 1 => bump (tabP n) (gBlk X XS WB WS B W2 W2S (n / 128)) (rowAt (n / 128) (I (pointIdx n))) ⟨n % 128, Nat.mod_lt _ (by decide)⟩

/-- What the points' features output holds: each row its block's row. -/
def pfV : S1920x384.Idx → F .bf16 := fun i => hbBlk X XS WB WS B ((i 0).val / 128) (fun a => match a with
  | 0 => ⟨(i 0).val % 128, Nat.mod_lt _ (by decide)⟩
  | 1 => i 1)

end Values
end Cert.KernelIdeal.Hand
end
-- ==== Proof.KernelIdeal.Blocks.lean ====
module

public import proofs.«01_k».proof.Proof.KernelIdeal.Vals
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A load of block `k1`'s rows of the points' features. -/
theorem load_blkX {κ : Kind} {sp : Space} (v : View sig κ sp S1920x10240 .i8) (f : v.ty.Contents (Elt F)) (k1 : Fin k0_t1_loop.trips) :
    v.readAt (Elt F) (Rect.unit (s := S1920x10240) (k0_off1 k1) S128x10240.size (k0_off1_inb k1)).toLoadRect f = blkX (F := F) (v.read (Elt F) f) k1.val := by
  have hk : k1.val < 15 := trips1 ▸ k1.isLt
  funext x
  have h0 : (x 0).val < 128 := (x 0).isLt
  show v.read (Elt F) f _ = v.read (Elt F) f _
  congr 1
  funext a
  apply Fin.ext
  fin_cases a
  · show k0_off1 k1 0 + 1 * (x 0).val = (128 * k1.val + (x 0).val) % 1920
    have e : k0_off1 k1 0 = 128 * k1.val := congrFun (k0_off1_eq k1) 0
    rw [Nat.one_mul]
    omega
  · show k0_off1 k1 1 + 1 * (x 1).val = (x 1).val
    have e : k0_off1 k1 1 = 0 := congrFun (k0_off1_eq k1) 1
    rw [Nat.one_mul]
    omega

/-- A load of block `k1`'s scales. -/
theorem load_blkXS {κ : Kind} {sp : Space} (v : View sig κ sp S1920x1 .f32) (f : v.ty.Contents (Elt F)) (k1 : Fin k0_t1_loop.trips) :
    v.readAt (Elt F) (Rect.unit (s := S1920x1) (k0_off2 k1) S128x1.size (k0_off2_inb k1)).toLoadRect f = blkXS (F := F) (v.read (Elt F) f) k1.val := by
  have hk : k1.val < 15 := trips1 ▸ k1.isLt
  funext x
  have h0 : (x 0).val < 128 := (x 0).isLt
  show v.read (Elt F) f _ = v.read (Elt F) f _
  congr 1
  funext a
  apply Fin.ext
  fin_cases a
  · show k0_off2 k1 0 + 1 * (x 0).val = (128 * k1.val + (x 0).val) % 1920
    have e : k0_off2 k1 0 = 128 * k1.val := congrFun (k0_off2_eq k1) 0
    rw [Nat.one_mul]
    omega
  · show k0_off2 k1 1 + 1 * (x 1).val = (x 1).val
    have e : k0_off2 k1 1 = 0 := congrFun (k0_off2_eq k1) 1
    rw [Nat.one_mul]
    omega

/-- A load of the first slab of the second layer's weights. -/
theorem load_w2top {κ : Kind} {sp : Space} (v : View sig κ sp S2x384x192 .bf16) (f : v.ty.Contents (Elt F)) :
    v.readAt (Elt F) (Rect.unit (s := S2x384x192) ![0, 0, 0] S1x384x192.size inb_S2x384x192_S1x384x192_0_0_0).toLoadRect f = w2top (F := F) (v.read (Elt F) f) := by
  funext x
  have h0 : (x 0).val < 1 := (x 0).isLt
  show v.read (Elt F) f _ = v.read (Elt F) f _
  congr 1
  funext a
  apply Fin.ext
  fin_cases a
  · show 0 + 1 * (x 0).val = 0
    omega
  · show 0 + 1 * (x 1).val = (x 1).val
    omega
  · show 0 + 1 * (x 2).val = (x 2).val
    omega

/-- The row and lane of a point's features, for a store of a block of rows. -/
theorem read_rows {κ : Kind} {sp : Space} (v : View sig κ sp S1920x384 .bf16) (f : v.ty.Contents (Elt F)) (k1 : Fin k0_t1_loop.trips) (P : FVec F S128x384 .bf16) (V : S1920x384.Idx → F .bf16)
    (hP : ∀ i : S1920x384.Idx, (i 0).val / 128 = k1.val → P (fun a => match a with | 0 => ⟨(i 0).val % 128, Nat.mod_lt _ (by decide)⟩ | 1 => i 1) = V i)
    (h : ∀ i : S1920x384.Idx, (i 0).val < 128 * k1.val → v.read (Elt F) f i = V i) (i : S1920x384.Idx) (hi : (i 0).val < 128 * (k1.val + 1)) :
    v.read (Elt F) (v.writes (Elt F) f [⟨Rect.unit (s := S1920x384) (k0_off3 k1) S128x384.size (k0_off3_inb k1), P⟩]) i = V i := by
  refine (View.read_writes_cons_unit v f (k0_off3_inb k1) P [] i (k0_off3_eq k1)).trans ?_
  have hi1 : (i 1).val < 384 := (i 1).isLt
  by_cases hc : 128 * k1.val ≤ (i 0).val
  · have hm : ∀ a : Fin 2, (![128 * k1.val, 0] : Fin 2 → ℕ) a ≤ (i a).val ∧ (i a).val < (![128 * k1.val, 0] : Fin 2 → ℕ) a + S128x384.size a := by
      intro a
      fin_cases a <;> simp <;> omega
    rw [dif_pos hm, ← hP i (by omega)]
    congr 1
    funext a
    apply Fin.ext
    fin_cases a
    · show (i 0).val - 128 * k1.val = (i 0).val % 128
      omega
    · show (i 1).val - 0 = (i 1).val
      omega
  · have hm : ¬ ∀ a : Fin 2, (![128 * k1.val, 0] : Fin 2 → ℕ) a ≤ (i a).val ∧ (i a).val < (![128 * k1.val, 0] : Fin 2 → ℕ) a + S128x384.size a := by
      intro h
      have := (h 0).1
      simp at this
      omega
    rw [dif_neg hm]
    exact h i (by omega)

/-- An index's row and lane within its slab. -/
def gIdx (i : S5x128x128.Idx) : S1x128x128.Idx := fun a => match a with
  | 0 => (⟨0, by decide⟩ : Fin 1)
  | 1 => i 1
  | 2 => i 2

/-- The same, within the last slab's 64 lanes. -/
def gIdx64 (i : S5x128x128.Idx) (h : (i 2).val < 64) : S1x128x64.Idx := fun a => match a with
  | 0 => (⟨0, by decide⟩ : Fin 1)
  | 1 => i 1
  | 2 => (⟨(i 2).val, h⟩ : Fin 64)

/-- The five stores into the scratch leave in it the block's features and products. -/
theorem read_g {κ : Kind} {sp : Space} (v : View sig κ sp S5x128x128 .f32) (f : v.ty.Contents (Elt F)) (h : FVec F S128x384 .f32) (a : FVec F S128x192 .f32) (P0 : FVec F S1x128x128 .f32)
    (hP0 : P0 = shapeCast S1x128x128 (extractStridedSlice S128x128 ![0, 0] h slices_S128x384_o0_0_S128x128) shapeCasts_S128x128_S1x128x128)
    (hz : ∀ i : S5x128x128.Idx, (i 0).val = 4 → 64 ≤ (i 2).val → v.read (Elt F) f i = Scalar.ofBits .f32 0x00000000#32) :
    v.read (Elt F) (v.writes (Elt F) f
      [⟨Rect.unit (s := S5x128x128) ![4, 0, 0] S1x128x64.size inb_S5x128x128_S1x128x64_4_0_0, k0_pay14 a⟩,
       ⟨Rect.unit (s := S5x128x128) ![3, 0, 0] S1x128x128.size inb_S5x128x128_S1x128x128_3_0_0, k0_pay13 a⟩,
       ⟨Rect.unit (s := S5x128x128) ![2, 0, 0] S1x128x128.size inb_S5x128x128_S1x128x128_2_0_0, k0_pay12 h⟩,
       ⟨Rect.unit (s := S5x128x128) ![1, 0, 0] S1x128x128.size inb_S5x128x128_S1x128x128_1_0_0, k0_pay11 h⟩,
       ⟨Rect.unit (s := S5x128x128) ![0, 0, 0] S1x128x128.size inb_S5x128x128_S1x128x128_0_0_0, P0⟩]) = gOf h a := by
  subst hP0
  funext i
  have h0 : (i 0).val < 5 := (i 0).isLt
  have h1 : (i 1).val < 128 := (i 1).isLt
  have h2 : (i 2).val < 128 := (i 2).isLt
  have hc : (i 0).val = 0 ∨ (i 0).val = 1 ∨ (i 0).val = 2 ∨ (i 0).val = 3 ∨ (i 0).val = 4 := by omega
  rcases hc with hc | hc | hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 0 + (i 2).val = 128 * (i 0).val + (i 2).val
        omega
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay11
      refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 128 + (i 2).val = 128 * (i 0).val + (i 2).val
        omega
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay12
      refine (shapeCast_addUnit_apply ![128, 128] _ shapeCasts_S128x128_S1x128x128 (gIdx i)).trans ?_
      unfold gOf
      rw [dif_pos (show (i 0).val < 3 by omega)]
      show h _ = h _
      congr 1
      funext x
      apply Fin.ext
      fin_cases x
      · show 0 + (i 1).val = (i 1).val
        omega
      · show 256 + (i 2).val = 128 * (i 0).val + (i 2).val
        omega
  · refine (View.read_writes_cons_unit_of_not_mem v f _ _ _ i rfl (0 : Fin 3) (by simp [hc])).trans ?_
    refine (View.read_writes_cons_unit_of_mem v f _ _ _ i (gIdx i) rfl ?_).trans ?_
    · intro x; fin_cases x <;> simp [gIdx, hc]
    · unfold k0_pay13
      refine (shapeCast_addUnit_apply ![128, 128] _ shapeCasts_S128x128_S1x128x128 (gIdx i)).trans ?_
      unfold gOf
      rw [dif_neg (show ¬ (i 0).val < 3 by omega), dif_pos hc]
      show a _ = a _
      congr 1
      funext x
      apply Fin.ext
      fin_cases x
      · show 0 + (i 1).val = (i 1).val
        omega
      · show 0 + (i 2).val = (i 2).val
        omega
  · by_cases h64 : (i 2).val < 64
    · refine (View.read_writes_cons_unit_of_mem v f _ _ _ i (gIdx64 i h64) rfl ?_).trans ?_
      · intro x; fin_cases x <;> simp [gIdx64, hc]
      · unfold k0_pay14
        refine (shapeCast_addUnit_apply ![128, 64] _ shapeCasts_S128x64_S1x128x64 _).trans ?_
        unfold gOf
        rw [dif_neg (show ¬ (i 0).val < 3 by omega), dif_neg (show ¬ (i 0).val = 3 by omega), dif_pos h64]
        show a _ = a _
        congr 1
        funext x
        apply Fin.ext
        fin_cases x
        · show 0 + (i 1).val = (i 1).val
          omega
        · show 128 + (i 2).val = 128 + (i 2).val
          rfl
    · refine (View.read_writes_cons_unit_of_not_mem v f _ _ _ i rfl (2 : Fin 3) (by simp; omega)).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      refine (View.read_writes_cons_unit_of_not_mem v f _ _ _ i rfl (0 : Fin 3) (by simp [hc])).trans ?_
      unfold gOf
      rw [dif_neg (show ¬ (i 0).val < 3 by omega), dif_neg (show ¬ (i 0).val = 3 by omega), dif_neg h64]
      exact hz i hc (by omega)

end Cert.KernelIdeal.Hand
end
-- ==== Proof.KernelIdeal.Outer.lean ====
module

public import proofs.«01_k».proof.Proof.KernelIdeal.Blocks
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- The three buffers the blocks fill, after the first `k` blocks: the rows stored so far, the last slab's unused lanes still zero, the
    table of the points so far. -/
def Filled (c : Dev nD) (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13) (k : ℕ)
    (f10 : Bf (F := F) c arg10) (f14 : Bf (F := F) c arg14) (f15 : Bf (F := F) c arg15) : Prop :=
  (∀ i : S1920x384.Idx, (i 0).val < 128 * k → arg10.view.read (Elt F) f10 i = pfV (arg1.view.read (Elt F) f1) (arg2.view.read (Elt F) f2) (arg12.view.read (Elt F) f12) (arg4.view.read (Elt F) f4) (arg5.view.read (Elt F) f5) i)
  ∧ (∀ i : S5x128x128.Idx, (i 0).val = 4 → 64 ≤ (i 2).val → arg14.view.read (Elt F) f14 i = Scalar.ofBits .f32 0x00000000#32)
  ∧ arg15.view.read (Elt F) f15 = tabP (arg0.view.read (Elt F) f0) (arg1.view.read (Elt F) f1) (arg2.view.read (Elt F) f2) (arg12.view.read (Elt F) f12) (arg4.view.read (Elt F) f4) (arg5.view.read (Elt F) f5) (arg13.view.read (Elt F) f13) (arg7.view.read (Elt F) f7) (128 * k)

/-- What the outer loop holds after its first `k` blocks. -/
def outerInv (c : Dev nD) (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13) (k : ℕ) : sProp 𝕄G :=
  iprop(pt c arg0 f0 ∗ pt c arg1 f1 ∗ pt c arg2 f2 ∗ pt c arg4 f4 ∗ pt c arg5 f5 ∗ pt c arg7 f7 ∗ pt c arg12 f12 ∗ pt c arg13 f13
    ∗ ∃ f10, ∃ f14, ∃ f15, pt c arg10 f10 ∗ pt c arg14 f14 ∗ pt c arg15 f15 ∗ ⌜Filled arg0 arg1 arg2 arg4 arg5 arg7 arg10 arg12 arg13 arg14 arg15 c f0 f1 f2 f4 f5 f7 f12 f13 k f10 f14 f15⌝)

/-- One more point of block `k1`. -/
theorem tabP_point (I : S3x640.Idx → BitVec 32) (X : S1920x10240.Idx → Elt F .i8) (XS : S1920x1.Idx → F .f32) (WB : S10240x384.Idx → F .bf16)
    (WS B : S1x384.Idx → F .f32) (W2 : S2x384x192.Idx → F .bf16) (W2S : S1x192.Idx → F .f32) (k1 k : ℕ) (hk : k < 128) :
    tabP I X XS WB WS B W2 W2S (128 * k1 + (k + 1)) = bump (tabP I X XS WB WS B W2 W2S (128 * k1 + k)) (gBlk X XS WB WS B W2 W2S k1) (rowAt k1 (I (pointIdx (128 * k1 + k)))) ⟨k, hk⟩ := by
  have e1 : (128 * k1 + k) / 128 = k1 := by omega
  have e2 : (128 * k1 + k) % 128 = k := by omega
  rw [show 128 * k1 + (k + 1) = (128 * k1 + k) + 1 from rfl, tabP]
  simp only [e1, e2]

set_option pp.proofs false in
set_option maxHeartbeats 4000000 in
/-- One block: its features are stored, and its points update the table one after another. -/
theorem trip1 (𝒱 : Variants) (c : Dev nD) (bd : Option 𝒱.V) (E : Set ℕ) (k1 : Fin k0_t1_loop.trips)
    (f0 : Bf (F := F) c arg0) (f1 : Bf (F := F) c arg1) (f2 : Bf (F := F) c arg2) (f4 : Bf (F := F) c arg4) (f5 : Bf (F := F) c arg5) (f7 : Bf (F := F) c arg7) (f12 : Bf (F := F) c arg12) (f13 : Bf (F := F) c arg13)
    (hids : ∀ i, (show BitVec 32 from arg0.view.read (Elt F) f0 i).toInt < 200) :
    outerInv arg0 arg1 arg2 arg4 arg5 arg7 arg10 arg12 arg13 arg14 arg15 c f0 f1 f2 f4 f5 f7 f12 f13 k1.val
      ⊢ wp Idealize.ShloMosaic.frame (wpE defs₀ 𝒱 (c : Thread nD τ) bd) E
        (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k1 ())
        (fun _ => outerInv arg0 arg1 arg2 arg4 arg5 arg7 arg10 arg12 arg13 arg14 arg15 c f0 f1 f2 f4 f5 f7 f12 f13 (k1.val + 1)) := by
  unfold k0_t1_body outerInv
  iintro ⟨H0, H1, H2, H4, H5, H7, H12, H13, %f10, %f14, %f15, H10, H14, H15, %hF⟩
  obtain ⟨h10, h14, h15⟩ := hF
  sl_exec
  sl_for (fun (k : ℕ) (_ : Unit) => iprop(pt c arg0 f0 ∗ (∃ g, pt c arg14 g ∗ ⌜arg14.view.read (Elt F) g = gBlk (arg1.view.read (Elt F) f1) (arg2.view.read (Elt F) f2) (arg12.view.read (Elt F) f12) (arg4.view.read (Elt F) f4) (arg5.view.read (Elt F) f5) (arg13.view.read (Elt F) f13) (arg7.view.read (Elt F) f7) k1.val⌝)
      ∗ ∃ f, pt c arg15 f ∗ ⌜arg15.view.read (Elt F) f = tabP (arg0.view.read (Elt F) f0) (arg1.view.read (Elt F) f1) (arg2.view.read (Elt F) f2) (arg12.view.read (Elt F) f12) (arg4.view.read (Elt F) f4) (arg5.view.read (Elt F) f5) (arg13.view.read (Elt F) f13) (arg7.view.read (Elt F) f7) (128 * k1.val + k)⌝)) $$ [H0 H14 H15]
  · intro k acc
    iintro ⟨H0, ⟨%g, H14, %hg⟩, %f, H15, %hf⟩
    iapply (wp_wand_r Idealize.ShloMosaic.frame (wpE (defs₀ (F := F)) 𝒱 (c : Thread nD τ) bd) E)
    isplitl [H0 H14 H15]
    · iapply (trip2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E k1 _ _ _ k f0 g f hids)
      isplitl [H0]; · iexact H0
      isplitl [H14]; · iexact H14
      iexact H15
    · iintro %_ ⟨H0, H14, %f', H15, %hf'⟩
      isplitl [H0]; · iexact H0
      isplitl [H14]
      · iexists g
        isplitl [H14]; · iexact H14
        ipureintro; exact hg
      iexists f'
      isplitl [H15]; · iexact H15
      ipureintro
      rw [hf', hf, hg]
      exact (tabP_point _ _ _ _ _ _ _ _ k1.val k.val (trips2 ▸ k.isLt)).symm
  · isplitl [H0]; · iexact H0
    isplitl [H14]
    · iexists _
      isplitl [H14]; · iexact H14
      ipureintro
      refine (read_g arg14.view f14 (hBlk (arg1.view.read (Elt F) f1) (arg2.view.read (Elt F) f2) (arg12.view.read (Elt F) f12) (arg4.view.read (Elt F) f4) (arg5.view.read (Elt F) f5) k1.val)
        (aBlk (arg1.view.read (Elt F) f1) (arg2.view.read (Elt F) f2) (arg12.view.read (Elt F) f12) (arg4.view.read (Elt F) f4) (arg5.view.read (Elt F) f5) (arg13.view.read (Elt F) f13) (arg7.view.read (Elt F) f7) k1.val) _ rfl h14 |> fun h => Eq.trans ?_ h)
      unfold hBlk aBlk
      rw [← load_blkX, ← load_blkXS, ← load_w2top, ← View.readAt_full arg12.view f12 inb_S10240x384_S10240x384_0_0, ← View.readAt_full arg4.view f4 inb_S1x384_S1x384_0_0, ← View.readAt_full arg5.view f5 inb_S1x384_S1x384_0_0, ← View.readAt_full arg7.view f7 inb_S1x192_S1x192_0_0]
      rfl
    · iexists _
      isplitl [H15]; · iexact H15
      ipureintro; exact h15
  · iintro %acc ⟨H0, ⟨%g, H14, %hg⟩, %f, H15, %hf⟩
    sl_step
    isplitl [H0]; · iexact H0
    isplitl [H1]; · iexact H1
    isplitl [H2]; · iexact H2
    isplitl [H4]; · iexact H4
    isplitl [H5]; · iexact H5
    isplitl [H7]; · iexact H7
    isplitl [H12]; · iexact H12
    isplitl [H13]; · iexact H13
    iexists _
    iexists g
    iexists f
    isplitl [H10]; · iexact H10
    isplitl [H14]; · iexact H14
    isplitl [H15]; · iexact H15
    ipureintro
    refine ⟨?_, ?_, ?_⟩
    · refine read_rows arg10.view f10 k1 _ _ (fun i hi => ?_) h10
      unfold pfV hbBlk
      rw [load_blkX, load_blkXS, View.readAt_full arg12.view f12 inb_S10240x384_S10240x384_0_0, View.readAt_full arg4.view f4 inb_S1x384_S1x384_0_0, View.readAt_full arg5.view f5 inb_S1x384_S1x384_0_0, hi]
      refine congrArg _ (funext fun a => ?_)
      fin_cases a <;> rfl
    · intro i h4 h64
      rw [hg]
      unfold gBlk gOf
      rw [dif_neg (by omega), dif_neg (by omega), dif_neg (by omega)]
    · exact hf.trans (congrArg _ (congrArg (fun t => 128 * k1.val + t) trips2))

end Cert.KernelIdeal.Hand
end
-- ==== Proof.KernelIdeal.Scenes.lean ====
module

public import proofs.«01_k».proof.Proof.KernelIdeal.Vals
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The 200 rows of scene `s` in slab `j` of a table. -/
def tabWin (T : S5x608x128.Idx → F .f32) (j s : ℕ) : Vec F S1x200x128 .f32 := fun i => T (fun a => match a with
  | 0 => ⟨j % 5, Nat.mod_lt _ (by decide)⟩
  | 1 => ⟨(200 * s + (i 1).val) % 608, Nat.mod_lt _ (by decide)⟩
  | 2 => i 2)

/-- The 200 rows of scene `s` in the first 64 lanes of the last slab of a table. -/
def tabWin64 (T : S5x608x128.Idx → F .f32) (s : ℕ) : Vec F S1x200x64 .f32 := fun i => T (fun a => match a with
  | 0 => (⟨4, by decide⟩ : Fin 5)
  | 1 => ⟨(200 * s + (i 1).val) % 608, Nat.mod_lt _ (by decide)⟩
  | 2 => ⟨(i 2).val, Nat.lt_of_lt_of_le (i 2).isLt (by decide)⟩)

/-- The second slab of the second layer's weights: the half that multiplies the voxel's features. -/
def w2bot (W2 : S2x384x192.Idx → F .bf16) : Vec F S1x384x192 .bf16 := fun i => W2 (fun a => match a with
  | 0 => (⟨1, by decide⟩ : Fin 2)
  | 1 => i 1
  | 2 => i 2)

/-- Scene `s`'s voxel features. -/
def vfS (T : S5x608x128.Idx → F .f32) (s : ℕ) : FVec F S1x200x384 .bf16 := k0_pay32 (tabWin T 0 s) (tabWin T 1 s) (tabWin T 2 s)

/-- Scene `s`'s second-layer voxel features. -/
def vf2S (T : S5x608x128.Idx → F .f32) (W2 : S2x384x192.Idx → F .bf16) (W2S B2 : S1x192.Idx → F .f32) (s : ℕ) : FVec F S1x200x192 .bf16 :=
  k0_pay25 (k0_pay21 (tabWin T 0 s)) (k0_pay22 (tabWin T 1 s)) (tabWin T 2 s) (w2bot W2) W2S (tabWin T 3 s) (tabWin64 T s) B2

/-- The voxel features' output: each scene its own. -/
def vfV (T : S5x608x128.Idx → F .f32) : S3x200x384.Idx → F .bf16 := fun i => vfS T (i 0).val (fun a => match a with
  | 0 => (⟨0, by decide⟩ : Fin 1)
  | 1 => i 1
  | 2 => i 2)

/-- The second-layer voxel features' output: each scene its own. -/
def vf2V (T : S5x608x128.Idx → F .f32) (W2 : S2x384x192.Idx → F .bf16) (W2S B2 : S1x192.Idx → F .f32) : S3x200x192.Idx → F .bf16 :=
  fun i => vf2S T W2 W2S B2 (i 0).val (fun a => match a with
  | 0 => (⟨0, by decide⟩ : Fin 1)
  | 1 => i 1
  | 2 => i 2)

/-- A load of a scene's rows of a slab. -/
theorem load_tab {κ : Kind} {sp : Space} (v : View sig κ sp S5x608x128 .f32) (f : v.ty.Contents (Elt F)) (off : Fin 3 → ℕ) (inb : ∀ a, off a + S1x200x128.size a ≤ S5x608x128.size a)
    (j s : ℕ) (hj : j < 5) (hs : s < 3) (h : off = ![j, 200 * s, 0]) :
    v.readAt (Elt F) (Rect.unit (s := S5x608x128) off S1x200x128.size inb).toLoadRect f = tabWin (v.read (Elt F) f) j s := by
  subst h
  funext x
  have h0 : (x 0).val < 1 := (x 0).isLt
  have h1 : (x 1).val < 200 := (x 1).isLt
  show v.read (Elt F) f _ = v.read (Elt F) f _
  congr 1
  funext a
  apply Fin.ext
  fin_cases a
  · show j + 1 * (x 0).val = j % 5
    omega
  · show 200 * s + 1 * (x 1).val = (200 * s + (x 1).val) % 608
    omega
  · show 0 + 1 * (x 2).val = (x 2).val
    omega

/-- A load of a scene's rows of the last slab's first 64 lanes. -/
theorem load_tab64 {κ : Kind} {sp : Space} (v : View sig κ sp S5x608x128 .f32) (f : v.ty.Contents (Elt F)) (off : Fin 3 → ℕ) (inb : ∀ a, off a + S1x200x64.size a ≤ S5x608x128.size a)
    (s : ℕ) (hs : s < 3) (h : off = ![4, 200 * s, 0]) :
    v.readAt (Elt F) (Rect.unit (s := S5x608x128) off S1x200x64.size inb).toLoadRect f = tabWin64 (v.read (Elt F) f) s := by
  subst h
  funext x
  have h0 : (x 0).val < 1 := (x 0).isLt
  have h1 : (x 1).val < 200 := (x 1).isLt
  show v.read (Elt F) f _ = v.read (Elt F) f _
  congr 1
  funext a
  apply Fin.ext
  fin_cases a
  · show 4 + 1 * (x 0).val = 4
    omega
  · show 200 * s + 1 * (x 1).val = (200 * s + (x 1).val) % 608
    omega
  · show 0 + 1 * (x 2).val = (x 2).val
    omega

/-- A load of the second slab of the second layer's weights. -/
theorem load_w2bot {κ : Kind} {sp : Space} (v : View sig κ sp S2x384x192 .bf16) (f : v.ty.Contents (Elt F)) :
    v.readAt (Elt F) (Rect.unit (s := S2x384x192) ![1, 0, 0] S1x384x192.size inb_S2x384x192_S1x384x192_1_0_0).toLoadRect f = w2bot (F := F) (v.read (Elt F) f) := by
  funext x
  have h0 : (x 0).val < 1 := (x 0).isLt
  show v.read (Elt F) f _ = v.read (Elt F) f _
  congr 1
  funext a
  apply Fin.ext
  fin_cases a
  · show 1 + 1 * (x 0).val = 1
    omega
  · show 0 + 1 * (x 1).val = (x 1).val
    omega
  · show 0 + 1 * (x 2).val = (x 2).val
    omega

/-- Stores of the three scenes leave each scene's own. -/
theorem read_scenes384 {κ : Kind} {sp : Space} (v : View sig κ sp S3x200x384 .bf16) (f : v.ty.Contents (Elt F)) (P : ℕ → FVec F S1x200x384 .bf16) :
    v.read (Elt F) (v.writes (Elt F) f
      [⟨Rect.unit (s := S3x200x384) ![2, 0, 0] S1x200x384.size inb_S3x200x384_S1x200x384_2_0_0, P 2⟩,
       ⟨Rect.unit (s := S3x200x384) ![1, 0, 0] S1x200x384.size inb_S3x200x384_S1x200x384_1_0_0, P 1⟩,
       ⟨Rect.unit (s := S3x200x384) ![0, 0, 0] S1x200x384.size inb_S3x200x384_S1x200x384_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

/-- Stores of the three scenes leave each scene's own. -/
theorem read_scenes192 {κ : Kind} {sp : Space} (v : View sig κ sp S3x200x192 .bf16) (f : v.ty.Contents (Elt F)) (P : ℕ → FVec F S1x200x192 .bf16) :
    v.read (Elt F) (v.writes (Elt F) f
      [⟨Rect.unit (s := S3x200x192) ![2, 0, 0] S1x200x192.size inb_S3x200x192_S1x200x192_2_0_0, P 2⟩,
       ⟨Rect.unit (s := S3x200x192) ![1, 0, 0] S1x200x192.size inb_S3x200x192_S1x200x192_1_0_0, P 1⟩,
       ⟨Rect.unit (s := S3x200x192) ![0, 0, 0] S1x200x192.size inb_S3x200x192_S1x200x192_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

end Cert.KernelIdeal.Hand
end
-- ==== Proof.KernelIdeal.Body.lean ====
module

public import proofs.«01_k».proof.Proof.KernelIdeal.Outer
public import proofs.«01_k».proof.Proof.KernelIdeal.Scenes
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The table after all the points, from the kernel's operands. -/
def tabEnd (I : S3x640.Idx → BitVec 32) (X : S1920x10240.Idx → Elt F .i8) (XS : S1920x1.Idx → F .f32) (W : S10240x384.Idx → Elt F .fp8e4m3)
    (WS B : S1x384.Idx → F .f32) (W2 : S2x384x192.Idx → Elt F .fp8e4m3) (W2S : S1x192.Idx → F .f32) : S5x608x128.Idx → F .f32 :=
  tabP I X XS (k0_pay15 W) WS B (k0_pay16 W2) W2S 1920

variable (arg0 : Memref sig .tc .smem S3x640 .i32) (harg0 : arg0.IsWhole) (arg1 : Memref sig .tc .vmem S1920x10240 .i8) (harg1 : arg1.IsWhole) (arg2 : Memref sig .tc .vmem S1920x1 .f32) (harg2 : arg2.IsWhole) (arg3 : Memref sig .tc .vmem S10240x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S2x384x192 .fp8e4m3) (harg6 : arg6.IsWhole) (arg7 : Memref sig .tc .vmem S1x192 .f32) (harg7 : arg7.IsWhole) (arg8 : Memref sig .tc .vmem S1x192 .f32) (harg8 : arg8.IsWhole) (arg9 : Memref sig .tc .vmem S3x200x192 .bf16) (harg9 : arg9.IsWhole) (arg10 : Memref sig .tc .vmem S1920x384 .bf16) (harg10 : arg10.IsWhole) (arg11 : Memref sig .tc .vmem S3x200x384 .bf16) (harg11 : arg11.IsWhole) (arg12 : Memref sig .tc .vmem S10240x384 .bf16) (harg12 : arg12.IsWhole) (arg13 : Memref sig .tc .vmem S2x384x192 .bf16) (harg13 : arg13.IsWhole) (arg14 : Memref sig .tc .vmem S5x128x128 .f32) (harg14 : arg14.IsWhole) (arg15 : Memref sig .tc .vmem S5x608x128 .f32) (harg15 : arg15.IsWhole)

/-- What the second-layer voxel output, the points' output and the voxel output hold at the end. -/
def Ends (c : Dev nD) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) : Prop :=
  arg9.view.read (Elt F) f9 = vf2V (tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7)) (k0_pay16 (arg6.view.read (Elt F) f6)) (arg7.view.read (Elt F) f7) (arg8.view.read (Elt F) f8)
  ∧ arg10.view.read (Elt F) f10 = pfV (arg1.view.read (Elt F) f1) (arg2.view.read (Elt F) f2) (k0_pay15 (arg3.view.read (Elt F) f3)) (arg4.view.read (Elt F) f4) (arg5.view.read (Elt F) f5)
  ∧ arg11.view.read (Elt F) f11 = vfV (tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7))

set_option pp.proofs false in
set_option maxHeartbeats 8000000 in
/-- The fused kernel: from whatever its outputs and scratch hold, it leaves its operands as they are and its outputs at their values. -/
theorem body0 (𝒱 : Variants) (c : Dev nD) (bd : Option 𝒱.V) (E : Set ℕ) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15)
    (hids : ∀ i, (show BitVec 32 from arg0.view.read (Elt F) f0 i).toInt < 200) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15)
      ⊢ wp Idealize.ShloMosaic.frame (wpE defs₀ 𝒱 (c : Thread nD τ) bd) E (cc0_vfe2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15)
        (fun _ => iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ ∃ f9, ∃ f10, ∃ f11, ∃ f12, ∃ f13, ∃ f14, ∃ f15, pt c arg9 f9 ∗ pt c arg10 f10 ∗ pt c arg11 f11 ∗ pt c arg12 f12 ∗ pt c arg13 f13 ∗ pt c arg14 f14 ∗ pt c arg15 f15
          ∗ ⌜Ends arg0 arg1 arg2 arg3 arg4 arg5 arg6 arg7 arg8 arg9 arg10 arg11 c f0 f1 f2 f3 f4 f5 f6 f7 f8 f9 f10 f11⌝)) := by
  rw [cc0_vfe2_eq_skeleton]
  unfold cc0_vfe2_skel
  iintro ⟨H0, H1, H2, H3, H4, H5, H6, H7, H8, H9, H10, H11, H12, H13, H14, H15⟩
  sl_exec
  sl_for (fun (k : ℕ) (_ : Unit) => iprop(∃ g12, ∃ g13, outerInv arg0 arg1 arg2 arg4 arg5 arg7 arg10 arg12 arg13 arg14 arg15 c f0 f1 f2 f4 f5 f7 g12 g13 k
      ∗ ⌜arg12.view.read (Elt F) g12 = k0_pay15 (arg3.view.read (Elt F) f3) ∧ arg13.view.read (Elt F) g13 = k0_pay16 (arg6.view.read (Elt F) f6)⌝)) $$ [H0 H1 H2 H4 H5 H7 H10 H12 H13 H14 H15]
  · intro k acc
    iintro ⟨%g12, %g13, H, %hw⟩
    iapply (wp_wand_r Idealize.ShloMosaic.frame (wpE (defs₀ (F := F)) 𝒱 (c : Thread nD τ) bd) E)
    isplitl [H]
    · iapply (trip1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E k f0 f1 f2 f4 f5 f7 g12 g13 hids)
      iexact H
    · iintro %_ H
      iexists g12
      iexists g13
      isplitl [H]; · iexact H
      ipureintro; exact hw
  · unfold outerInv
    iexists _
    iexists _
    isplitl [H0 H1 H2 H4 H5 H7 H10 H12 H13 H14 H15]
    · isplitl [H0]; · iexact H0
      isplitl [H1]; · iexact H1
      isplitl [H2]; · iexact H2
      isplitl [H4]; · iexact H4
      isplitl [H5]; · iexact H5
      isplitl [H7]; · iexact H7
      isplitl [H12]; · iexact H12
      isplitl [H13]; · iexact H13
      iexists f10
      iexists _
      iexists _
      isplitl [H10]; · iexact H10
      isplitl [H14]; · iexact H14
      isplitl [H15]; · iexact H15
      ipureintro
      refine ⟨fun i hi => absurd hi (by omega), fun i _ _ => ?_, ?_⟩
      · unfold body0.sl.H14_1
        rw [View.read_writes_full]
        rfl
      · unfold body0.sl.H15_1
        rw [View.read_writes_full]
        rfl
    · ipureintro
      unfold body0.sl.H12_1 body0.sl.H13_1
      rw [View.read_writes_full, View.read_writes_full, View.readAt_full, View.readAt_full]
      exact ⟨rfl, rfl⟩
  · unfold outerInv
    iintro %acc ⟨%g12, %g13, ⟨H0, H1, H2, H4, H5, H7, H12, H13, %g10, %g14, %g15, H10, H14, H15, %hF⟩, %hw⟩
    sl_exec
    sl_step
    have hT : arg15.view.read (Elt F) g15 = tabEnd (arg0.view.read (Elt F) f0) (arg1.view.read (Elt F) f1) (arg2.view.read (Elt F) f2) (arg3.view.read (Elt F) f3) (arg4.view.read (Elt F) f4) (arg5.view.read (Elt F) f5) (arg6.view.read (Elt F) f6) (arg7.view.read (Elt F) f7) := by
      obtain ⟨-, -, h⟩ := hF
      rw [h, hw.1, hw.2]
      exact congrArg _ (congrArg (fun t => 128 * t) trips1)
    have e0 : k0_pay25 (body0.sl.r arg15 c g15) (body0.sl.r_1 arg15 c g15) (body0.sl.r_2 arg15 c g15) (arg13.view.readAt (Elt F) (Rect.unit (s := S2x384x192) ![1, 0, 0] S1x384x192.size inb_S2x384x192_S1x384x192_1_0_0).toLoadRect g13) (arg7.view.readAt (Elt F) (Rect.unit (s := S1x192) ![0, 0] S1x192.size inb_S1x192_S1x192_0_0).toLoadRect f7) (arg15.view.readAt (Elt F) (Rect.unit (s := S5x608x128) ![3, 0, 0] S1x200x128.size inb_S5x608x128_S1x200x128_3_0_0).toLoadRect g15) (arg15.view.readAt (Elt F) (Rect.unit (s := S5x608x128) ![4, 0, 0] S1x200x64.size inb_S5x608x128_S1x200x64_4_0_0).toLoadRect g15) (arg8.view.readAt (Elt F) (Rect.unit (s := S1x192) ![0, 0] S1x192.size inb_S1x192_S1x192_0_0).toLoadRect f8) = vf2S (arg15.view.read (Elt F) g15) (arg13.view.read (Elt F) g13) (arg7.view.read (Elt F) f7) (arg8.view.read (Elt F) f8) 0 := by
      unfold vf2S
      rw [← load_tab arg15.view g15 ![0, 0, 0] inb_S5x608x128_S1x200x128_0_0_0 0 0 (by decide) (by decide) rfl, ← load_tab arg15.view g15 ![1, 0, 0] inb_S5x608x128_S1x200x128_1_0_0 1 0 (by decide) (by decide) rfl, ← load_tab arg15.view g15 ![2, 0, 0] inb_S5x608x128_S1x200x128_2_0_0 2 0 (by decide) (by decide) rfl, ← load_tab arg15.view g15 ![3, 0, 0] inb_S5x608x128_S1x200x128_3_0_0 3 0 (by decide) (by decide) rfl, ← load_tab64 arg15.view g15 ![4, 0, 0] inb_S5x608x128_S1x200x64_4_0_0 0 (by decide) rfl, ← load_w2bot, ← View.readAt_full arg7.view f7 inb_S1x192_S1x192_0_0, ← View.readAt_full arg8.view f8 inb_S1x192_S1x192_0_0]
      rfl
    have e1 : k0_pay30 (body0.sl.r_4 arg7 arg8 arg13 arg15 c f7 f8 g13 g15) = vf2S (arg15.view.read (Elt F) g15) (arg13.view.read (Elt F) g13) (arg7.view.read (Elt F) f7) (arg8.view.read (Elt F) f8) 1 := by
      unfold vf2S
      rw [← load_tab arg15.view g15 ![0, 200, 0] inb_S5x608x128_S1x200x128_0_200_0 0 1 (by decide) (by decide) rfl, ← load_tab arg15.view g15 ![1, 200, 0] inb_S5x608x128_S1x200x128_1_200_0 1 1 (by decide) (by decide) rfl, ← load_tab arg15.view g15 ![2, 200, 0] inb_S5x608x128_S1x200x128_2_200_0 2 1 (by decide) (by decide) rfl, ← load_tab arg15.view g15 ![3, 200, 0] inb_S5x608x128_S1x200x128_3_200_0 3 1 (by decide) (by decide) rfl, ← load_tab64 arg15.view g15 ![4, 200, 0] inb_S5x608x128_S1x200x64_4_200_0 1 (by decide) rfl, ← load_w2bot, ← View.readAt_full arg7.view f7 inb_S1x192_S1x192_0_0, ← View.readAt_full arg8.view f8 inb_S1x192_S1x192_0_0]
      rfl
    have e2 : k0_pay1 (body0.sl.r_5 arg7 arg13 arg15 c f7 g13 g15) (body0.sl.r_6 arg8 c f8) = vf2S (arg15.view.read (Elt F) g15) (arg13.view.read (Elt F) g13) (arg7.view.read (Elt F) f7) (arg8.view.read (Elt F) f8) 2 := by
      unfold vf2S
      rw [← load_tab arg15.view g15 ![0, 400, 0] inb_S5x608x128_S1x200x128_0_400_0 0 2 (by decide) (by decide) rfl, ← load_tab arg15.view g15 ![1, 400, 0] inb_S5x608x128_S1x200x128_1_400_0 1 2 (by decide) (by decide) rfl, ← load_tab arg15.view g15 ![2, 400, 0] inb_S5x608x128_S1x200x128_2_400_0 2 2 (by decide) (by decide) rfl, ← load_tab arg15.view g15 ![3, 400, 0] inb_S5x608x128_S1x200x128_3_400_0 3 2 (by decide) (by decide) rfl, ← load_tab64 arg15.view g15 ![4, 400, 0] inb_S5x608x128_S1x200x64_4_400_0 2 (by decide) rfl, ← load_w2bot, ← View.readAt_full arg7.view f7 inb_S1x192_S1x192_0_0, ← View.readAt_full arg8.view f8 inb_S1x192_S1x192_0_0]
      rfl
    have q0 : k0_pay24 (body0.sl.r arg15 c g15) (body0.sl.r_1 arg15 c g15) (body0.sl.r_2 arg15 c g15) = vfS (arg15.view.read (Elt F) g15) 0 := by
      unfold vfS
      rw [← load_tab arg15.view g15 ![0, 0, 0] inb_S5x608x128_S1x200x128_0_0_0 0 0 (by decide) (by decide) rfl, ← load_tab arg15.view g15 ![1, 0, 0] inb_S5x608x128_S1x200x128_1_0_0 1 0 (by decide) (by decide) rfl, ← load_tab arg15.view g15 ![2, 0, 0] inb_S5x608x128_S1x200x128_2_0_0 2 0 (by decide) (by decide) rfl]
      rfl
    have q1 : k0_pay28 (body0.sl.r_3 arg15 c g15) (arg15.view.readAt (Elt F) (Rect.unit (s := S5x608x128) ![1, 200, 0] S1x200x128.size inb_S5x608x128_S1x200x128_1_200_0).toLoadRect g15) (arg15.view.readAt (Elt F) (Rect.unit (s := S5x608x128) ![2, 200, 0] S1x200x128.size inb_S5x608x128_S1x200x128_2_200_0).toLoadRect g15) = vfS (arg15.view.read (Elt F) g15) 1 := by
      unfold vfS
      rw [← load_tab arg15.view g15 ![0, 200, 0] inb_S5x608x128_S1x200x128_0_200_0 0 1 (by decide) (by decide) rfl, ← load_tab arg15.view g15 ![1, 200, 0] inb_S5x608x128_S1x200x128_1_200_0 1 1 (by decide) (by decide) rfl, ← load_tab arg15.view g15 ![2, 200, 0] inb_S5x608x128_S1x200x128_2_200_0 2 1 (by decide) (by decide) rfl]
      rfl
    have q2 : k0_pay32 (arg15.view.readAt (Elt F) (Rect.unit (s := S5x608x128) ![0, 400, 0] S1x200x128.size inb_S5x608x128_S1x200x128_0_400_0).toLoadRect g15) (arg15.view.readAt (Elt F) (Rect.unit (s := S5x608x128) ![1, 400, 0] S1x200x128.size inb_S5x608x128_S1x200x128_1_400_0).toLoadRect g15) (arg15.view.readAt (Elt F) (Rect.unit (s := S5x608x128) ![2, 400, 0] S1x200x128.size inb_S5x608x128_S1x200x128_2_400_0).toLoadRect g15) = vfS (arg15.view.read (Elt F) g15) 2 := by
      unfold vfS
      rw [← load_tab arg15.view g15 ![0, 400, 0] inb_S5x608x128_S1x200x128_0_400_0 0 2 (by decide) (by decide) rfl, ← load_tab arg15.view g15 ![1, 400, 0] inb_S5x608x128_S1x200x128_1_400_0 1 2 (by decide) (by decide) rfl, ← load_tab arg15.view g15 ![2, 400, 0] inb_S5x608x128_S1x200x128_2_400_0 2 2 (by decide) (by decide) rfl]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _
    iexists g10
    iexists _
    iexists g12
    iexists g13
    iexists g14
    iexists g15
    isplitl [H9]; · iexact H9
    isplitl [H10]; · iexact H10
    isplitl [H11]; · iexact H11
    isplitl [H12]; · iexact H12
    isplitl [H13]; · iexact H13
    isplitl [H14]; · iexact H14
    isplitl [H15]; · iexact H15
    ipureintro
    refine ⟨?_, ?_, ?_⟩
    · rw [e0, e1, e2, ← hT, ← hw.2]
      exact read_scenes192 arg9.view f9 (vf2S _ _ _ _)
    · funext i
      rw [← hw.1]
      refine hF.1 i (Nat.lt_of_lt_of_le (i 0).isLt (le_of_eq ?_))
      exact (congrArg (fun t => 128 * t) trips1).symm
    · rw [q0, q1, q2, ← hT]
      exact read_scenes384 arg11.view f11 (vfS _)

end Cert.KernelIdeal.Hand
end
-- ==== Proof.KernelIdeal.Counts.lean ====
module

public import proofs.«01_k».proof.Proof.KernelIdeal.Scenes
public import proofs.«01_k».proof.Proof.KernelIdeal.Trip
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Scene `s`'s ids, one row. -/
def idsRow (I : S3x640.Idx → BitVec 32) (s : ℕ) : S1x640.Idx → BitVec 32 := fun i => I (fun a => match a with
  | 0 => (⟨s % 3, Nat.mod_lt _ (by decide)⟩ : Fin 3)
  | 1 => i 1)

/-- Scene `s`'s counts. -/
def countS (I : S3x640.Idx → BitVec 32) (s : ℕ) : S1x200x1.Idx → BitVec 32 := k1_pay1 (F := F) (idsRow I s)

/-- The counts' output: each scene its own. -/
def countsV (I : S3x640.Idx → BitVec 32) : S3x200x1.Idx → BitVec 32 := fun i => countS (F := F) I (i 0).val (fun a => match a with
  | 0 => (⟨0, by decide⟩ : Fin 1)
  | 1 => i 1
  | 2 => i 2)

/-- A load of a scene's ids. -/
theorem load_ids {κ : Kind} {sp : Space} (v : View sig κ sp S3x640 .i32) (f : v.ty.Contents (Elt F)) (off : Fin 2 → ℕ) (inb : ∀ a, off a + S1x640.size a ≤ S3x640.size a)
    (s : ℕ) (hs : s < 3) (h : off = ![s, 0]) :
    v.readAt (Elt F) (Rect.unit (s := S3x640) off S1x640.size inb).toLoadRect f = idsRow (v.read (Elt F) f) s := by
  subst h
  funext x
  have h0 : (x 0).val < 1 := (x 0).isLt
  show v.read (Elt F) f _ = v.read (Elt F) f _
  congr 1
  funext a
  apply Fin.ext
  fin_cases a
  · show s + 1 * (x 0).val = s % 3
    omega
  · show 0 + 1 * (x 1).val = (x 1).val
    omega

/-- Stores of the three scenes leave each scene's own. -/
theorem read_scenes1 {κ : Kind} {sp : Space} (v : View sig κ sp S3x200x1 .i32) (f : v.ty.Contents (Elt F)) (P : ℕ → Vec F S1x200x1 .i32) :
    v.read (Elt F) (v.writes (Elt F) f
      [⟨Rect.unit (s := S3x200x1) ![2, 0, 0] S1x200x1.size inb_S3x200x1_S1x200x1_2_0_0, P 2⟩,
       ⟨Rect.unit (s := S3x200x1) ![1, 0, 0] S1x200x1.size inb_S3x200x1_S1x200x1_1_0_0, P 1⟩,
       ⟨Rect.unit (s := S3x200x1) ![0, 0, 0] S1x200x1.size inb_S3x200x1_S1x200x1_0_0_0, P 0⟩])
      = fun i => P (i 0).val (fun a => match a with
        | 0 => (⟨0, by decide⟩ : Fin 1)
        | 1 => i 1
        | 2 => i 2) := by
  funext i
  have h0 : (i 0).val < 3 := (i 0).isLt
  have hc : (i 0).val = 0 ∨ (i 0).val = 1 ∨ (i 0).val = 2 := by omega
  rcases hc with hc | hc | hc
  · refine (View.read_writes_cons_unit_of_not_mem v f _ _ _ i rfl (0 : Fin 3) (by simp [hc])).trans ?_
    refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_not_mem v f _ _ _ i rfl (0 : Fin 3) (by simp [hc])).trans ?_
    refine (View.read_writes_cons_unit_of_mem v f _ _ _ i _ rfl ?_).trans (by rw [hc])
    intro x; fin_cases x <;> simp [hc]
  · refine (View.read_writes_cons_unit_of_mem v f _ _ _ i _ rfl ?_).trans (by rw [hc])
    intro x; fin_cases x <;> simp [hc]

/-- The counting kernel: from whatever its output holds, it leaves the ids as they are and each scene's counts. -/
theorem body1 (arg0 : Memref sig .tc .vmem S3x640 .i32) (harg0 : arg0.IsWhole) (arg1 : Memref sig .tc .vmem S3x200x1 .i32) (harg1 : arg1.IsWhole)
    (𝒱 : Variants) (c : Dev nD) (bd : Option 𝒱.V) (E : Set ℕ) (f0 : Bf (F := F) c arg0) (f1 : Bf (F := F) c arg1) :
    iprop(pt c arg0 f0 ∗ pt c arg1 f1)
      ⊢ wp Idealize.ShloMosaic.frame (wpE defs₀ 𝒱 (c : Thread nD τ) bd) E (cc1_counts (F := F) arg0 harg0 arg1 harg1)
        (fun _ => iprop(pt c arg0 f0 ∗ ∃ f1, pt c arg1 f1 ∗ ⌜arg1.view.read (Elt F) f1 = countsV (F := F) (arg0.view.read (Elt F) f0)⌝)) := by
  rw [cc1_counts_eq_skeleton]
  unfold cc1_counts_skel
  iintro ⟨H0, H1⟩
  sl_exec
  sl_step
  isplitl [H0]; · iexact H0
  iexists _
  isplitl [H1]; · iexact H1
  ipureintro
  rw [load_ids arg0.view f0 ![0, 0] inb_S3x640_S1x640_0_0 0 (by decide) rfl, load_ids arg0.view f0 ![1, 0] inb_S3x640_S1x640_1_0 1 (by decide) rfl, load_ids arg0.view f0 ![2, 0] inb_S3x640_S1x640_2_0 2 (by decide) rfl]
  exact read_scenes1 arg1.view f1 (countS (F := F) (arg0.view.read (Elt F) f0))

end Cert.KernelIdeal.Hand
end
-- ==== Proof.KernelIdeal.Run.lean ====
module

public import proofs.«01_k».proof.Proof.KernelIdeal.Body
public import proofs.«01_k».proof.Proof.KernelIdeal.Counts
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameTail
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- No variants: the kernels' loops are bounded. -/
abbrev 𝒱₀ : Variants := Variants.none

/-! ## The fused kernel's region -/

/-- Window 0 of the first region is the whole of `main_arg5`. -/
theorem read0_0 (f : S3x640.Idx → Elt F .i32) : ((cfg0.win 0).blk t0_0).view.read (Elt F) f = f := by
  funext i
  refine congrArg f (funext fun a => Fin.ext ?_)
  refine (Pipeline.Window.rect_emb_val win0_0 t0_0 i a).trans ?_
  fin_cases a <;> exact Nat.zero_add _
/-- Window 1 of the first region is the whole of `main_v0`. -/
theorem read0_1 (f : S1920x10240.Idx → Elt F .i8) : ((cfg0.win 1).blk t0_0).view.read (Elt F) f = f := by
  funext i
  refine congrArg f (funext fun a => Fin.ext ?_)
  refine (Pipeline.Window.rect_emb_val win0_1 t0_0 i a).trans ?_
  fin_cases a <;> exact Nat.zero_add _
/-- Window 2 of the first region is the whole of `main_v1`. -/
theorem read0_2 (f : S1920x1.Idx → Elt F .f32) : ((cfg0.win 2).blk t0_0).view.read (Elt F) f = f := by
  funext i
  refine congrArg f (funext fun a => Fin.ext ?_)
  refine (Pipeline.Window.rect_emb_val win0_2 t0_0 i a).trans ?_
  fin_cases a <;> exact Nat.zero_add _
/-- Window 3 of the first region is the whole of `main_arg2`. -/
theorem read0_3 (f : S10240x384.Idx → Elt F .fp8e4m3) : ((cfg0.win 3).blk t0_0).view.read (Elt F) f = f := by
  funext i
  refine congrArg f (funext fun a => Fin.ext ?_)
  refine (Pipeline.Window.rect_emb_val win0_3 t0_0 i a).trans ?_
  fin_cases a <;> exact Nat.zero_add _
/-- Window 4 of the first region is the whole of `main_v2`. -/
theorem read0_4 (f : S1x384.Idx → Elt F .f32) : ((cfg0.win 4).blk t0_0).view.read (Elt F) f = f := by
  funext i
  refine congrArg f (funext fun a => Fin.ext ?_)
  refine (Pipeline.Window.rect_emb_val win0_4 t0_0 i a).trans ?_
  fin_cases a <;> exact Nat.zero_add _
/-- Window 5 of the first region is the whole of `main_v3`. -/
theorem read0_5 (f : S1x384.Idx → Elt F .f32) : ((cfg0.win 5).blk t0_0).view.read (Elt F) f = f := by
  funext i
  refine congrArg f (funext fun a => Fin.ext ?_)
  refine (Pipeline.Window.rect_emb_val win0_5 t0_0 i a).trans ?_
  fin_cases a <;> exact Nat.zero_add _
/-- Window 6 of the first region is the whole of `main_arg6`. -/
theorem read0_6 (f : S2x384x192.Idx → Elt F .fp8e4m3) : ((cfg0.win 6).blk t0_0).view.read (Elt F) f = f := by
  funext i
  refine congrArg f (funext fun a => Fin.ext ?_)
  refine (Pipeline.Window.rect_emb_val win0_6 t0_0 i a).trans ?_
  fin_cases a <;> exact Nat.zero_add _
/-- Window 7 of the first region is the whole of `main_v4`. -/
theorem read0_7 (f : S1x192.Idx → Elt F .f32) : ((cfg0.win 7).blk t0_0).view.read (Elt F) f = f := by
  funext i
  refine congrArg f (funext fun a => Fin.ext ?_)
  refine (Pipeline.Window.rect_emb_val win0_7 t0_0 i a).trans ?_
  fin_cases a <;> exact Nat.zero_add _
/-- Window 8 of the first region is the whole of `main_v5`. -/
theorem read0_8 (f : S1x192.Idx → Elt F .f32) : ((cfg0.win 8).blk t0_0).view.read (Elt F) f = f := by
  funext i
  refine congrArg f (funext fun a => Fin.ext ?_)
  refine (Pipeline.Window.rect_emb_val win0_8 t0_0 i a).trans ?_
  fin_cases a <;> exact Nat.zero_add _
/-- Window 9 of the first region is the whole of `main_v6_0`. -/
theorem read0_9 (f : S3x200x192.Idx → Elt F .bf16) : ((cfg0.win 9).blk t0_0).view.read (Elt F) f = f := by
  funext i
  refine congrArg f (funext fun a => Fin.ext ?_)
  refine (Pipeline.Window.rect_emb_val win0_9 t0_0 i a).trans ?_
  fin_cases a <;> exact Nat.zero_add _
/-- Window 10 of the first region is the whole of `main_v6_1`. -/
theorem read0_10 (f : S1920x384.Idx → Elt F .bf16) : ((cfg0.win 10).blk t0_0).view.read (Elt F) f = f := by
  funext i
  refine congrArg f (funext fun a => Fin.ext ?_)
  refine (Pipeline.Window.rect_emb_val win0_10 t0_0 i a).trans ?_
  fin_cases a <;> exact Nat.zero_add _
/-- Window 11 of the first region is the whole of `main_v6_2`. -/
theorem read0_11 (f : S3x200x384.Idx → Elt F .bf16) : ((cfg0.win 11).blk t0_0).view.read (Elt F) f = f := by
  funext i
  refine congrArg f (funext fun a => Fin.ext ?_)
  refine (Pipeline.Window.rect_emb_val win0_11 t0_0 i a).trans ?_
  fin_cases a <;> exact Nat.zero_add _
/-- What the first region stages of `main_arg5`, window 0. -/
abbrev stg0_0 (V : Valuation τ sig (Elt F)) : S3x640.Idx → Elt F .i32 := ((cfg0.win 0).blk t0_0).view.read (Elt F) (V (Proc.devRef .tc main_arg5))
/-- What the first region stages of `main_v0`, window 1. -/
abbrev stg0_1 (V : Valuation τ sig (Elt F)) : S1920x10240.Idx → Elt F .i8 := ((cfg0.win 1).blk t0_0).view.read (Elt F) (V (Proc.devRef .tc main_v0))
/-- What the first region stages of `main_v1`, window 2. -/
abbrev stg0_2 (V : Valuation τ sig (Elt F)) : S1920x1.Idx → Elt F .f32 := ((cfg0.win 2).blk t0_0).view.read (Elt F) (V (Proc.devRef .tc main_v1))
/-- What the first region stages of `main_arg2`, window 3. -/
abbrev stg0_3 (V : Valuation τ sig (Elt F)) : S10240x384.Idx → Elt F .fp8e4m3 := ((cfg0.win 3).blk t0_0).view.read (Elt F) (V (Proc.devRef .tc main_arg2))
/-- What the first region stages of `main_v2`, window 4. -/
abbrev stg0_4 (V : Valuation τ sig (Elt F)) : S1x384.Idx → Elt F .f32 := ((cfg0.win 4).blk t0_0).view.read (Elt F) (V (Proc.devRef .tc main_v2))
/-- What the first region stages of `main_v3`, window 5. -/
abbrev stg0_5 (V : Valuation τ sig (Elt F)) : S1x384.Idx → Elt F .f32 := ((cfg0.win 5).blk t0_0).view.read (Elt F) (V (Proc.devRef .tc main_v3))
/-- What the first region stages of `main_arg6`, window 6. -/
abbrev stg0_6 (V : Valuation τ sig (Elt F)) : S2x384x192.Idx → Elt F .fp8e4m3 := ((cfg0.win 6).blk t0_0).view.read (Elt F) (V (Proc.devRef .tc main_arg6))
/-- What the first region stages of `main_v4`, window 7. -/
abbrev stg0_7 (V : Valuation τ sig (Elt F)) : S1x192.Idx → Elt F .f32 := ((cfg0.win 7).blk t0_0).view.read (Elt F) (V (Proc.devRef .tc main_v4))
/-- What the first region stages of `main_v5`, window 8. -/
abbrev stg0_8 (V : Valuation τ sig (Elt F)) : S1x192.Idx → Elt F .f32 := ((cfg0.win 8).blk t0_0).view.read (Elt F) (V (Proc.devRef .tc main_v5))

/-- The table after all the points, from what the region stages. -/
def tab0 (V : Valuation τ sig (Elt F)) : S5x608x128.Idx → F .f32 :=
  tabEnd (stg0_0 V) (stg0_1 V) (stg0_2 V) (stg0_3 V) (stg0_4 V) (stg0_5 V) (stg0_6 V) (stg0_7 V)

/-- The second-layer voxel features the region leaves. -/
def out9 (V : Valuation τ sig (Elt F)) : S3x200x192.Idx → F .bf16 := vf2V (tab0 V) (k0_pay16 (stg0_6 V)) (stg0_7 V) (stg0_8 V)
/-- The points' features the region leaves. -/
def out10 (V : Valuation τ sig (Elt F)) : S1920x384.Idx → F .bf16 := pfV (stg0_1 V) (stg0_2 V) (k0_pay15 (stg0_3 V)) (stg0_4 V) (stg0_5 V)
/-- The voxel features the region leaves. -/
def out11 (V : Valuation τ sig (Elt F)) : S3x200x384.Idx → F .bf16 := vfV (tab0 V)

/-- What window `w`'s staging buffer holds after the first region's body. -/
def after0 (V : Valuation τ sig (Elt F)) (w : Fin 12) : (cfg0.win w).block.Idx → Elt F (cfg0.win w).elt :=
  match w with
  | ⟨0, _⟩ => stg0_0 V
  | ⟨1, _⟩ => stg0_1 V
  | ⟨2, _⟩ => stg0_2 V
  | ⟨3, _⟩ => stg0_3 V
  | ⟨4, _⟩ => stg0_4 V
  | ⟨5, _⟩ => stg0_5 V
  | ⟨6, _⟩ => stg0_6 V
  | ⟨7, _⟩ => stg0_7 V
  | ⟨8, _⟩ => stg0_8 V
  | ⟨9, _⟩ => out9 V
  | ⟨10, _⟩ => out10 V
  | ⟨11, _⟩ => out11 V

/-- The first region's proof data over buffers `V`: arrays as entered, staging buffers at `after0`, the scratch at something, nothing owed. -/
def dat0 (V : Dev nD → Valuation τ sig (Elt F)) (c : Dev nD) : Dat τ (Elt F) Unit ℕ (UR sig nD τ) ℕ cfg0 c where
  A w := V c (Proc.devRef .tc (Pipeline.arrRef spec0 w))
  after w _ := after0 (V c) w
  Φ _ := Pipeline.scopedRest (Ix := Unit) (Name := ℕ) (U := UR sig nD τ) (Lvl := ℕ) (Val := Elt F) spec0 c
  q _ := fullShare
  owed _ := 0

set_option maxHeartbeats 4000000 in
/-- The first region's body: its staging buffers and scratch taken apart, `body0` applied, its post put together again. -/
theorem body_obligation0 (V : Dev nD → Valuation τ sig (Elt F)) (hids : ∀ c (i : S3x640.Idx), (show BitVec 32 from V c (Proc.devRef .tc main_arg5) i).toInt < 200) (c : Dev nD) :
    BodyObligation (dat0 V c) (defs₀ (F := F)) 𝒱₀ () Set.univ := fun t => by
  obtain rfl := fin_N0 t
  rw [bigSep_W0, bigSep_W0]
  simp only [owns_whole_eq]
  rw [show (dat0 V c).Φ t0_0.castSucc = Pipeline.scopedRest spec0 c from rfl, show (dat0 V c).Φ t0_0.succ = Pipeline.scopedRest spec0 c from rfl]
  unfold Dat.owesAt Pipeline.owesWithin; rw [scopedRest0_eq]
  rw [show (dat0 V c).owed t0_0.castSucc = 0 from rfl, show (dat0 V c).owed t0_0.succ = 0 from rfl]
  iintro ⟨⟨⟨%g12, H12⟩, ⟨%g13, H13⟩, ⟨%g14, H14⟩, ⟨%g15, H15⟩, HR1, HR2⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  replace hf0 : f0 = stg0_0 (V c) := hf0.trans (by unfold Dat.before; rw [if_pos (fetch0_0 t0_0)]; rfl)
  subst hf0
  replace hf1 : f1 = stg0_1 (V c) := hf1.trans (by unfold Dat.before; rw [if_pos (fetch0_1 t0_0)]; rfl)
  subst hf1
  replace hf2 : f2 = stg0_2 (V c) := hf2.trans (by unfold Dat.before; rw [if_pos (fetch0_2 t0_0)]; rfl)
  subst hf2
  replace hf3 : f3 = stg0_3 (V c) := hf3.trans (by unfold Dat.before; rw [if_pos (fetch0_3 t0_0)]; rfl)
  subst hf3
  replace hf4 : f4 = stg0_4 (V c) := hf4.trans (by unfold Dat.before; rw [if_pos (fetch0_4 t0_0)]; rfl)
  subst hf4
  replace hf5 : f5 = stg0_5 (V c) := hf5.trans (by unfold Dat.before; rw [if_pos (fetch0_5 t0_0)]; rfl)
  subst hf5
  replace hf6 : f6 = stg0_6 (V c) := hf6.trans (by unfold Dat.before; rw [if_pos (fetch0_6 t0_0)]; rfl)
  subst hf6
  replace hf7 : f7 = stg0_7 (V c) := hf7.trans (by unfold Dat.before; rw [if_pos (fetch0_7 t0_0)]; rfl)
  subst hf7
  replace hf8 : f8 = stg0_8 (V c) := hf8.trans (by unfold Dat.before; rw [if_pos (fetch0_8 t0_0)]; rfl)
  subst hf8
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15]
  · iapply (body0 (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) (win0_5.stage (cfg0.slots t0_0 5)) (hstage0_5 0) (win0_6.stage (cfg0.slots t0_0 6)) (hstage0_6 0) (win0_7.stage (cfg0.slots t0_0 7)) (hstage0_7 0) (win0_8.stage (cfg0.slots t0_0 8)) (hstage0_8 0) (win0_9.stage (cfg0.slots t0_0 9)) (hstage0_9 0) (win0_10.stage (cfg0.slots t0_0 10)) (hstage0_10 0) (win0_11.stage (cfg0.slots t0_0 11)) (hstage0_11 0) (Memref.whole cc0_scratch0) (Memref.isWhole_whole _) (Memref.whole cc0_scratch1) (Memref.isWhole_whole _) (Memref.whole cc0_scratch2) (Memref.isWhole_whole _) (Memref.whole cc0_scratch3) (Memref.isWhole_whole _) 𝒱₀ c none Set.univ (stg0_0 (V c)) (stg0_1 (V c)) (stg0_2 (V c)) (stg0_3 (V c)) (stg0_4 (V c)) (stg0_5 (V c)) (stg0_6 (V c)) (stg0_7 (V c)) (stg0_8 (V c)) f9 f10 f11 g12 g13 g14 g15 (fun i => by have e := congrFun (read0_0 (F := F) (V c (Proc.devRef .tc main_arg5))) i; have h := hids c i; rw [← e] at h; exact h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H0, H1, H2, H3, H4, H5, H6, H7, H8, %g9, %g10, %g11, %g12, %g13, %g14, %g15, H9, H10, H11, H12, H13, H14, H15, %he⟩
    obtain ⟨he9, he10, he11⟩ := he
    isplitl [H12 H13 H14 H15 HR1 HR2]
    · isplitl [H12]; · iexists _; iexact H12
      isplitl [H13]; · iexists _; iexact H13
      isplitl [H14]; · iexists _; iexact H14
      isplitl [H15]; · iexists _; iexact H15
      isplitl [HR1] <;> iassumption
    isplitl [HO]; · iexact HO
    isplitl [H0]
    · iexists _; isplitr; swap; (· iexact H0); ipureintro; rfl
    isplitl [H1]
    · iexists _; isplitr; swap; (· iexact H1); ipureintro; rfl
    isplitl [H2]
    · iexists _; isplitr; swap; (· iexact H2); ipureintro; rfl
    isplitl [H3]
    · iexists _; isplitr; swap; (· iexact H3); ipureintro; rfl
    isplitl [H4]
    · iexists _; isplitr; swap; (· iexact H4); ipureintro; rfl
    isplitl [H5]
    · iexists _; isplitr; swap; (· iexact H5); ipureintro; rfl
    isplitl [H6]
    · iexists _; isplitr; swap; (· iexact H6); ipureintro; rfl
    isplitl [H7]
    · iexists _; isplitr; swap; (· iexact H7); ipureintro; rfl
    isplitl [H8]
    · iexists _; isplitr; swap; (· iexact H8); ipureintro; rfl
    isplitl [H9]
    · iexists _; isplitr; swap; (· iexact H9); ipureintro; exact he9
    isplitl [H10]
    · iexists _; isplitr; swap; (· iexact H10); ipureintro; exact he10
    · iexists _; isplitr; swap; (· iexact H11); ipureintro; exact he11

/-- What the first region leaves in `main_v6_0`. -/
theorem arrAt0_9 (V : Dev nD → Valuation τ sig (Elt F)) (c : Dev nD) : (dat0 V c).arrAt 9 cfg0.N = out9 (V c) := by
  refine (read0_9 (F := F) ((dat0 V c).arrAt 9 cfg0.N)).symm.trans ?_
  refine ((dat0 V c).read_blk_arrAt_eq_flushed 9 (fun t t' _ _ h => absurd ((fin_N0 t).trans (fin_N0 t').symm) h) cfg0.N t0_0 t0_0.isLt (flush0_9 t0_0)).trans ?_
  rfl

/-- What the first region leaves in `main_v6_1`. -/
theorem arrAt0_10 (V : Dev nD → Valuation τ sig (Elt F)) (c : Dev nD) : (dat0 V c).arrAt 10 cfg0.N = out10 (V c) := by
  refine (read0_10 (F := F) ((dat0 V c).arrAt 10 cfg0.N)).symm.trans ?_
  refine ((dat0 V c).read_blk_arrAt_eq_flushed 10 (fun t t' _ _ h => absurd ((fin_N0 t).trans (fin_N0 t').symm) h) cfg0.N t0_0 t0_0.isLt (flush0_10 t0_0)).trans ?_
  rfl

/-- What the first region leaves in `main_v6_2`. -/
theorem arrAt0_11 (V : Dev nD → Valuation τ sig (Elt F)) (c : Dev nD) : (dat0 V c).arrAt 11 cfg0.N = out11 (V c) := by
  refine (read0_11 (F := F) ((dat0 V c).arrAt 11 cfg0.N)).symm.trans ?_
  refine ((dat0 V c).read_blk_arrAt_eq_flushed 11 (fun t t' _ _ h => absurd ((fin_N0 t).trans (fin_N0 t').symm) h) cfg0.N t0_0 t0_0.isLt (flush0_11 t0_0)).trans ?_
  rfl

/-! ## The counting kernel's region -/

/-- Window 0 of the second region is the whole of `main_arg5`. -/
theorem read1_0 (f : S3x640.Idx → Elt F .i32) : ((cfg1.win 0).blk t1_0).view.read (Elt F) f = f := by
  funext i
  refine congrArg f (funext fun a => Fin.ext ?_)
  refine (Pipeline.Window.rect_emb_val win1_0 t1_0 i a).trans ?_
  fin_cases a <;> exact Nat.zero_add _
/-- Window 1 of the second region is the whole of `main_v7`. -/
theorem read1_1 (f : S3x200x1.Idx → Elt F .i32) : ((cfg1.win 1).blk t1_0).view.read (Elt F) f = f := by
  funext i
  refine congrArg f (funext fun a => Fin.ext ?_)
  refine (Pipeline.Window.rect_emb_val win1_1 t1_0 i a).trans ?_
  fin_cases a <;> exact Nat.zero_add _

/-- What the second region stages of `main_arg5`. -/
abbrev stg1_0 (V : Valuation τ sig (Elt F)) : S3x640.Idx → Elt F .i32 := ((cfg1.win 0).blk t1_0).view.read (Elt F) (V (Proc.devRef .tc main_arg5))

/-- The counts the region leaves. -/
def outC (V : Valuation τ sig (Elt F)) : S3x200x1.Idx → BitVec 32 := countsV (F := F) (stg1_0 V)

/-- What window `w`'s staging buffer holds after the second region's body. -/
def after1 (V : Valuation τ sig (Elt F)) (w : Fin 2) : (cfg1.win w).block.Idx → Elt F (cfg1.win w).elt :=
  match w with
  | ⟨0, _⟩ => stg1_0 V
  | ⟨1, _⟩ => outC V

/-- The second region's output buffer after its body. -/
theorem after1_1 (V : Valuation τ sig (Elt F)) : after1 V 1 = outC V := by unfold after1; rfl

/-- The second region's proof data over buffers `V`. -/
def dat1 (V : Dev nD → Valuation τ sig (Elt F)) (c : Dev nD) : Dat τ (Elt F) Unit ℕ (UR sig nD τ) ℕ cfg1 c where
  A w := V c (Proc.devRef .tc (Pipeline.arrRef spec1 w))
  after w _ := after1 (V c) w
  Φ _ := Pipeline.scopedRest (Ix := Unit) (Name := ℕ) (U := UR sig nD τ) (Lvl := ℕ) (Val := Elt F) spec1 c
  q _ := fullShare
  owed _ := 0

/-- The second region's output buffer after its body, as its proof data say. -/
theorem dat1_after (V : Dev nD → Valuation τ sig (Elt F)) (c : Dev nD) : (dat1 V c).after 1 t1_0 = outC (V c) := by
  unfold dat1; dsimp only; exact after1_1 (V c)

set_option maxHeartbeats 4000000 in
/-- The second region's body: its staging buffers taken apart, `body1` applied, its post put together again. -/
theorem body_obligation1 (V : Dev nD → Valuation τ sig (Elt F)) (c : Dev nD) : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Pipeline.scopedRest spec1 c from rfl, show (dat1 V c).Φ t1_0.succ = Pipeline.scopedRest spec1 c from rfl]
  unfold Dat.owesAt Pipeline.owesWithin
  rw [show (dat1 V c).owed t1_0.castSucc = 0 from rfl, show (dat1 V c).owed t1_0.succ = 0 from rfl]
  iintro ⟨HR, HO, ⟨%d0, %f0, %hf0, H0⟩, ⟨%d1, %f1, %hf1, H1⟩⟩
  replace hf0 : f0 = stg1_0 (V c) := hf0.trans (by unfold Dat.before; rw [if_pos (fetch1_0 t1_0)]; rfl)
  subst hf0
  iapply (wp_wand_r Idealize.ShloMosaic.frame (wpE (defs₀ (F := F)) 𝒱₀ (c : Thread nD τ) none) Set.univ)
  isplitl [H0 H1]
  · iapply (body1 (win1_0.stage (cfg1.slots t1_0 0)) (hstage1_0 0) (win1_1.stage (cfg1.slots t1_0 1)) (hstage1_1 0) 𝒱₀ c none Set.univ (stg1_0 (V c)) f1)
    isplitl [H0]; · iexact H0
    iexact H1
  · iintro %_ ⟨H0, %g1, H1, %he⟩
    isplitl [HR]; · iexact HR
    isplitl [HO]; · iexact HO
    isplitl [H0]
    · iexists _; isplitr; swap; (· iexact H0); ipureintro; rfl
    · iexists _; isplitr; swap; (· iexact H1); ipureintro; refine Eq.trans ?_ (dat1_after V c).symm; exact he

/-- What the second region leaves in `main_v7`. -/
theorem arrAt1_1 (V : Dev nD → Valuation τ sig (Elt F)) (c : Dev nD) : (dat1 V c).arrAt 1 cfg1.N = outC (V c) := by
  refine (read1_1 (F := F) ((dat1 V c).arrAt 1 cfg1.N)).symm.trans ?_
  refine ((dat1 V c).read_blk_arrAt_eq_flushed 1 (fun t t' _ _ h => absurd ((fin_N1 t).trans (fin_N1 t').symm) h) cfg1.N t1_0 t1_0.isLt (flush1_1 t1_0)).trans ?_
  show (cfg1.win 1).cut (cfg1.grid.coords t1_0) ((dat1 V c).after 1 t1_0) = outC (V c)
  rw [dat1_after]
  rfl

/-! ## The program's run -/

variable (m : (ℓ : Loc nD τ sig) → Buf (Elt F) ℓ) (ρ : Dev nD → PrngReg)

/-- Core `c`'s unscoped buffers at launch. -/
def U0 (c : Dev nD) : Valuation τ sig (Elt F) := fun b => m (c, b)
/-- After the reshapes of the arguments. -/
def U1 (c : Dev nD) : Valuation τ sig (Elt F) := StableHlo.after hostOps0 (U0 m c)
/-- After the fused kernel. -/
def U2 (c : Dev nD) : Valuation τ sig (Elt F) := Pipeline.afterRegion (dat0 (U1 m) c) (U1 m c)
/-- After the counting kernel. -/
def U3 (c : Dev nD) : Valuation τ sig (Elt F) := Pipeline.afterRegion (dat1 (U2 m) c) (U2 m c)
/-- After the reshapes of the results. -/
def U4 (c : Dev nD) : Valuation τ sig (Elt F) := StableHlo.after hostOps2 (U3 m c)

/-- The two regions' proof data. -/
def dats : (p : Fin 2) → (c : Dev nD) → Dat τ (Elt F) Unit ℕ (UR sig nD τ) ℕ (Pipeline.pin (pcfgs (F := F)) adm p) c := fun p => match p with
  | ⟨0, _⟩ => dat0 (U1 m)
  | ⟨1, _⟩ => dat1 (U2 m)

/-- Every staging wait stands at one index of one level. -/
abbrev L : GSem nD τ sig → Finset Unit := fun g => if g.1.2 = .tc then Finset.univ else ∅
/-- Every wait stands at level zero. -/
abbrev lv : GSem nD τ sig → Unit → ℕ := fun _ _ => 0
/-- What rides beside the buffers: nothing owed. -/
abbrev R (c : Dev nD) : sProp 𝕄G := iprop((∃ W, owes (c : Thread nD τ) (0 : CellTallies nD τ sig Unit) W) ∗ emp ∗ emp)

/-- Nothing is owed, so nothing is waited for out of order. -/
theorem cut (p : Fin 2) : Pipeline.LevelCut (nD := nD) (τ := τ) (pcfgs (F := F)) adm () L lv p (fun _ => 0) (fun _ => (0 : ℕ)) where
  hι c w s := by show () ∈ (if _ then _ else _); rw [if_pos rfl]; exact Finset.mem_univ _
  hιb c w s := le_refl _
  hD c g i h := absurd h (Nat.lt_irrefl 0)

set_option backward.isDefEq.respectTransparency.types false in
/-- The fused kernel's region, entered from the buffers at `U1` and left at `U2`. -/
def reg0 (hids : ∀ c (i : S3x640.Idx), (show BitVec 32 from U1 m c (Proc.devRef .tc main_arg5) i).toInt < 200) :
    Pipeline.RegionSeg (pcfgs (F := F)) adm (dats m) () defs₀ 𝒱₀ L lv 0 :=
  Pipeline.RegionSeg.ofHeldIn (pcfgs (F := F)) adm (dats m) () defs₀ 𝒱₀ L lv 0 (fun _ => 0) (Pipeline.ucRefs τ sig) (fun _ => iprop(emp)) (fun _ => iprop(emp))
    launch0.toP rfl (fun c => (body_obligation0 (U1 m) hids c).loose) (fun _ _ => rfl) (fun _ => rfl) (fun c => (dat0 (U1 m) c).share_full fun _ => rfl)
    (fun c => by show iprop(Pipeline.scopedRest (Ix := Unit) (Name := ℕ) (U := UR sig nD τ) (Lvl := ℕ) (Val := Elt F) spec0 c ∗ emp) ⊢ Pipeline.scopedRest (Ix := Unit) (Name := ℕ) (U := UR sig nD τ) (Lvl := ℕ) (Val := Elt F) spec0 c; iintro ⟨H, -⟩; iexact H) (fun c => by show Pipeline.scopedRest (Ix := Unit) (Name := ℕ) (U := UR sig nD τ) (Lvl := ℕ) (Val := Elt F) spec0 c ⊢ iprop(Pipeline.scopedRest (Ix := Unit) (Name := ℕ) (U := UR sig nD τ) (Lvl := ℕ) (Val := Elt F) spec0 c ∗ emp); iintro H; isplitl [H]; (· iexact H); iempintro) (fun _ => 0) (cut 0) (fun _ => iprop(emp)) (U1 m) (fun _ _ => rfl)

set_option backward.isDefEq.respectTransparency.types false in
/-- The counting kernel's region, entered from the buffers at `U2` and left at `U3`. -/
def reg1 : Pipeline.RegionSeg (pcfgs (F := F)) adm (dats m) () defs₀ 𝒱₀ L lv 1 :=
  Pipeline.RegionSeg.ofHeldIn (pcfgs (F := F)) adm (dats m) () defs₀ 𝒱₀ L lv 1 (fun _ => 0) (Pipeline.ucRefs τ sig) (fun _ => iprop(emp)) (fun _ => iprop(emp))
    launch1.toP rfl (fun c => (body_obligation1 (U2 m) c).loose) (fun _ _ => rfl) (fun _ => rfl) (fun c => (dat1 (U2 m) c).share_full fun _ => rfl)
    (fun c => by show iprop(Pipeline.scopedRest (Ix := Unit) (Name := ℕ) (U := UR sig nD τ) (Lvl := ℕ) (Val := Elt F) spec1 c ∗ emp) ⊢ Pipeline.scopedRest (Ix := Unit) (Name := ℕ) (U := UR sig nD τ) (Lvl := ℕ) (Val := Elt F) spec1 c; iintro ⟨H, -⟩; iexact H) (fun c => by show Pipeline.scopedRest (Ix := Unit) (Name := ℕ) (U := UR sig nD τ) (Lvl := ℕ) (Val := Elt F) spec1 c ⊢ iprop(Pipeline.scopedRest (Ix := Unit) (Name := ℕ) (U := UR sig nD τ) (Lvl := ℕ) (Val := Elt F) spec1 c ∗ emp); iintro H; isplitl [H]; (· iexact H); iempintro) (fun _ => 0) (cut 1) (fun _ => iprop(emp)) (U2 m) (fun _ _ => rfl)

/-- The reshapes of the arguments, as a stretch of the run. -/
def hseg0 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) R
/-- The reshapes of the results, as a stretch of the run. -/
def hseg2 : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) R

/-- Every window's array is an unscoped buffer. -/
theorem arrs0_sub : Pipeline.arrRefs (τ := τ) (pcfgs (F := F) 0).spec ⊆ Pipeline.ucRefs τ sig := by
  show Pipeline.arrRefs (τ := τ) spec0 ⊆ Pipeline.ucRefs τ sig
  decide

set_option backward.isDefEq.respectTransparency.types false in
/-- The region's entry. -/
theorem enter0 (hids : ∀ c (i : S3x640.Idx), (show BitVec 32 from U1 m c (Proc.devRef .tc main_arg5) i).toInt < 200) (c : Dev nD) : iprop(StableHlo.held (c.tc : Thread nD τ) (Pipeline.ucRefs τ sig) (U1 m c) ∗ R c) ⊢ (reg0 m hids).pre c := by
  unfold reg0
  exact Pipeline.RegionSeg.ofHeldIn_pre (pcs := pcfgs (F := F)) (a := adm) (pdats := dats m) (p := 0) (D := fun _ => 0) (X := fun _ => iprop(emp)) (R := fun _ => iprop(emp)) (W := U1 m) arrs0_sub c

set_option backward.isDefEq.respectTransparency.types false in
/-- The region's exit. -/
theorem leave0 (hids : ∀ c (i : S3x640.Idx), (show BitVec 32 from U1 m c (Proc.devRef .tc main_arg5) i).toInt < 200) (c : Dev nD) : (reg0 m hids).post c ⊢ iprop(StableHlo.held (c.tc : Thread nD τ) (Pipeline.ucRefs τ sig) (U2 m c) ∗ R c) := by
  unfold reg0
  exact Pipeline.RegionSeg.ofHeldIn_post arrs0_sub c

/-- Every window's array is an unscoped buffer. -/
theorem arrs1_sub : Pipeline.arrRefs (τ := τ) (pcfgs (F := F) 1).spec ⊆ Pipeline.ucRefs τ sig := by
  show Pipeline.arrRefs (τ := τ) spec1 ⊆ Pipeline.ucRefs τ sig
  decide

set_option backward.isDefEq.respectTransparency.types false in
/-- The region's entry. -/
theorem enter1 (c : Dev nD) : iprop(StableHlo.held (c.tc : Thread nD τ) (Pipeline.ucRefs τ sig) (U2 m c) ∗ R c) ⊢ (reg1 m).pre c := by
  unfold reg1
  exact Pipeline.RegionSeg.ofHeldIn_pre (pcs := pcfgs (F := F)) (a := adm) (pdats := dats m) (p := 1) (D := fun _ => 0) (X := fun _ => iprop(emp)) (R := fun _ => iprop(emp)) (W := U2 m) arrs1_sub c

set_option backward.isDefEq.respectTransparency.types false in
/-- The region's exit. -/
theorem leave1 (c : Dev nD) : (reg1 m).post c ⊢ iprop(StableHlo.held (c.tc : Thread nD τ) (Pipeline.ucRefs τ sig) (U3 m c) ∗ R c) := by
  unfold reg1
  exact Pipeline.RegionSeg.ofHeldIn_post arrs1_sub c

set_option backward.isDefEq.respectTransparency.types false in
/-- From any memory whose ids are below 200 and zero counters, every run of the program ends with every unscoped buffer at `U4` and every
    counter at zero. -/
theorem run_all (hids : ∀ c (i : S3x640.Idx), (show BitVec 32 from U1 m c (Proc.devRef .tc main_arg5) i).toInt < 200) :
    θ_run defs (onTc (τ := τ) (main (F := F))) ⟨m, fun _ => 0, ρ⟩
      (fun r => (∀ c : Dev nD, ∀ b ∈ Pipeline.ucRefs τ sig, r.2.mem (c, b) = U4 m c b) ∧ r.2.sem = fun _ => 0) := by
  refine Pipeline.θ_run_regions_kit_sems (pcfgs (F := F)) adm (dats m) () cellOf_inj emb₁ defs₀ 𝒱₀ L lv m ρ main
    [.host (hseg0 m), .region (reg0 m hids), .region (reg1 m), .host (hseg2 m)]
    (fun c Q => by rw [main_segs adm (dats m) () 𝒱₀ L lv (hseg0 m) (hseg2 m) (reg0 m hids) (reg1 m) rfl rfl c])
    (by simp only [Pipeline.Seg.pipes_host, Pipeline.Seg.pipes_region, Pipeline.Seg.pipes_nil]; decide) (O₀ := 0) (hL := fun g h => if_neg h) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (U0 m c) ∗ R c))
    (Tₙ := fun c => StableHlo.held (c : Thread nD τ) (Pipeline.ucRefs τ sig) (U4 m c))
    (hch := ?_) (hinit := ?_)
    (QY := fun c s => ∀ b ∈ Pipeline.ucRefs τ sig, s.mem (c, b) = U4 m c b) (hfin := fun c s' => ?_)
    (hQ := fun _ h hz => ⟨h, funext fun g => hz g (.inr (regions_no_unscoped g.2))⟩)
  · iintro Hu; imodintro
    isplitl [Hu]
    · iapply (show (ownU _ : sProp 𝕄G) ⊢ BI.own (emb₁ (initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · exact ⟨fun _ => .rfl, enter0 m hids, fun c => (leave0 m hids c).trans (enter1 m c), leave1 m, fun c => by
        show iprop(StableHlo.held (c.tc : Thread nD τ) (Pipeline.ucRefs τ sig) (U4 m c) ∗ R c) ⊢ _
        iintro ⟨Hh, HO, -, -⟩
        isplitl [Hh] <;> iassumption⟩
  · refine Pipeline.initEach L lv fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact h
    · iexact HSI

end Cert.KernelIdeal.Hand
end
-- ==== Proof.KernelIdeal.Values.lean ====
module

public import proofs.«01_k».proof.Proof.KernelIdeal.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A buffer the first reshapes do not write is as launched when the fused kernel runs. -/
theorem U1_of (c : Dev nD) (r : Ref sig .tc) (h : r ∉ hostOps0_W) : U1 m c (Proc.devRef .tc r) = m ((c : Thread nD τ).loc r) :=
  StableHlo.after_of_writes_sub hostOps0 _ hostOps0_writes h

/-- A buffer that is no output of the fused kernel goes through its region. -/
theorem U2_of (c : Dev nD) (r : Ref sig .tc) (h : ∀ w, Pipeline.arrRef spec0 w = r → (cfg0.win w).isOut = false) : U2 m c (Proc.devRef .tc r) = U1 m c (Proc.devRef .tc r) :=
  Pipeline.afterRegion_keeps (dat0 (U1 m) c) (U1 m c) launch0.win.arr_inj (fun _ => rfl) r h

/-- A buffer that is no output of the counting kernel goes through its region. -/
theorem U3_of (c : Dev nD) (r : Ref sig .tc) (h : ∀ w, Pipeline.arrRef spec1 w = r → (cfg1.win w).isOut = false) : U3 m c (Proc.devRef .tc r) = U2 m c (Proc.devRef .tc r) :=
  Pipeline.afterRegion_keeps (dat1 (U2 m) c) (U2 m c) launch1.win.arr_inj (fun _ => rfl) r h

/-- A buffer the last reshapes do not write goes through them. -/
theorem U4_of (c : Dev nD) (r : Ref sig .tc) (h : r ∉ hostOps2_W) : U4 m c (Proc.devRef .tc r) = U3 m c (Proc.devRef .tc r) :=
  StableHlo.after_of_writes_sub hostOps2 _ hostOps2_writes h

/-- Argument 0 ends as launched. -/
theorem U4_arg0 (c : Dev nD) : U4 m c (Proc.devRef .tc main_arg0) = m ((c : Thread nD τ).loc main_arg0) :=
  (U4_of m c main_arg0 (by decide)).trans <| (U3_of m c main_arg0 (by decide)).trans <| (U2_of m c main_arg0 (by decide)).trans (U1_of m c main_arg0 (by decide))
/-- Argument 1 ends as launched. -/
theorem U4_arg1 (c : Dev nD) : U4 m c (Proc.devRef .tc main_arg1) = m ((c : Thread nD τ).loc main_arg1) :=
  (U4_of m c main_arg1 (by decide)).trans <| (U3_of m c main_arg1 (by decide)).trans <| (U2_of m c main_arg1 (by decide)).trans (U1_of m c main_arg1 (by decide))
/-- Argument 2 ends as launched. -/
theorem U4_arg2 (c : Dev nD) : U4 m c (Proc.devRef .tc main_arg2) = m ((c : Thread nD τ).loc main_arg2) :=
  (U4_of m c main_arg2 (by decide)).trans <| (U3_of m c main_arg2 (by decide)).trans <| (U2_of m c main_arg2 (by decide)).trans (U1_of m c main_arg2 (by decide))
/-- Argument 3 ends as launched. -/
theorem U4_arg3 (c : Dev nD) : U4 m c (Proc.devRef .tc main_arg3) = m ((c : Thread nD τ).loc main_arg3) :=
  (U4_of m c main_arg3 (by decide)).trans <| (U3_of m c main_arg3 (by decide)).trans <| (U2_of m c main_arg3 (by decide)).trans (U1_of m c main_arg3 (by decide))
/-- Argument 4 ends as launched. -/
theorem U4_arg4 (c : Dev nD) : U4 m c (Proc.devRef .tc main_arg4) = m ((c : Thread nD τ).loc main_arg4) :=
  (U4_of m c main_arg4 (by decide)).trans <| (U3_of m c main_arg4 (by decide)).trans <| (U2_of m c main_arg4 (by decide)).trans (U1_of m c main_arg4 (by decide))
/-- Argument 5 ends as launched. -/
theorem U4_arg5 (c : Dev nD) : U4 m c (Proc.devRef .tc main_arg5) = m ((c : Thread nD τ).loc main_arg5) :=
  (U4_of m c main_arg5 (by decide)).trans <| (U3_of m c main_arg5 (by decide)).trans <| (U2_of m c main_arg5 (by decide)).trans (U1_of m c main_arg5 (by decide))
/-- Argument 6 ends as launched. -/
theorem U4_arg6 (c : Dev nD) : U4 m c (Proc.devRef .tc main_arg6) = m ((c : Thread nD τ).loc main_arg6) :=
  (U4_of m c main_arg6 (by decide)).trans <| (U3_of m c main_arg6 (by decide)).trans <| (U2_of m c main_arg6 (by decide)).trans (U1_of m c main_arg6 (by decide))
/-- Argument 7 ends as launched. -/
theorem U4_arg7 (c : Dev nD) : U4 m c (Proc.devRef .tc main_arg7) = m ((c : Thread nD τ).loc main_arg7) :=
  (U4_of m c main_arg7 (by decide)).trans <| (U3_of m c main_arg7 (by decide)).trans <| (U2_of m c main_arg7 (by decide)).trans (U1_of m c main_arg7 (by decide))
/-- Argument 8 ends as launched. -/
theorem U4_arg8 (c : Dev nD) : U4 m c (Proc.devRef .tc main_arg8) = m ((c : Thread nD τ).loc main_arg8) :=
  (U4_of m c main_arg8 (by decide)).trans <| (U3_of m c main_arg8 (by decide)).trans <| (U2_of m c main_arg8 (by decide)).trans (U1_of m c main_arg8 (by decide))

/-- What the program leaves in its result `main_v6_0`. -/
theorem U4_main_v6_0 (c : Dev nD) : U4 m c (Proc.devRef .tc main_v6_0) = out9 (U1 m c) :=
  (U4_of m c main_v6_0 (by decide)).trans <| (U3_of m c main_v6_0 (by decide)).trans <|
    (Pipeline.afterRegion_arr (dat0 (U1 m) c) (U1 m c) launch0.win.arr_inj 9).trans (arrAt0_9 (U1 m) c)

/-- What the program leaves in its result `main_v6_2`. -/
theorem U4_main_v6_2 (c : Dev nD) : U4 m c (Proc.devRef .tc main_v6_2) = out11 (U1 m c) :=
  (U4_of m c main_v6_2 (by decide)).trans <| (U3_of m c main_v6_2 (by decide)).trans <|
    (Pipeline.afterRegion_arr (dat0 (U1 m) c) (U1 m c) launch0.win.arr_inj 11).trans (arrAt0_11 (U1 m) c)

/-- The points' features before the last reshape. -/
theorem U3_main_v6_1 (c : Dev nD) : U3 m c (Proc.devRef .tc main_v6_1) = out10 (U1 m c) :=
  (U3_of m c main_v6_1 (by decide)).trans ((Pipeline.afterRegion_arr (dat0 (U1 m) c) (U1 m c) launch0.win.arr_inj 10).trans (arrAt0_10 (U1 m) c))

/-- The counts before the last reshape. -/
theorem U3_main_v7 (c : Dev nD) : U3 m c (Proc.devRef .tc main_v7) = countsV (F := F) (m ((c : Thread nD τ).loc main_arg5)) := by
  refine (Pipeline.afterRegion_arr (dat1 (U2 m) c) (U2 m c) launch1.win.arr_inj 1).trans ((arrAt1_1 (U2 m) c).trans ?_)
  unfold outC
  refine congrArg (countsV (F := F)) ((read1_0 (F := F) _).trans ?_)
  exact (U2_of m c main_arg5 (by decide)).trans (U1_of m c main_arg5 (by decide))

/-- What the program leaves in its result `main_v8`. -/
theorem U4_main_v8 (c : Dev nD) : U4 m c (Proc.devRef .tc main_v8) = shapeCast S3x200 (countsV (F := F) (m ((c : Thread nD τ).loc main_arg5))) shapeCasts_S3x200x1_S3x200 := by
  rw [← U3_main_v7]
  unfold U4
  after_results
  rfl

/-- What the program leaves in its result `main_v9`. -/
theorem U4_main_v9 (c : Dev nD) : U4 m c (Proc.devRef .tc main_v9) = shapeCast S3x640x384 (out10 (U1 m c)) shapeCasts_S1920x384_S3x640x384 := by
  rw [← U3_main_v6_1]
  unfold U4
  after_results
  rfl

/-- What the fused kernel reads in `main_v0`. -/
theorem U1_main_v0 (c : Dev nD) : U1 m c (Proc.devRef .tc main_v0) = shapeCast S1920x10240 (m ((c : Thread nD τ).loc main_arg0)) shapeCasts_S3x640x10240_S1920x10240 := by
  unfold U1
  after_results
  rfl

/-- What the fused kernel reads in `main_v1`. -/
theorem U1_main_v1 (c : Dev nD) : U1 m c (Proc.devRef .tc main_v1) = shapeCast S1920x1 (m ((c : Thread nD τ).loc main_arg1)) shapeCasts_S3x640_S1920x1 := by
  unfold U1
  after_results
  rfl

/-- What the fused kernel reads in `main_v2`. -/
theorem U1_main_v2 (c : Dev nD) : U1 m c (Proc.devRef .tc main_v2) = shapeCast S1x384 (m ((c : Thread nD τ).loc main_arg3)) shapeCasts_S384_S1x384 := by
  unfold U1
  after_results
  rfl

/-- What the fused kernel reads in `main_v3`. -/
theorem U1_main_v3 (c : Dev nD) : U1 m c (Proc.devRef .tc main_v3) = shapeCast S1x384 (m ((c : Thread nD τ).loc main_arg4)) shapeCasts_S384_S1x384 := by
  unfold U1
  after_results
  rfl

/-- What the fused kernel reads in `main_v4`. -/
theorem U1_main_v4 (c : Dev nD) : U1 m c (Proc.devRef .tc main_v4) = shapeCast S1x192 (m ((c : Thread nD τ).loc main_arg7)) shapeCasts_S192_S1x192 := by
  unfold U1
  after_results
  rfl

/-- What the fused kernel reads in `main_v5`. -/
theorem U1_main_v5 (c : Dev nD) : U1 m c (Proc.devRef .tc main_v5) = shapeCast S1x192 (m ((c : Thread nD τ).loc main_arg8)) shapeCasts_S192_S1x192 := by
  unfold U1
  after_results
  rfl

/-- From any memory whose ids are below 200 and zero counters, every run ends with the four results at their values, the arguments as
    launched and every counter at zero. -/
theorem run_values (hids : ∀ (c : Dev nD) (i : S3x640.Idx), (show BitVec 32 from m ((c : Thread nD τ).loc main_arg5) i).toInt < 200) :
    θ_run defs (onTc (τ := τ) (main (F := F))) ⟨m, fun _ => 0, ρ⟩ (fun r => (∀ c : Dev nD,
      (r.2.mem ((c.tc : Thread nD τ).loc main_v6_0) = out9 (U1 m c)
      ∧ r.2.mem ((c.tc : Thread nD τ).loc main_v8) = shapeCast S3x200 (countsV (F := F) (m ((c : Thread nD τ).loc main_arg5))) shapeCasts_S3x200x1_S3x200
      ∧ r.2.mem ((c.tc : Thread nD τ).loc main_v9) = shapeCast S3x640x384 (out10 (U1 m c)) shapeCasts_S1920x384_S3x640x384
      ∧ r.2.mem ((c.tc : Thread nD τ).loc main_v6_2) = out11 (U1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have hids' : ∀ c (i : S3x640.Idx), (show BitVec 32 from U1 m c (Proc.devRef .tc main_arg5) i).toInt < 200 := fun c i => by
    have e := congrFun (U1_of m c main_arg5 (by decide)) i
    have h := hids c i
    rw [← e] at h
    exact h
  refine (θ_run defs _ _).mono (fun r h => ⟨fun c => ?_, h.2⟩) (run_all m ρ hids')
  have u : ∀ (b : Ref sig .tc), b.isScoped = false → r.2.mem ((c.tc : Thread nD τ).loc b) = U4 m c (Proc.devRef .tc b) := fun b hb =>
    h.1 c (Proc.devRef .tc b) (Finset.mem_filter.mpr ⟨StableHlo.devRef_mem_tcRefs b, by rw [show (Proc.devRef .tc b : DevRef τ sig).isScoped = b.isScoped from rfl, hb]; exact Bool.false_ne_true⟩)
  exact ⟨⟨(u main_v6_0 (by decide)).trans (U4_main_v6_0 m c), (u main_v8 (by decide)).trans (U4_main_v8 m c),
      (u main_v9 (by decide)).trans (U4_main_v9 m c), (u main_v6_2 (by decide)).trans (U4_main_v6_2 m c)⟩,
    (u main_arg0 (by decide)).trans (U4_arg0 m c),
    (u main_arg1 (by decide)).trans (U4_arg1 m c),
    (u main_arg2 (by decide)).trans (U4_arg2 m c),
    (u main_arg3 (by decide)).trans (U4_arg3 m c),
    (u main_arg4 (by decide)).trans (U4_arg4 m c),
    (u main_arg5 (by decide)).trans (U4_arg5 m c),
    (u main_arg6 (by decide)).trans (U4_arg6 m c),
    (u main_arg7 (by decide)).trans (U4_arg7 m c),
    (u main_arg8 (by decide)).trans (U4_arg8 m c)⟩

end Cert.KernelIdeal.Hand
end
-- ==== Proof.Frames.lean ====
module

public import proofs.«01_k».proof.Defs
public import proofs.«01_k».proof.Proof.Gen.ReferenceIdeal
public import proofs.«01_k».proof.Proof.Gen.ReferenceIdeal.Frame
public import proofs.«01_k».proof.Proof.Kernel.Values
public import proofs.«01_k».proof.Proof.KernelIdeal.Values

@[expose] public section

noncomputable section

namespace Cert.Proof

open Idealize.ShloMosaic Idealize.ShloMosaic.TcCoe Idealize.ShloMosaic.Tactic
open Idealize.SL Idealize.SL.Sem

/-- The side conditions the predicate `ids_named` states. -/
instance preNamed : Cert.Pre_ids_named.Facts where
  bcast_S_S3x640 := by decide

/-- The one-bit word of a truth value is one exactly when the value is true. -/
theorem ofBool_eq_one (p : Bool) : (BitVec.ofBool p = 1#1) ↔ p = true := by cases p <;> decide

/-- `ids_named`, read word by word: every voxel id of `Kernel`'s launch is below 200. -/
theorem ids_of_pre_Kernel (m : (ℓ : Loc Cert.Kernel.nD Cert.Kernel.τ Cert.Kernel.sig) → Buf (Elt Bits) ℓ) (h : Cert.Pre_Kernel m)
    (c : Dev Cert.Kernel.nD) (i : Cert.Kernel.S3x640.Idx) :
    (show BitVec 32 from m ((c : Thread Cert.Kernel.nD Cert.Kernel.τ).loc Cert.Kernel.main_arg5) i).toInt < 200 := by
  have e := congrFun (h c) i
  simp only [Cert.Pre_ids_named.fn, cmpi, broadcastInDim, constantI, IntOp.cmpi, ofBool_eq_one, BitVec.slt, decide_eq_true_eq] at e
  exact of_decide_eq_true e

/-- `ids_named`, read word by word: every voxel id of `KernelIdeal`'s launch is below 200. -/
theorem ids_of_pre_KernelIdeal (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S3x640.Idx) :
    (show BitVec 32 from m ((c : Thread Cert.KernelIdeal.nD Cert.KernelIdeal.τ).loc Cert.KernelIdeal.main_arg5) i).toInt < 200 := by
  have e := congrFun (h c) i
  simp only [Cert.Pre_ids_named.fn, cmpi, broadcastInDim, constantI, IntOp.cmpi, ofBool_eq_one, BitVec.slt, decide_eq_true_eq] at e
  exact of_decide_eq_true e

/-- The kernel's frame: from any memory whose ids are below 200. -/
theorem frame_Kernel : Cert.quiescent_Kernel := fun m g h =>
  (θ_run (Cert.Kernel.defs (F := Bits)) _ _).mono (fun r h => ⟨fun c => (h.1 c).2, h.2⟩)
    (Cert.Kernel.Hand.run_values m g (ids_of_pre_Kernel m h))

/-- The ideal kernel's frame: from any memory whose ids are below 200. -/
theorem frame_KernelIdeal : Cert.quiescent_KernelIdeal := fun m g h =>
  (θ_run (Cert.KernelIdeal.defs (F := Ideal)) _ _).mono (fun r h => ⟨fun c => (h.1 c).2, h.2⟩)
    (Cert.KernelIdeal.Hand.run_values m g (ids_of_pre_KernelIdeal m h))

/-- The reference's frame: from any memory. -/
theorem frame_ReferenceIdeal : Cert.quiescent_ReferenceIdeal := fun m g _ => Cert.ReferenceIdeal.Gen.frame m g

end Cert.Proof
-- ==== Proof.ReferenceIdeal.Terms.lean ====
module

public import proofs.«01_k».proof.Proof.Gen.ReferenceIdeal.Frame
public import Idealize.ShloMosaic.Lib.StableHlo.RunRead

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- The first layer: the product of the points with the weights, scaled by row and by column, plus the bias, floored at zero. -/
def hR (xb : FVec F S3x640x10240 .bf16) (wb : FVec F S10240x384 .bf16) (xs : FVec F S3x640 .f32) (ws : FVec F S384 .f32) (b : FVec F S384 .f32) : FVec F S3x640x384 .f32 :=
  maximumf (addf (mulf (mulf (Host.dotGeneral dot_S3x640x10240_S10240x384_S3x640x384_2_0_01_1_n_n none xb wb) (broadcastInDim S3x640x384 ![0, 1, 2] bcast_S3x640x1_S3x640x384_0_1_2 (broadcastInDim S3x640x1 ![0, 1] bcast_S3x640_S3x640x1_0_1 xs))) (broadcastInDim S3x640x384 ![0, 1, 2] bcast_S1x1x384_S3x640x384_0_1_2 (broadcastInDim S1x1x384 ![2] bcast_S384_S1x1x384_2 ws))) (broadcastInDim S3x640x384 ![0, 1, 2] bcast_S1x1x384_S3x640x384_0_1_2 (broadcastInDim S1x1x384 ![2] bcast_S384_S1x1x384_2 b))) ((broadcastInDim S3x640x384 ![] bcast_S_S3x640x384) (constant S_ .f32 0x00000000#32))

/-- The first voxel number of each scene. -/
def offR  : IVec S3x1 32 :=
  muli (broadcastInDim S3x1 ![0] bcast_S3_S3x1_0 (iotaInDim S3 32 0)) (broadcastInDim S3x1 ![] bcast_S_S3x1 (constantI S_ 32 200#32))

/-- Each point's voxel number among all scenes', or 600 for a point outside every voxel. -/
def segR (ids : IVec S3x640 32) : IVec S3x640 32 :=
  select (cmpi .sge ids (broadcastInDim S3x640 ![] bcast_S_S3x640 (constantI S_ 32 0#32))) (addi (broadcastInDim S3x640 ![0, 1] bcast_S3x1_S3x640_0_1 offR) ids) ((broadcastInDim S3x640 ![] bcast_S_S3x640) (constantI S_ 32 600#32))

/-- Which points belong to which voxel. -/
def memR (ids : IVec S3x640 32) : IVec S600x1920 1 :=
  cmpi .eq (broadcastInDim S600x1920 ![0, 1] bcast_S1x1920_S600x1920_0_1 (broadcastInDim S1x1920 ![1] bcast_S1920_S1x1920_1 (shapeCast S1920 (segR ids) shapeCasts_S3x640_S1920))) (broadcastInDim S600x1920 ![0, 1] bcast_S600x1_S600x1920_0_1 (broadcastInDim S600x1 ![0] bcast_S600_S600x1_0 (iotaInDim S600 32 0)))

/-- The number of points of each voxel. -/
def cntR (ids : IVec S3x640 32) : IVec S600 32 :=
  Host.reduce IntOp.addi (extui 32 (memR ids) natLt_1_32) (constantI S_ 32 0#32) reducesTo_S600x1920_S600_d1 h_S_

/-- Which voxels hold a point. -/
def occR (ids : IVec S3x640 32) : IVec S600x1 1 :=
  cmpi .sgt (broadcastInDim S600x1 ![0] bcast_S600_S600x1_0 (cntR ids)) (broadcastInDim S600x1 ![] bcast_S_S600x1 (constantI S_ 32 0#32))

/-- Each point's first-layer row under each voxel it belongs to, minus infinity elsewhere. -/
def maskR (xb : FVec F S3x640x10240 .bf16) (wb : FVec F S10240x384 .bf16) (xs : FVec F S3x640 .f32) (ws : FVec F S384 .f32) (b : FVec F S384 .f32) (ids : IVec S3x640 32) : FVec F S600x1920x384 .f32 :=
  select ((broadcastInDim S600x1920x384 ![0, 1, 2] bcast_S600x1920x1_S600x1920x384_0_1_2) (broadcastInDim S600x1920x1 ![0, 1] bcast_S600x1920_S600x1920x1_0_1 (memR ids))) ((broadcastInDim S600x1920x384 ![0, 1, 2] bcast_S1x1920x384_S600x1920x384_0_1_2) (broadcastInDim S1x1920x384 ![1, 2] bcast_S1920x384_S1x1920x384_1_2 (shapeCast S1920x384 (hR xb wb xs ws b) shapeCasts_S3x640x384_S1920x384))) ((broadcastInDim S600x1920x384 ![] bcast_S_S600x1920x384) (constant S_ .f32 0xFF800000#32))

/-- The maximum of each voxel's rows. -/
def vmaxR (xb : FVec F S3x640x10240 .bf16) (wb : FVec F S10240x384 .bf16) (xs : FVec F S3x640 .f32) (ws : FVec F S384 .f32) (b : FVec F S384 .f32) (ids : IVec S3x640 32) : FVec F S600x384 .f32 :=
  Host.reduce FloatOps.maximumf (maskR xb wb xs ws b ids) (constant S_ .f32 0xFF800000#32) reducesTo_S600x1920x384_S600x384_d1 h_S_

/-- The voxel features: the maximum, zero for an empty voxel. -/
def vfR (xb : FVec F S3x640x10240 .bf16) (wb : FVec F S10240x384 .bf16) (xs : FVec F S3x640 .f32) (ws : FVec F S384 .f32) (b : FVec F S384 .f32) (ids : IVec S3x640 32) : FVec F S600x384 .bf16 :=
  truncf .bf16 (select ((broadcastInDim S600x384 ![0, 1] bcast_S600x1_S600x384_0_1) (occR ids)) (vmaxR xb wb xs ws b ids) ((broadcastInDim S600x384 ![] bcast_S_S600x384) (constant S_ .f32 0x00000000#32))) bitsLt_bf16_f32

/-- The voxel row each point reads back. -/
def gixR (ids : IVec S3x640 32) : IVec S1920x1 32 :=
  broadcastInDim S1920x1 ![0] bcast_S1920_S1920x1_0 (select (cmpi .slt (shapeCast S1920 (addi (broadcastInDim S3x640 ![0, 1] bcast_S3x1_S3x640_0_1 offR) (maxsi ids (broadcastInDim S3x640 ![] bcast_S_S3x640 (constantI S_ 32 0#32)))) shapeCasts_S3x640_S1920) (broadcastInDim S1920 ![] bcast_S_S1920 (constantI S_ 32 0#32))) (addi (shapeCast S1920 (addi (broadcastInDim S3x640 ![0, 1] bcast_S3x1_S3x640_0_1 offR) (maxsi ids (broadcastInDim S3x640 ![] bcast_S_S3x640 (constantI S_ 32 0#32)))) shapeCasts_S3x640_S1920) (broadcastInDim S1920 ![] bcast_S_S1920 (constantI S_ 32 600#32))) (shapeCast S1920 (addi (broadcastInDim S3x640 ![0, 1] bcast_S3x1_S3x640_0_1 offR) (maxsi ids (broadcastInDim S3x640 ![] bcast_S_S3x640 (constantI S_ 32 0#32)))) shapeCasts_S3x640_S1920))

/-- The voxel features read back at each point. -/
def gR (xb : FVec F S3x640x10240 .bf16) (wb : FVec F S10240x384 .bf16) (xs : FVec F S3x640 .f32) (ws : FVec F S384 .f32) (b : FVec F S384 .f32) (ids : IVec S3x640 32) : FVec F S1920x384 .bf16 :=
  Host.gather gather_S600x384_S1920x1_S1920x384_1_0_n_n_0_1_1384 (vfR xb wb xs ws b ids) (gixR ids)

/-- The second layer: the two products added, scaled by column, plus the bias, floored at zero. -/
def h2R (xb : FVec F S3x640x10240 .bf16) (wb : FVec F S10240x384 .bf16) (w2b : FVec F S2x384x192 .bf16) (xs : FVec F S3x640 .f32) (ws : FVec F S384 .f32) (b : FVec F S384 .f32) (ids : IVec S3x640 32) (w2s : FVec F S192 .f32) (b2 : FVec F S192 .f32) : FVec F S1920x192 .f32 :=
  maximumf (addf (mulf (addf (Host.dotGeneral dot_S1920x384_S384x192_S1920x192_1_0_0_1_n_n none (shapeCast S1920x384 (truncf .bf16 (hR xb wb xs ws b) bitsLt_bf16_f32) shapeCasts_S3x640x384_S1920x384) (shapeCast S384x192 (extractStridedSlice S1x384x192 ![0, 0, 0] w2b slices_S2x384x192_S1x384x192_0_0_0) shapeCasts_S1x384x192_S384x192)) (Host.dotGeneral dot_S1920x384_S384x192_S1920x192_1_0_0_1_n_n none (gR xb wb xs ws b ids) (shapeCast S384x192 (extractStridedSlice S1x384x192 ![1, 0, 0] w2b slices_S2x384x192_S1x384x192_1_0_0) shapeCasts_S1x384x192_S384x192))) (broadcastInDim S1920x192 ![0, 1] bcast_S1x192_S1920x192_0_1 (broadcastInDim S1x192 ![1] bcast_S192_S1x192_1 w2s))) (broadcastInDim S1920x192 ![0, 1] bcast_S1x192_S1920x192_0_1 (broadcastInDim S1x192 ![1] bcast_S192_S1x192_1 b2))) ((broadcastInDim S1920x192 ![] bcast_S_S1920x192) (constant S_ .f32 0x00000000#32))

/-- Each point's second-layer row under each voxel it belongs to, minus infinity elsewhere. -/
def mask2R (xb : FVec F S3x640x10240 .bf16) (wb : FVec F S10240x384 .bf16) (w2b : FVec F S2x384x192 .bf16) (xs : FVec F S3x640 .f32) (ws : FVec F S384 .f32) (b : FVec F S384 .f32) (ids : IVec S3x640 32) (w2s : FVec F S192 .f32) (b2 : FVec F S192 .f32) : FVec F S600x1920x192 .f32 :=
  select ((broadcastInDim S600x1920x192 ![0, 1, 2] bcast_S600x1920x1_S600x1920x192_0_1_2) (broadcastInDim S600x1920x1 ![0, 1] bcast_S600x1920_S600x1920x1_0_1 (memR ids))) ((broadcastInDim S600x1920x192 ![0, 1, 2] bcast_S1x1920x192_S600x1920x192_0_1_2) (broadcastInDim S1x1920x192 ![1, 2] bcast_S1920x192_S1x1920x192_1_2 (h2R xb wb w2b xs ws b ids w2s b2))) ((broadcastInDim S600x1920x192 ![] bcast_S_S600x1920x192) (constant S_ .f32 0xFF800000#32))

/-- The maximum of each voxel's second-layer rows. -/
def vmax2R (xb : FVec F S3x640x10240 .bf16) (wb : FVec F S10240x384 .bf16) (w2b : FVec F S2x384x192 .bf16) (xs : FVec F S3x640 .f32) (ws : FVec F S384 .f32) (b : FVec F S384 .f32) (ids : IVec S3x640 32) (w2s : FVec F S192 .f32) (b2 : FVec F S192 .f32) : FVec F S600x192 .f32 :=
  Host.reduce FloatOps.maximumf (mask2R xb wb w2b xs ws b ids w2s b2) (constant S_ .f32 0xFF800000#32) reducesTo_S600x1920x192_S600x192_d1 h_S_

/-- The second voxel features: that maximum, zero for an empty voxel. -/
def vf2R (xb : FVec F S3x640x10240 .bf16) (wb : FVec F S10240x384 .bf16) (w2b : FVec F S2x384x192 .bf16) (xs : FVec F S3x640 .f32) (ws : FVec F S384 .f32) (b : FVec F S384 .f32) (ids : IVec S3x640 32) (w2s : FVec F S192 .f32) (b2 : FVec F S192 .f32) : FVec F S600x192 .bf16 :=
  truncf .bf16 (select ((broadcastInDim S600x192 ![0, 1] bcast_S600x1_S600x192_0_1) (occR ids)) (vmax2R xb wb w2b xs ws b ids w2s b2) ((broadcastInDim S600x192 ![] bcast_S_S600x192) (constant S_ .f32 0x00000000#32))) bitsLt_bf16_f32

/-- The host operations after the cast kernel, part A. -/
abbrev opsA : List (HloOp τ sig (Elt F)) := hostOps1 ++ hostOps1_1 ++ hostOps1_2 ++ hostOps1_3 ++ hostOps1_4 ++ hostOps1_5 ++ hostOps1_6
/-- The host operations after the cast kernel, part B. -/
abbrev opsB : List (HloOp τ sig (Elt F)) := hostOps1_7 ++ hostOps1_8
/-- The host operations after the cast kernel, part C. -/
abbrev opsC : List (HloOp τ sig (Elt F)) := hostOps1_9 ++ hostOps1_10 ++ hostOps1_11 ++ hostOps1_12
/-- The host operations after the cast kernel, part D. -/
abbrev opsD : List (HloOp τ sig (Elt F)) := hostOps1_13 ++ hostOps1_14

/-- The host operations after the cast kernel are those four parts in order. -/
theorem after_parts (W : Valuation τ sig (Elt F)) :
    StableHlo.after ([hostOps1, hostOps1_1, hostOps1_2, hostOps1_3, hostOps1_4, hostOps1_5, hostOps1_6, hostOps1_7, hostOps1_8, hostOps1_9, hostOps1_10, hostOps1_11, hostOps1_12, hostOps1_13, hostOps1_14] : List (List (HloOp τ sig (Elt F)))).flatten W
      = StableHlo.after opsD (StableHlo.after opsC (StableHlo.after opsB (StableHlo.after opsA W))) := by
  rw [← StableHlo.after_append, ← StableHlo.after_append, ← StableHlo.after_append]
  rfl

variable (V : Valuation τ sig (Elt F))

set_option maxRecDepth 16384 in
/-- `main_v12` after the first part. -/
theorem partA_main_v12 : StableHlo.after (opsA (F := F)) V (Proc.devRef .tc main_v12) = (truncf .bf16 (hR (V (Proc.devRef .tc main_v0_0)) (V (Proc.devRef .tc main_v0_1)) (V (Proc.devRef .tc main_arg1)) (V (Proc.devRef .tc main_arg3)) (V (Proc.devRef .tc main_arg4))) bitsLt_bf16_f32) := by
  after_reads_simp
  rfl

set_option maxRecDepth 16384 in
/-- `main_v16` after the first part. -/
theorem partA_main_v16 : StableHlo.after (opsA (F := F)) V (Proc.devRef .tc main_v16) = offR := by
  after_reads_simp
  rfl

set_option maxRecDepth 16384 in
/-- `main_v28` after the first part. -/
theorem partA_main_v28 : StableHlo.after (opsA (F := F)) V (Proc.devRef .tc main_v28) = (memR (V (Proc.devRef .tc main_arg5))) := by
  after_reads_simp
  rfl

set_option maxRecDepth 16384 in
/-- `main_v30` after the first part. -/
theorem partA_main_v30 : StableHlo.after (opsA (F := F)) V (Proc.devRef .tc main_v30) = (cntR (V (Proc.devRef .tc main_arg5))) := by
  after_reads_simp
  rfl

set_option maxRecDepth 16384 in
/-- `main_v33` after the first part. -/
theorem partA_main_v33 : StableHlo.after (opsA (F := F)) V (Proc.devRef .tc main_v33) = (occR (V (Proc.devRef .tc main_arg5))) := by
  after_reads_simp
  rfl

set_option maxRecDepth 16384 in
/-- `main_v38` after the first part. -/
theorem partA_main_v38 : StableHlo.after (opsA (F := F)) V (Proc.devRef .tc main_v38) = (vmaxR (V (Proc.devRef .tc main_v0_0)) (V (Proc.devRef .tc main_v0_1)) (V (Proc.devRef .tc main_arg1)) (V (Proc.devRef .tc main_arg3)) (V (Proc.devRef .tc main_arg4)) (V (Proc.devRef .tc main_arg5))) := by
  after_reads_simp
  rfl

set_option maxRecDepth 16384 in
/-- `main_v0_2` is as it was after the first part. -/
theorem partA_main_v0_2 : StableHlo.after (opsA (F := F)) V (Proc.devRef .tc main_v0_2) = V (Proc.devRef .tc main_v0_2) := by
  after_reads_simp

set_option maxRecDepth 16384 in
/-- `main_arg5` is as it was after the first part. -/
theorem partA_main_arg5 : StableHlo.after (opsA (F := F)) V (Proc.devRef .tc main_arg5) = V (Proc.devRef .tc main_arg5) := by
  after_reads_simp

set_option maxRecDepth 16384 in
/-- `main_arg7` is as it was after the first part. -/
theorem partA_main_arg7 : StableHlo.after (opsA (F := F)) V (Proc.devRef .tc main_arg7) = V (Proc.devRef .tc main_arg7) := by
  after_reads_simp

set_option maxRecDepth 16384 in
/-- `main_arg8` is as it was after the first part. -/
theorem partA_main_arg8 : StableHlo.after (opsA (F := F)) V (Proc.devRef .tc main_arg8) = V (Proc.devRef .tc main_arg8) := by
  after_reads_simp

set_option maxRecDepth 16384 in
/-- `main_v12` is as it was after the second part. -/
theorem partB_main_v12 : StableHlo.after (opsB (F := F)) V (Proc.devRef .tc main_v12) = V (Proc.devRef .tc main_v12) := by
  after_reads_simp

set_option maxRecDepth 16384 in
/-- `main_v28` is as it was after the second part. -/
theorem partB_main_v28 : StableHlo.after (opsB (F := F)) V (Proc.devRef .tc main_v28) = V (Proc.devRef .tc main_v28) := by
  after_reads_simp

set_option maxRecDepth 16384 in
/-- `main_v30` is as it was after the second part. -/
theorem partB_main_v30 : StableHlo.after (opsB (F := F)) V (Proc.devRef .tc main_v30) = V (Proc.devRef .tc main_v30) := by
  after_reads_simp

set_option maxRecDepth 16384 in
/-- `main_v33` is as it was after the second part. -/
theorem partB_main_v33 : StableHlo.after (opsB (F := F)) V (Proc.devRef .tc main_v33) = V (Proc.devRef .tc main_v33) := by
  after_reads_simp

set_option maxRecDepth 16384 in
/-- `main_v40` after the second part. -/
theorem partB_main_v40 : StableHlo.after (opsB (F := F)) V (Proc.devRef .tc main_v40) = (truncf .bf16 (select ((broadcastInDim S600x384 ![0, 1] bcast_S600x1_S600x384_0_1) (V (Proc.devRef .tc main_v33))) (V (Proc.devRef .tc main_v38)) ((broadcastInDim S600x384 ![] bcast_S_S600x384) (V (Proc.devRef .tc main_cst_5)))) bitsLt_bf16_f32) := by
  after_reads_simp
  rfl

set_option maxRecDepth 16384 in
/-- `main_v66` after the second part. -/
theorem partB_main_v66 : StableHlo.after (opsB (F := F)) V (Proc.devRef .tc main_v66) = (addf (mulf (addf (Host.dotGeneral dot_S1920x384_S384x192_S1920x192_1_0_0_1_n_n none (shapeCast S1920x384 (V (Proc.devRef .tc main_v12)) shapeCasts_S3x640x384_S1920x384) (shapeCast S384x192 (extractStridedSlice S1x384x192 ![0, 0, 0] (V (Proc.devRef .tc main_v0_2)) slices_S2x384x192_S1x384x192_0_0_0) shapeCasts_S1x384x192_S384x192)) (Host.dotGeneral dot_S1920x384_S384x192_S1920x192_1_0_0_1_n_n none (Host.gather gather_S600x384_S1920x1_S1920x384_1_0_n_n_0_1_1384 (truncf .bf16 (select ((broadcastInDim S600x384 ![0, 1] bcast_S600x1_S600x384_0_1) (V (Proc.devRef .tc main_v33))) (V (Proc.devRef .tc main_v38)) ((broadcastInDim S600x384 ![] bcast_S_S600x384) (V (Proc.devRef .tc main_cst_5)))) bitsLt_bf16_f32) (broadcastInDim S1920x1 ![0] bcast_S1920_S1920x1_0 (select (cmpi .slt (shapeCast S1920 (addi (broadcastInDim S3x640 ![0, 1] bcast_S3x1_S3x640_0_1 (V (Proc.devRef .tc main_v16))) (maxsi (V (Proc.devRef .tc main_arg5)) (broadcastInDim S3x640 ![] bcast_S_S3x640 (constantI S_ 32 0#32)))) shapeCasts_S3x640_S1920) (broadcastInDim S1920 ![] bcast_S_S1920 (constantI S_ 32 0#32))) (addi (shapeCast S1920 (addi (broadcastInDim S3x640 ![0, 1] bcast_S3x1_S3x640_0_1 (V (Proc.devRef .tc main_v16))) (maxsi (V (Proc.devRef .tc main_arg5)) (broadcastInDim S3x640 ![] bcast_S_S3x640 (constantI S_ 32 0#32)))) shapeCasts_S3x640_S1920) (broadcastInDim S1920 ![] bcast_S_S1920 (constantI S_ 32 600#32))) (shapeCast S1920 (addi (broadcastInDim S3x640 ![0, 1] bcast_S3x1_S3x640_0_1 (V (Proc.devRef .tc main_v16))) (maxsi (V (Proc.devRef .tc main_arg5)) (broadcastInDim S3x640 ![] bcast_S_S3x640 (constantI S_ 32 0#32)))) shapeCasts_S3x640_S1920)))) (shapeCast S384x192 (extractStridedSlice S1x384x192 ![1, 0, 0] (V (Proc.devRef .tc main_v0_2)) slices_S2x384x192_S1x384x192_1_0_0) shapeCasts_S1x384x192_S384x192))) (broadcastInDim S1920x192 ![0, 1] bcast_S1x192_S1920x192_0_1 (broadcastInDim S1x192 ![1] bcast_S192_S1x192_1 (V (Proc.devRef .tc main_arg7))))) (broadcastInDim S1920x192 ![0, 1] bcast_S1x192_S1920x192_0_1 (broadcastInDim S1x192 ![1] bcast_S192_S1x192_1 (V (Proc.devRef .tc main_arg8))))) := by
  after_reads_simp
  rfl

set_option maxRecDepth 16384 in
/-- `main_v12` is as it was after the third part. -/
theorem partC_main_v12 : StableHlo.after (opsC (F := F)) V (Proc.devRef .tc main_v12) = V (Proc.devRef .tc main_v12) := by
  after_reads_simp

set_option maxRecDepth 16384 in
/-- `main_v30` is as it was after the third part. -/
theorem partC_main_v30 : StableHlo.after (opsC (F := F)) V (Proc.devRef .tc main_v30) = V (Proc.devRef .tc main_v30) := by
  after_reads_simp

set_option maxRecDepth 16384 in
/-- `main_v33` is as it was after the third part. -/
theorem partC_main_v33 : StableHlo.after (opsC (F := F)) V (Proc.devRef .tc main_v33) = V (Proc.devRef .tc main_v33) := by
  after_reads_simp

set_option maxRecDepth 16384 in
/-- `main_v40` is as it was after the third part. -/
theorem partC_main_v40 : StableHlo.after (opsC (F := F)) V (Proc.devRef .tc main_v40) = V (Proc.devRef .tc main_v40) := by
  after_reads_simp

set_option maxRecDepth 16384 in
/-- `main_v71` after the third part. -/
theorem partC_main_v71 : StableHlo.after (opsC (F := F)) V (Proc.devRef .tc main_v71) = (Host.reduce FloatOps.maximumf (select ((broadcastInDim S600x1920x192 ![0, 1, 2] bcast_S600x1920x1_S600x1920x192_0_1_2) (broadcastInDim S600x1920x1 ![0, 1] bcast_S600x1920_S600x1920x1_0_1 (V (Proc.devRef .tc main_v28)))) ((broadcastInDim S600x1920x192 ![0, 1, 2] bcast_S1x1920x192_S600x1920x192_0_1_2) (broadcastInDim S1x1920x192 ![1, 2] bcast_S1920x192_S1x1920x192_1_2 (maximumf (V (Proc.devRef .tc main_v66)) ((broadcastInDim S1920x192 ![] bcast_S_S1920x192) (constant S_ .f32 0x00000000#32))))) ((broadcastInDim S600x1920x192 ![] bcast_S_S600x1920x192) (constant S_ .f32 0xFF800000#32))) (constant S_ .f32 0xFF800000#32) reducesTo_S600x1920x192_S600x192_d1 h_S_) := by
  after_reads_simp
  rfl

set_option maxRecDepth 16384 in
/-- `main_v12` is as it was after the last part. -/
theorem partD_main_v12 : StableHlo.after (opsD (F := F)) V (Proc.devRef .tc main_v12) = V (Proc.devRef .tc main_v12) := by
  after_reads_simp

set_option maxRecDepth 16384 in
/-- `main_v74` after the last part. -/
theorem partD_main_v74 : StableHlo.after (opsD (F := F)) V (Proc.devRef .tc main_v74) = (shapeCast S3x200x192 (truncf .bf16 (select ((broadcastInDim S600x192 ![0, 1] bcast_S600x1_S600x192_0_1) (V (Proc.devRef .tc main_v33))) (V (Proc.devRef .tc main_v71)) ((broadcastInDim S600x192 ![] bcast_S_S600x192) (V (Proc.devRef .tc main_cst_11)))) bitsLt_bf16_f32) shapeCasts_S600x192_S3x200x192) := by
  after_reads_simp
  rfl

set_option maxRecDepth 16384 in
/-- `main_v75` after the last part. -/
theorem partD_main_v75 : StableHlo.after (opsD (F := F)) V (Proc.devRef .tc main_v75) = (shapeCast S3x200 (V (Proc.devRef .tc main_v30)) shapeCasts_S600_S3x200) := by
  after_reads_simp
  rfl

set_option maxRecDepth 16384 in
/-- `main_v76` after the last part. -/
theorem partD_main_v76 : StableHlo.after (opsD (F := F)) V (Proc.devRef .tc main_v76) = (shapeCast S3x200x384 (V (Proc.devRef .tc main_v40)) shapeCasts_S600x384_S3x200x384) := by
  after_reads_simp
  rfl

variable (W : Valuation τ sig (Elt F))

/-- Every host operation after the cast kernel, run from `W`. -/
abbrev endV : Valuation τ sig (Elt F) := StableHlo.after opsD (StableHlo.after opsC (StableHlo.after opsB (StableHlo.after opsA W)))

set_option maxRecDepth 16384 in
/-- What those operations leave as the first-layer rows. -/
theorem end_main_v12 : endV W (Proc.devRef .tc main_v12) = (truncf .bf16 (hR (W (Proc.devRef .tc main_v0_0)) (W (Proc.devRef .tc main_v0_1)) (W (Proc.devRef .tc main_arg1)) (W (Proc.devRef .tc main_arg3)) (W (Proc.devRef .tc main_arg4))) bitsLt_bf16_f32) := by
  unfold endV
  rw [partD_main_v12, partC_main_v12, partB_main_v12, partA_main_v12]

set_option maxRecDepth 16384 in
/-- What those operations leave as the counts. -/
theorem end_main_v75 : endV W (Proc.devRef .tc main_v75) = (shapeCast S3x200 (cntR (W (Proc.devRef .tc main_arg5))) shapeCasts_S600_S3x200) := by
  unfold endV
  rw [partD_main_v75, partC_main_v30, partB_main_v30, partA_main_v30]

set_option maxRecDepth 16384 in
/-- What those operations leave as the voxel features. -/
theorem end_main_v76 : endV W (Proc.devRef .tc main_v76) = (shapeCast S3x200x384 (vfR (W (Proc.devRef .tc main_v0_0)) (W (Proc.devRef .tc main_v0_1)) (W (Proc.devRef .tc main_arg1)) (W (Proc.devRef .tc main_arg3)) (W (Proc.devRef .tc main_arg4)) (W (Proc.devRef .tc main_arg5))) shapeCasts_S600x384_S3x200x384) := by
  unfold endV
  rw [partD_main_v76, partC_main_v40, partB_main_v40, partA_main_v33, partA_main_v38]
  rfl

set_option maxRecDepth 16384 in
/-- What those operations leave as the second voxel features. -/
theorem end_main_v74 : endV W (Proc.devRef .tc main_v74) = (shapeCast S3x200x192 (vf2R (W (Proc.devRef .tc main_v0_0)) (W (Proc.devRef .tc main_v0_1)) (W (Proc.devRef .tc main_v0_2)) (W (Proc.devRef .tc main_arg1)) (W (Proc.devRef .tc main_arg3)) (W (Proc.devRef .tc main_arg4)) (W (Proc.devRef .tc main_arg5)) (W (Proc.devRef .tc main_arg7)) (W (Proc.devRef .tc main_arg8))) shapeCasts_S600x192_S3x200x192) := by
  unfold endV
  rw [partD_main_v74, partC_main_v71, partC_main_v33, partB_main_v66, partB_main_v28, partB_main_v33, partA_main_v12, partA_main_v16, partA_main_v28, partA_main_v33, partA_main_v38, partA_main_arg5, partA_main_arg7, partA_main_arg8, partA_main_v0_2]
  rfl

end Cert.ReferenceIdeal.Hand
-- ==== Proof.ReferenceIdeal.Values.lean ====
module

public import proofs.«01_k».proof.Proof.ReferenceIdeal.Terms
public import Idealize.ShloMosaic.Lib.Pipeline.RegionArraysS
public import Idealize.ShloMosaic.Lib.Pipeline.FrameTail
public import Idealize.ShloMosaic.Lib.VecWindow
public import Idealize.ShloMosaic.Lib.Pipeline.Value

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A rectangle at offset zero with a shape's whole extent places an index at itself. -/
theorem whole_emb {s : Shape} (off : Fin s.rank → ℕ) (hz : ∀ a, off a = 0) (inb) (y : s.Idx) :
    (Rect.unit (s := s) off s.size inb).emb y = y :=
  funext fun a => Fin.ext (by rw [show ((Rect.unit (s := s) off s.size inb).emb y a).val = off a + 1 * (y a).val from rfl, hz]; omega)

/-- One write of the whole buffer leaves its payload. -/
theorem canon_whole {s : Shape} {e : EltTy} (off : Fin s.rank → ℕ) (hz : ∀ a, off a = 0) (inb) (w : s.Idx → Elt F e) :
    View.canon (Val := Elt F) [⟨Rect.unit (s := s) off s.size inb, w⟩] = w := by
  funext y
  have h := View.canon_cons_emb (Val := Elt F) (Rect.unit (s := s) off s.size inb) w [] y
  rwa [whole_emb off hz inb y] at h

/-- A load of the whole buffer reads its contents. -/
theorem ld_whole {s : Shape} {e : EltTy} (off : Fin s.rank → ℕ) (hz : ∀ a, off a = 0) (inb) (x : s.Idx → Elt F e) :
    View.ld (Val := Elt F) x (Rect.unit (s := s) off s.size inb) = x :=
  funext fun y => congrArg x (whole_emb off hz inb y)

/-- Window 0 of the cast kernel is the whole of `main_arg0`. -/
theorem read0_0 (f : S3x640x10240.Idx → Elt F .i8) : ((cfg0.win 0).blk t0_0).view.read (Elt F) f = f := by
  funext i
  refine congrArg f (funext fun a => Fin.ext ?_)
  refine (Pipeline.Window.rect_emb_val win0_0 t0_0 i a).trans ?_
  fin_cases a <;> exact Nat.zero_add _

/-- Window 1 of the cast kernel is the whole of `main_arg2`. -/
theorem read0_1 (f : S10240x384.Idx → Elt F .fp8e4m3) : ((cfg0.win 1).blk t0_0).view.read (Elt F) f = f := by
  funext i
  refine congrArg f (funext fun a => Fin.ext ?_)
  refine (Pipeline.Window.rect_emb_val win0_1 t0_0 i a).trans ?_
  fin_cases a <;> exact Nat.zero_add _

/-- Window 2 of the cast kernel is the whole of `main_arg6`. -/
theorem read0_2 (f : S2x384x192.Idx → Elt F .fp8e4m3) : ((cfg0.win 2).blk t0_0).view.read (Elt F) f = f := by
  funext i
  refine congrArg f (funext fun a => Fin.ext ?_)
  refine (Pipeline.Window.rect_emb_val win0_2 t0_0 i a).trans ?_
  fin_cases a <;> exact Nat.zero_add _

/-- Window 3 of the cast kernel is the whole of `main_v0_0`. -/
theorem read0_3 (f : S3x640x10240.Idx → Elt F .bf16) : ((cfg0.win 3).blk t0_0).view.read (Elt F) f = f := by
  funext i
  refine congrArg f (funext fun a => Fin.ext ?_)
  refine (Pipeline.Window.rect_emb_val win0_3 t0_0 i a).trans ?_
  fin_cases a <;> exact Nat.zero_add _

/-- Window 4 of the cast kernel is the whole of `main_v0_1`. -/
theorem read0_4 (f : S10240x384.Idx → Elt F .bf16) : ((cfg0.win 4).blk t0_0).view.read (Elt F) f = f := by
  funext i
  refine congrArg f (funext fun a => Fin.ext ?_)
  refine (Pipeline.Window.rect_emb_val win0_4 t0_0 i a).trans ?_
  fin_cases a <;> exact Nat.zero_add _

/-- Window 5 of the cast kernel is the whole of `main_v0_2`. -/
theorem read0_5 (f : S2x384x192.Idx → Elt F .bf16) : ((cfg0.win 5).blk t0_0).view.read (Elt F) f = f := by
  funext i
  refine congrArg f (funext fun a => Fin.ext ?_)
  refine (Pipeline.Window.rect_emb_val win0_5 t0_0 i a).trans ?_
  fin_cases a <;> exact Nat.zero_add _

/-- What the cast kernel leaves in `main_v0_0`: the argument widened. -/
theorem arrAt0_3 (c : Dev nD) : (dats m 0 c).arrAt 3 cfg0.N = sitofp .bf16 (m ((c : Thread nD τ).loc main_arg0)) := by
  refine (read0_3 (F := F) ((dats m 0 c).arrAt 3 cfg0.N)).symm.trans ?_
  refine ((dats m 0 c).read_blk_arrAt_eq_flushed 3 (fun t t' _ _ h => absurd ((fin_N0 t).trans (fin_N0 t').symm) h) cfg0.N t0_0 t0_0.isLt (flush0_3 t0_0)).trans ?_
  refine (after0_3 m c t0_0).trans ?_
  unfold out0_3 k0_pay1
  refine (canon_whole _ (by intro a; fin_cases a <;> rfl) _ _).trans ?_
  rw [ld_whole _ (by intro a; fin_cases a <;> rfl)]
  unfold iblk
  rw [show ((cfg0.win 0).blk t0_0).view.read (Elt F) (V m c (Pipeline.arrRef spec0 0)) = V m c (Pipeline.arrRef spec0 0) from read0_0 _]
  rfl

/-- What the cast kernel leaves in `main_v0_1`: the argument widened. -/
theorem arrAt0_4 (c : Dev nD) : (dats m 0 c).arrAt 4 cfg0.N = extf .bf16 (m ((c : Thread nD τ).loc main_arg2)) bitsLt_fp8e4m3_bf16 := by
  refine (read0_4 (F := F) ((dats m 0 c).arrAt 4 cfg0.N)).symm.trans ?_
  refine ((dats m 0 c).read_blk_arrAt_eq_flushed 4 (fun t t' _ _ h => absurd ((fin_N0 t).trans (fin_N0 t').symm) h) cfg0.N t0_0 t0_0.isLt (flush0_4 t0_0)).trans ?_
  refine (after0_4 m c t0_0).trans ?_
  unfold out0_4 k0_pay2
  refine (canon_whole _ (by intro a; fin_cases a <;> rfl) _ _).trans ?_
  rw [ld_whole _ (by intro a; fin_cases a <;> rfl)]
  unfold iblk
  rw [show ((cfg0.win 1).blk t0_0).view.read (Elt F) (V m c (Pipeline.arrRef spec0 1)) = V m c (Pipeline.arrRef spec0 1) from read0_1 _]
  rfl

/-- What the cast kernel leaves in `main_v0_2`: the argument widened. -/
theorem arrAt0_5 (c : Dev nD) : (dats m 0 c).arrAt 5 cfg0.N = extf .bf16 (m ((c : Thread nD τ).loc main_arg6)) bitsLt_fp8e4m3_bf16 := by
  refine (read0_5 (F := F) ((dats m 0 c).arrAt 5 cfg0.N)).symm.trans ?_
  refine ((dats m 0 c).read_blk_arrAt_eq_flushed 5 (fun t t' _ _ h => absurd ((fin_N0 t).trans (fin_N0 t').symm) h) cfg0.N t0_0 t0_0.isLt (flush0_5 t0_0)).trans ?_
  refine (after0_5 m c t0_0).trans ?_
  unfold out0_5 k0_pay3
  refine (canon_whole _ (by intro a; fin_cases a <;> rfl) _ _).trans ?_
  rw [ld_whole _ (by intro a; fin_cases a <;> rfl)]
  unfold iblk
  rw [show ((cfg0.win 2).blk t0_0).view.read (Elt F) (V m c (Pipeline.arrRef spec0 2)) = V m c (Pipeline.arrRef spec0 2) from read0_2 _]
  rfl

/-- Every buffer when the cast kernel has run: its results in their arrays, the rest as launched. -/
abbrev midV (c : Dev nD) : Valuation τ sig (Elt F) := Pipeline.withArrays spec0 c (V0 m c) fun w => (dats m 0 c).arrAt w cfg0.N

/-- `main_v0_0` when the cast kernel has run. -/
theorem mid_main_v0_0 (c : Dev nD) : midV m c (Proc.devRef .tc main_v0_0) = sitofp .bf16 (m ((c : Thread nD τ).loc main_arg0)) :=
  (Pipeline.withArrays_arr spec0 launch0.win.arr_inj c (V0 m c) (fun w => (dats m 0 c).arrAt w cfg0.N) 3).trans (arrAt0_3 m c)

/-- `main_v0_1` when the cast kernel has run. -/
theorem mid_main_v0_1 (c : Dev nD) : midV m c (Proc.devRef .tc main_v0_1) = extf .bf16 (m ((c : Thread nD τ).loc main_arg2)) bitsLt_fp8e4m3_bf16 :=
  (Pipeline.withArrays_arr spec0 launch0.win.arr_inj c (V0 m c) (fun w => (dats m 0 c).arrAt w cfg0.N) 4).trans (arrAt0_4 m c)

/-- `main_v0_2` when the cast kernel has run. -/
theorem mid_main_v0_2 (c : Dev nD) : midV m c (Proc.devRef .tc main_v0_2) = extf .bf16 (m ((c : Thread nD τ).loc main_arg6)) bitsLt_fp8e4m3_bf16 :=
  (Pipeline.withArrays_arr spec0 launch0.win.arr_inj c (V0 m c) (fun w => (dats m 0 c).arrAt w cfg0.N) 5).trans (arrAt0_5 m c)

/-- `main_arg1` is as launched when the cast kernel has run. -/
theorem mid_main_arg1 (c : Dev nD) : midV m c (Proc.devRef .tc main_arg1) = m ((c : Thread nD τ).loc main_arg1) :=
  Pipeline.withArrays_of_ne spec0 c (V0 m c) (fun w => (dats m 0 c).arrAt w cfg0.N) main_arg1 (by decide)

/-- `main_arg3` is as launched when the cast kernel has run. -/
theorem mid_main_arg3 (c : Dev nD) : midV m c (Proc.devRef .tc main_arg3) = m ((c : Thread nD τ).loc main_arg3) :=
  Pipeline.withArrays_of_ne spec0 c (V0 m c) (fun w => (dats m 0 c).arrAt w cfg0.N) main_arg3 (by decide)

/-- `main_arg4` is as launched when the cast kernel has run. -/
theorem mid_main_arg4 (c : Dev nD) : midV m c (Proc.devRef .tc main_arg4) = m ((c : Thread nD τ).loc main_arg4) :=
  Pipeline.withArrays_of_ne spec0 c (V0 m c) (fun w => (dats m 0 c).arrAt w cfg0.N) main_arg4 (by decide)

/-- `main_arg5` is as launched when the cast kernel has run. -/
theorem mid_main_arg5 (c : Dev nD) : midV m c (Proc.devRef .tc main_arg5) = m ((c : Thread nD τ).loc main_arg5) :=
  Pipeline.withArrays_of_ne spec0 c (V0 m c) (fun w => (dats m 0 c).arrAt w cfg0.N) main_arg5 (by decide)

/-- `main_arg7` is as launched when the cast kernel has run. -/
theorem mid_main_arg7 (c : Dev nD) : midV m c (Proc.devRef .tc main_arg7) = m ((c : Thread nD τ).loc main_arg7) :=
  Pipeline.withArrays_of_ne spec0 c (V0 m c) (fun w => (dats m 0 c).arrAt w cfg0.N) main_arg7 (by decide)

/-- `main_arg8` is as launched when the cast kernel has run. -/
theorem mid_main_arg8 (c : Dev nD) : midV m c (Proc.devRef .tc main_arg8) = m ((c : Thread nD τ).loc main_arg8) :=
  Pipeline.withArrays_of_ne spec0 c (V0 m c) (fun w => (dats m 0 c).arrAt w cfg0.N) main_arg8 (by decide)

/-- The reference's `main_v74`, of its arguments. -/
theorem fin_main_v74 (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_v74
    = shapeCast S3x200x192 (vf2R (sitofp .bf16 (m ((c : Thread nD τ).loc main_arg0))) (extf .bf16 (m ((c : Thread nD τ).loc main_arg2)) bitsLt_fp8e4m3_bf16) (extf .bf16 (m ((c : Thread nD τ).loc main_arg6)) bitsLt_fp8e4m3_bf16) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8))) shapeCasts_S600x192_S3x200x192 := by
  unfold Pipeline.afterTail₀
  refine (congrFun (after_parts (midV m c)) (Proc.devRef .tc main_v74)).trans ((end_main_v74 (midV m c)).trans ?_)
  rw [mid_main_v0_0, mid_main_v0_1, mid_main_v0_2, mid_main_arg1, mid_main_arg3, mid_main_arg4, mid_main_arg5, mid_main_arg7, mid_main_arg8]

/-- The reference's `main_v75`, of its arguments. -/
theorem fin_main_v75 (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_v75
    = shapeCast S3x200 (cntR (m ((c : Thread nD τ).loc main_arg5))) shapeCasts_S600_S3x200 := by
  unfold Pipeline.afterTail₀
  refine (congrFun (after_parts (midV m c)) (Proc.devRef .tc main_v75)).trans ((end_main_v75 (midV m c)).trans ?_)
  rw [mid_main_arg5]

/-- The reference's `main_v12`, of its arguments. -/
theorem fin_main_v12 (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_v12
    = truncf .bf16 (hR (sitofp .bf16 (m ((c : Thread nD τ).loc main_arg0))) (extf .bf16 (m ((c : Thread nD τ).loc main_arg2)) bitsLt_fp8e4m3_bf16) (m ((c : Thread nD τ).loc main_arg1)) (m ((c : Thread nD τ).loc main_arg3)) (m ((c : Thread nD τ).loc main_arg4))) bitsLt_bf16_f32 := by
  unfold Pipeline.afterTail₀
  refine (congrFun (after_parts (midV m c)) (Proc.devRef .tc main_v12)).trans ((end_main_v12 (midV m c)).trans ?_)
  rw [mid_main_v0_0, mid_main_v0_1, mid_main_arg1, mid_main_arg3, mid_main_arg4]

/-- The reference's `main_v76`, of its arguments. -/
theorem fin_main_v76 (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c main_v76
    = shapeCast S3x200x384 (vfR (sitofp .bf16 (m ((c : Thread nD τ).loc main_arg0))) (extf .bf16 (m ((c : Thread nD τ).loc main_arg2)) bitsLt_fp8e4m3_bf16) (m ((c : Thread nD τ).loc main_arg1)) (m ((c : Thread nD τ).loc main_arg3)) (m ((c : Thread nD τ).loc main_arg4)) (m ((c : Thread nD τ).loc main_arg5))) shapeCasts_S600x384_S3x200x384 := by
  unfold Pipeline.afterTail₀
  refine (congrFun (after_parts (midV m c)) (Proc.devRef .tc main_v76)).trans ((end_main_v76 (midV m c)).trans ?_)
  rw [mid_main_v0_0, mid_main_v0_1, mid_main_arg1, mid_main_arg3, mid_main_arg4, mid_main_arg5]

/-- From any memory and zero counters, every run of the reference ends with its four results at their values and the arguments as
    launched. -/
theorem run_values : θ_run defs (onTc (τ := τ) (main (F := F))) ⟨m, fun _ => 0, ρ⟩ (fun r => ∀ c : Dev nD,
      (r.2.mem ((c.tc : Thread nD τ).loc main_v74) = shapeCast S3x200x192 (vf2R (sitofp .bf16 (m ((c : Thread nD τ).loc main_arg0))) (extf .bf16 (m ((c : Thread nD τ).loc main_arg2)) bitsLt_fp8e4m3_bf16) (extf .bf16 (m ((c : Thread nD τ).loc main_arg6)) bitsLt_fp8e4m3_bf16) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8))) shapeCasts_S600x192_S3x200x192
      ∧ r.2.mem ((c.tc : Thread nD τ).loc main_v75) = shapeCast S3x200 (cntR (m ((c : Thread nD τ).loc main_arg5))) shapeCasts_S600_S3x200
      ∧ r.2.mem ((c.tc : Thread nD τ).loc main_v12) = truncf .bf16 (hR (sitofp .bf16 (m ((c : Thread nD τ).loc main_arg0))) (extf .bf16 (m ((c : Thread nD τ).loc main_arg2)) bitsLt_fp8e4m3_bf16) (m ((c : Thread nD τ).loc main_arg1)) (m ((c : Thread nD τ).loc main_arg3)) (m ((c : Thread nD τ).loc main_arg4))) bitsLt_bf16_f32
      ∧ r.2.mem ((c.tc : Thread nD τ).loc main_v76) = shapeCast S3x200x384 (vfR (sitofp .bf16 (m ((c : Thread nD τ).loc main_arg0))) (extf .bf16 (m ((c : Thread nD τ).loc main_arg2)) bitsLt_fp8e4m3_bf16) (m ((c : Thread nD τ).loc main_arg1)) (m ((c : Thread nD τ).loc main_arg3)) (m ((c : Thread nD τ).loc main_arg4)) (m ((c : Thread nD τ).loc main_arg5))) shapeCasts_S600x384_S3x200x384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨⟨((h.1 c).2 main_v74 (Pipeline.mem_restRefs_of main_v74 (by decide) (by decide))).trans (fin_main_v74 m c), ((h.1 c).2 main_v75 (Pipeline.mem_restRefs_of main_v75 (by decide) (by decide))).trans (fin_main_v75 m c), ((h.1 c).2 main_v12 (Pipeline.mem_restRefs_of main_v12 (by decide) (by decide))).trans (fin_main_v12 m c), ((h.1 c).2 main_v76 (Pipeline.mem_restRefs_of main_v76 (by decide) (by decide))).trans (fin_main_v76 m c)⟩, h.2 c⟩)
    (θ_run_and (run_main m ρ) (unchanged m ρ))

end Cert.ReferenceIdeal.Hand
-- ==== Proof.Algebra.Features.lean ====
module

public import proofs.«01_k».proof.Proof.KernelIdeal.Values
public import proofs.«01_k».proof.Proof.ReferenceIdeal.Values
public import Idealize.ShloMosaic.Lib.Pointwise

@[expose] public section

noncomputable section

namespace Cert.Algebra

open Idealize.ShloMosaic Idealize.ShloMosaic.TcCoe Idealize.ShloMosaic.Tactic
open Cert.KernelIdeal.Gen (shapeCasts_S3x640x10240_S1920x10240 shapeCasts_S3x640_S1920x1 shapeCasts_S384_S1x384 shapeCasts_S192_S1x192
  bitsLt_fp8e4m3_bf16 k0_pay7 k0_pay8 k0_pay9 k0_pay15 k0_pay16 k0_pay17 k0_pay21 k0_pay22 k0_pay23 k0_pay24 k0_pay25 k0_pay31 k0_pay32 k1_pay1)
open Cert.KernelIdeal.Hand
open Cert.ReferenceIdeal.Hand (hR offR segR memR cntR occR maskR vmaxR vfR gixR gR h2R mask2R vmax2R vf2R)

/-- The points' shape. -/
abbrev S3x640x10240 : Shape := ⟨3, ![3, 640, 10240]⟩
/-- The first layer's weights' shape. -/
abbrev S10240x384 : Shape := ⟨2, ![10240, 384]⟩
/-- The second layer's weights' shape. -/
abbrev S2x384x192 : Shape := ⟨3, ![2, 384, 192]⟩
/-- The shape of the ids and of the points' scales. -/
abbrev S3x640 : Shape := ⟨2, ![3, 640]⟩
/-- The shape of the first layer's scales and bias. -/
abbrev S384 : Shape := ⟨1, ![384]⟩
/-- The shape of the second layer's scales and bias. -/
abbrev S192 : Shape := ⟨1, ![192]⟩

variable (x : S3x640x10240.Idx → BitVec 8) (xs : FVec Ideal S3x640 .f32) (w : FVec Ideal S10240x384 .fp8e4m3) (ws : FVec Ideal S384 .f32) (b : FVec Ideal S384 .f32)
  (w2 : FVec Ideal S2x384x192 .fp8e4m3) (w2s : FVec Ideal S192 .f32)

/-- The first-layer feature `k` of point `q`, as the reference computes it. -/
def hAt (q : Fin 1920) (k : Fin 384) : EReal :=
  hR (F := Ideal) (sitofp .bf16 x) (extf .bf16 w Cert.ReferenceIdeal.Gen.bitsLt_fp8e4m3_bf16) xs ws b (ix3 (⟨q.val / 640, by omega⟩ : Fin 3) (⟨q.val % 640, by omega⟩ : Fin 640) k)

/-- The scaled product of point `q`'s features with column `d` of the second layer's first slab. -/
def aAt (q : Fin 1920) (d : Fin 192) : EReal := (∑ k : Fin 384, hAt x xs w ws b q k * w2 (ix3 0 k d)) * w2s (ix1 d)

set_option maxRecDepth 16384 in
/-- The kernel's features of a block are the reference's at the block's points. -/
theorem hBlk_eq (n : ℕ) (p : Fin 128) (k : Fin 384) (q : Fin 1920) (hq : q.val = 128 * n + p.val) :
    hBlk (F := Ideal) (shapeCast _ x shapeCasts_S3x640x10240_S1920x10240) (shapeCast _ xs shapeCasts_S3x640_S1920x1) (k0_pay15 w) (shapeCast _ ws shapeCasts_S384_S1x384) (shapeCast _ b shapeCasts_S384_S1x384) n (ix2 p k)
      = hAt x xs w ws b q k := by
  have e1 : (128 * n + p.val) % 1920 = q.val := by have := q.isLt; omega
  unfold hAt
  pointwise [hBlk, blkX, blkXS, k0_pay7, k0_pay15, hR]
  simp only [e1]

set_option maxRecDepth 16384 in
/-- Features at least zero: they are floored there. -/
theorem hAt_nonneg (q : Fin 1920) (k : Fin 384) : 0 ≤ hAt x xs w ws b q k := by
  unfold hAt
  pointwise [hR]
  exact le_max_right _ _

set_option maxRecDepth 16384 in
/-- The features stored as narrower floats are, over the reals, the features. -/
theorem hbBlk_eq (n : ℕ) (p : Fin 128) (k : Fin 384) (q : Fin 1920) (hq : q.val = 128 * n + p.val) :
    hbBlk (F := Ideal) (shapeCast _ x shapeCasts_S3x640x10240_S1920x10240) (shapeCast _ xs shapeCasts_S3x640_S1920x1) (k0_pay15 w) (shapeCast _ ws shapeCasts_S384_S1x384) (shapeCast _ b shapeCasts_S384_S1x384) n (ix2 p k)
      = hAt x xs w ws b q k :=
  hBlk_eq x xs w ws b n p k q hq

set_option maxRecDepth 16384 in
/-- The kernel's scaled products of a block are those of the block's points. -/
theorem aBlk_eq (n : ℕ) (p : Fin 128) (d : Fin 192) (q : Fin 1920) (hq : q.val = 128 * n + p.val) :
    aBlk (F := Ideal) (shapeCast _ x shapeCasts_S3x640x10240_S1920x10240) (shapeCast _ xs shapeCasts_S3x640_S1920x1) (k0_pay15 w) (shapeCast _ ws shapeCasts_S384_S1x384) (shapeCast _ b shapeCasts_S384_S1x384) (k0_pay16 w2) (shapeCast _ w2s shapeCasts_S192_S1x192) n (ix2 p d)
      = aAt x xs w ws b w2 w2s q d := by
  unfold aAt
  simp only [← hBlk_eq x xs w ws b n p _ q hq]
  pointwise [aBlk, w2top, k0_pay9, k0_pay8, hBlk, k0_pay16]
  congr 1
  refine Finset.sum_congr rfl fun k _ => ?_
  congr 2
  funext a
  fin_cases a <;> rfl

/-- The kernel's features of all points are the reference's. -/
theorem result_features :
    shapeCast Cert.KernelIdeal.S3x640x384 (pfV (F := Ideal) (shapeCast _ x shapeCasts_S3x640x10240_S1920x10240) (shapeCast _ xs shapeCasts_S3x640_S1920x1) (k0_pay15 w) (shapeCast _ ws shapeCasts_S384_S1x384) (shapeCast _ b shapeCasts_S384_S1x384)) Cert.KernelIdeal.Gen.shapeCasts_S1920x384_S3x640x384
      = truncf .bf16 (hR (F := Ideal) (sitofp .bf16 x) (extf .bf16 w Cert.ReferenceIdeal.Gen.bitsLt_fp8e4m3_bf16) xs ws b) Cert.ReferenceIdeal.Gen.bitsLt_bf16_f32 := by
  funext j
  idx_vars j
  pointwise [pfV]
  have hb := hbBlk_eq x xs w ws b ((j0.val * 640 + j1.val) / 128) ⟨(j0.val * 640 + j1.val) % 128, Nat.mod_lt _ (by decide)⟩ j2 ⟨j0.val * 640 + j1.val, by omega⟩ (by simp only; omega)
  refine Eq.trans (Eq.trans (congrArg _ ?_) hb) ?_
  · funext a; fin_cases a <;> rfl
  · unfold hAt
    have e0 : (⟨(j0.val * 640 + j1.val) / 640, by omega⟩ : Fin 3) = j0 := Fin.ext (by simp only; omega)
    have e1 : (⟨(j0.val * 640 + j1.val) % 640, by omega⟩ : Fin 640) = j1 := Fin.ext (by simp only; omega)
    rw [e0, e1]

end Cert.Algebra
end
-- ==== Proof.Algebra.Members.lean ====
module

public import proofs.«01_k».proof.Proof.KernelIdeal.Values
public import proofs.«01_k».proof.Proof.ReferenceIdeal.Values
public import Idealize.ShloMosaic.Lib.Pointwise
public import Idealize.ShloMosaic.Lib.IndicatorCount

@[expose] public section

noncomputable section

namespace Cert.Algebra

open Idealize.ShloMosaic Idealize.ShloMosaic.TcCoe Idealize.ShloMosaic.Tactic
open Cert.KernelIdeal.Gen (k1_pay1)
open Cert.KernelIdeal.Hand
open Cert.ReferenceIdeal.Hand (offR segR memR cntR occR gixR)

variable (ids : (⟨2, ![3, 640]⟩ : Shape).Idx → BitVec 32)

/-- The voxel row of point `q` among all scenes' rows, or 600 for a point outside every voxel. -/
def rowQ (q : Fin 1920) : ℕ := rowAt (q.val / 128) (ids (ix2 (⟨q.val / 640, by omega⟩ : Fin 3) (⟨q.val % 640, by omega⟩ : Fin 640)))

/-- A selection by a bit is a choice by whether the bit is one. -/
theorem select_ite {α : Type} (c : BitVec 1) (u v : α) : Scalar.select c u v = if c = 1#1 then u else v := rfl

/-- The bit of a truth value is one exactly when it is true. -/
theorem ofBool_eq_one (p : Bool) : (BitVec.ofBool p = 1#1) ↔ p = true := by cases p <;> decide

/-- A comparison's bit is one exactly when the comparison holds: equality. -/
theorem cmpi_eq_one (u v : BitVec 32) : (IntOp.cmpi CmpIPredicate.eq u v = 1#1) ↔ u = v := by
  simp [ofBool_eq_one, IntOp.cmpi]

/-- A comparison's bit is one exactly when the comparison holds: at least zero. -/
theorem cmpi_sge_one (u : BitVec 32) : (IntOp.cmpi CmpIPredicate.sge u 0#32 = 1#1) ↔ 0 ≤ u.toInt := by
  simp [ofBool_eq_one, IntOp.cmpi, BitVec.sle]

/-- A comparison's bit is one exactly when the comparison holds: above zero. -/
theorem cmpi_sgt_one (u : BitVec 32) : (IntOp.cmpi CmpIPredicate.sgt u 0#32 = 1#1) ↔ 0 < u.toInt := by
  simp [ofBool_eq_one, IntOp.cmpi, BitVec.slt]

/-- A comparison's bit is one exactly when the comparison holds: below zero. -/
theorem cmpi_slt_one (u : BitVec 32) : (IntOp.cmpi CmpIPredicate.slt u 0#32 = 1#1) ↔ u.toInt < 0 := by
  simp [ofBool_eq_one, IntOp.cmpi, BitVec.slt]

/-- A word of nonnegative sign below 200 is a natural below 200. -/
theorem toNat_of_toInt {u : BitVec 32} (h0 : 0 ≤ u.toInt) (h : u.toInt < 200) : u.toNat < 200 := by
  rw [BitVec.toInt_eq_toNat_cond] at h0 h
  split at h <;> rename_i h' <;> simp only [h', if_true, if_false] at h0 <;> omega

variable {ids} (hids : ∀ i, (ids i).toInt < 200)

set_option maxRecDepth 16384 in
include hids in
/-- The reference's member bit of voxel `v` and point `q` is one exactly when `v` is the point's row. -/
theorem memR_one (v : Fin 600) (q : Fin 1920) : memR ids (ix2 v q) = 1#1 ↔ rowQ ids q = v.val := by
  have hi := hids (ix2 (⟨q.val / 640, by omega⟩ : Fin 3) (⟨q.val % 640, by omega⟩ : Fin 640))
  pointwise [memR, segR, offR]
  rw [cmpi_eq_one, select_ite]
  unfold rowQ rowAt
  have hv := v.isLt
  have hq := q.isLt
  generalize ids (ix2 (⟨q.val / 640, by omega⟩ : Fin 3) (⟨q.val % 640, by omega⟩ : Fin 640)) = u at *
  have e : q.val / 128 / 5 = q.val / 640 := by omega
  by_cases h0 : 0 ≤ u.toInt
  · have hn := toNat_of_toInt h0 hi
    rw [if_pos ((cmpi_sge_one u).2 h0), if_pos h0, e, ← BitVec.toNat_inj]
    simp only [IntOp.addi, IntOp.muli, BitVec.toNat_add, BitVec.toNat_mul, BitVec.toNat_ofNat]
    omega
  · rw [if_neg fun h => h0 ((cmpi_sge_one u).1 h), if_neg h0, ← BitVec.toNat_inj]
    simp only [BitVec.toNat_ofNat]
    omega

set_option maxRecDepth 16384 in
/-- The reference's count of voxel `v`: how many points have a member bit there. -/
theorem cntR_eq (v : Fin 600) : cntR ids (ix1 v) = BitVec.ofNat 32 (Finset.univ.filter fun q : Fin 1920 => memR ids (ix2 v q) = 1#1).card := by
  pointwise [cntR]
  exact IndicatorCount.fold_addi_setWidth_eq_card _ _

include hids in
/-- The reference's count of voxel `v`: how many points have it as row. -/
theorem cntR_rows (v : Fin 600) : cntR ids (ix1 v) = BitVec.ofNat 32 (Finset.univ.filter fun q : Fin 1920 => rowQ ids q = v.val).card := by
  rw [cntR_eq]
  simp only [memR_one hids]

include hids in
/-- A voxel is occupied exactly when some point has it as row. -/
theorem occ_iff (v : Fin 600) : (IntOp.cmpi CmpIPredicate.sgt (cntR ids (ix1 v)) 0#32 = 1#1) ↔ ∃ q, rowQ ids q = v.val := by
  have hc : (Finset.univ.filter fun q : Fin 1920 => rowQ ids q = v.val).card ≤ 1920 := le_trans (Finset.card_le_univ _) (by simp)
  rw [cmpi_sgt_one, cntR_rows hids]
  have e : (BitVec.ofNat 32 (Finset.univ.filter fun q : Fin 1920 => rowQ ids q = v.val).card).toInt = ((Finset.univ.filter fun q : Fin 1920 => rowQ ids q = v.val).card : ℤ) := by
    rw [BitVec.toInt_eq_toNat_cond, BitVec.toNat_ofNat]
    split <;> omega
  rw [e]
  constructor
  · intro h
    obtain ⟨q, hq⟩ := Finset.card_pos.1 (Int.natCast_pos.1 h)
    exact ⟨q, (Finset.mem_filter.1 hq).2⟩
  · rintro ⟨q, hq⟩
    exact Int.natCast_pos.2 (Finset.card_pos.2 ⟨q, Finset.mem_filter.2 ⟨Finset.mem_univ _, hq⟩⟩)

include hids in
/-- Within scene `s`, point `p` has row `200 s + v` exactly when its id is `v`; a point of another scene never has it. -/
theorem rowQ_eq_iff (q : Fin 1920) (s : Fin 3) (v : Fin 200) :
    rowQ ids q = 200 * s.val + v.val ↔ q.val / 640 = s.val ∧ BitVec.ofNat 32 v.val = ids (ix2 (⟨q.val / 640, by omega⟩ : Fin 3) (⟨q.val % 640, by omega⟩ : Fin 640)) := by
  have hi := hids (ix2 (⟨q.val / 640, by omega⟩ : Fin 3) (⟨q.val % 640, by omega⟩ : Fin 640))
  unfold rowQ rowAt
  have hq := q.isLt
  have hv := v.isLt
  have hs := s.isLt
  generalize ids (ix2 (⟨q.val / 640, by omega⟩ : Fin 3) (⟨q.val % 640, by omega⟩ : Fin 640)) = u at *
  have e : q.val / 128 / 5 = q.val / 640 := by omega
  rw [← BitVec.toNat_inj, BitVec.toNat_ofNat, Nat.mod_eq_of_lt (by omega), e]
  by_cases h0 : 0 ≤ u.toInt
  · have hn := toNat_of_toInt h0 hi
    rw [if_pos h0]
    omega
  · rw [if_neg h0]
    have : 200 ≤ u.toNat := by
      rw [BitVec.toInt_eq_toNat_cond] at h0
      split at h0 <;> omega
    omega

set_option maxRecDepth 16384 in
include hids in
/-- The counts of the two programs agree. -/
theorem result_counts :
    shapeCast Cert.KernelIdeal.S3x200 (countsV (F := Ideal) ids) Cert.KernelIdeal.Gen.shapeCasts_S3x200x1_S3x200
      = shapeCast Cert.ReferenceIdeal.S3x200 (cntR ids) Cert.ReferenceIdeal.Gen.shapeCasts_S600_S3x200 := by
  funext j
  idx_vars j
  pointwise [countsV]
  rw [cntR_rows hids]
  have hk : countS (F := Ideal) ids j0.val (ix3 0 j1 0) = BitVec.ofNat 32 (Finset.univ.filter fun p : Fin 640 => BitVec.ofNat 32 j1.val = ids (ix2 j0 p)).card := by
    pointwise [countS, k1_pay1, idsRow]
    refine (IndicatorCount.fold_addi_setWidth_eq_card _ _).trans ?_
    simp only [cmpi_eq_one]
    congr 2
    refine Finset.filter_congr fun p _ => ?_
    have : (fun a : Fin 2 => match a with
      | 0 => (⟨j0.val % 3, Nat.mod_lt _ (by decide)⟩ : Fin 3)
      | 1 => p : (⟨2, ![3, 640]⟩ : Shape).Idx) = ix2 j0 p := by
      funext a
      fin_cases a
      · exact Fin.ext (Nat.mod_eq_of_lt j0.isLt)
      · rfl
    exact Eq.congr_right (congrArg ids this)
  refine Eq.trans (Eq.trans (congrArg _ ?_) hk) ?_
  · funext a; fin_cases a <;> rfl
  · refine congrArg (BitVec.ofNat 32) ?_
    refine Finset.card_bij (fun p _ => (⟨640 * j0.val + p.val, by omega⟩ : Fin 1920)) ?_ ?_ ?_
    · intro p hp
      have e0 : (⟨(640 * j0.val + p.val) / 640, by omega⟩ : Fin 3) = j0 := Fin.ext (by simp only; omega)
      have e1 : (⟨(640 * j0.val + p.val) % 640, by omega⟩ : Fin 640) = p := Fin.ext (by simp only; omega)
      refine Finset.mem_filter.2 ⟨Finset.mem_univ _, ?_⟩
      have := (rowQ_eq_iff hids ⟨640 * j0.val + p.val, by omega⟩ j0 j1).2 ⟨by simp only; omega, by rw [e0, e1]; exact (Finset.mem_filter.1 hp).2⟩
      simp only at this ⊢
      omega
    · intro p _ p' _ h
      have := congrArg Fin.val h
      exact Fin.ext (by simp only at this; omega)
    · intro q hq
      have h1 := (Finset.mem_filter.1 hq).2
      obtain ⟨h2, h3⟩ := (rowQ_eq_iff hids q j0 j1).1 (by simp only at h1; omega)
      refine ⟨⟨q.val % 640, by omega⟩, Finset.mem_filter.2 ⟨Finset.mem_univ _, ?_⟩, Fin.ext (by simp only; omega)⟩
      have e0 : (⟨q.val / 640, by omega⟩ : Fin 3) = j0 := Fin.ext h2
      rw [e0] at h3
      exact h3

end Cert.Algebra
end
-- ==== Proof.Algebra.Table.lean ====
module

public import proofs.«01_k».proof.Proof.KernelIdeal.Values
public import proofs.«01_k».proof.Proof.ReferenceIdeal.Values
public import Idealize.ShloMosaic.Lib.Pointwise
public import proofs.«01_k».proof.Proof.Algebra.Features
public import proofs.«01_k».proof.Proof.Algebra.Members

@[expose] public section

noncomputable section

namespace Cert.Algebra

open Idealize.ShloMosaic Idealize.ShloMosaic.TcCoe Idealize.ShloMosaic.Tactic
open Cert.KernelIdeal.Gen (shapeCasts_S3x640x10240_S1920x10240 shapeCasts_S3x640_S1920x1 shapeCasts_S384_S1x384 shapeCasts_S192_S1x192
  bitsLt_fp8e4m3_bf16 k0_pay7 k0_pay8 k0_pay9 k0_pay15 k0_pay16 k0_pay17 k0_pay21 k0_pay22 k0_pay23 k0_pay24 k0_pay25 k0_pay31 k0_pay32 k1_pay1)
open Cert.KernelIdeal.Hand
open Cert.ReferenceIdeal.Hand (hR offR segR memR cntR occR maskR vmaxR vfR gixR gR h2R mask2R vmax2R vf2R)

variable (x : S3x640x10240.Idx → BitVec 8) (xs : FVec Ideal S3x640 .f32) (w : FVec Ideal S10240x384 .fp8e4m3) (ws : FVec Ideal S384 .f32) (b : FVec Ideal S384 .f32)
  (ids : S3x640.Idx → BitVec 32) (w2 : FVec Ideal S2x384x192 .fp8e4m3) (w2s : FVec Ideal S192 .f32)

/-- The largest value of `f` among the points whose row is `r`; minus infinity when there is none. -/
def top (f : Fin 1920 → EReal) (r : ℕ) : EReal := Finset.univ.sup fun q => if rowQ ids q = r then f q else ⊥

/-- `top` is at most `c` exactly when every member's value is. -/
theorem top_le_iff (f : Fin 1920 → EReal) (r : ℕ) (c : EReal) : top ids f r ≤ c ↔ ∀ q, rowQ ids q = r → f q ≤ c := by
  unfold top
  rw [Finset.sup_le_iff]
  constructor
  · intro h q hq
    have := h q (Finset.mem_univ _)
    rwa [if_pos hq] at this
  · intro h q _
    split
    · exact h q ‹_›
    · exact bot_le

/-- Of a row no point has, `top` is minus infinity. -/
theorem top_empty (f : Fin 1920 → EReal) (r : ℕ) (h : ¬ ∃ q, rowQ ids q = r) : top ids f r = ⊥ :=
  le_bot_iff.1 ((top_le_iff ids f r ⊥).2 fun q hq => absurd ⟨q, hq⟩ h)

/-- Of a row some point has, `top` is some member's value, and no member's is larger. -/
theorem top_attained (f : Fin 1920 → EReal) (r : ℕ) (h : ∃ q, rowQ ids q = r) :
    ∃ q, rowQ ids q = r ∧ top ids f r = f q ∧ ∀ q', rowQ ids q' = r → f q' ≤ f q := by
  classical
  obtain ⟨q0, hq0⟩ := h
  obtain ⟨q, hq, hmax⟩ := Finset.exists_max_image (Finset.univ.filter fun q => rowQ ids q = r) f ⟨q0, Finset.mem_filter.2 ⟨Finset.mem_univ _, hq0⟩⟩
  have hr := (Finset.mem_filter.1 hq).2
  have hall : ∀ q', rowQ ids q' = r → f q' ≤ f q := fun q' h' => hmax q' (Finset.mem_filter.2 ⟨Finset.mem_univ _, h'⟩)
  exact ⟨q, hr, le_antisymm ((top_le_iff ids f r _).2 hall) ((top_le_iff ids f r _).1 le_rfl q hr), hall⟩

/-- The largest image under a monotone map is the image of the largest, over a row some point has. -/
theorem top_map (f : Fin 1920 → EReal) (g : EReal → EReal) (hg : Monotone g) (r : ℕ) (h : ∃ q, rowQ ids q = r) :
    top ids (fun q => g (f q)) r = g (top ids f r) := by
  obtain ⟨q, hr, he, hall⟩ := top_attained ids f r h
  rw [he]
  exact le_antisymm ((top_le_iff ids _ r _).2 fun q' h' => hg (hall q' h')) ((top_le_iff ids (fun q => g (f q)) r _).1 le_rfl q hr)

/-- What the kernel's scratch holds of point `q` in slab `j`, lane `l`. -/
def gAt (j : Fin 5) (l : Fin 128) (q : Fin 1920) : EReal :=
  gBlk (F := Ideal) (shapeCast _ x shapeCasts_S3x640x10240_S1920x10240) (shapeCast _ xs shapeCasts_S3x640_S1920x1) (k0_pay15 w) (shapeCast _ ws shapeCasts_S384_S1x384) (shapeCast _ b shapeCasts_S384_S1x384) (k0_pay16 w2) (shapeCast _ w2s shapeCasts_S192_S1x192) (q.val / 128) (ix3 j (⟨q.val % 128, Nat.mod_lt _ (by decide)⟩ : Fin 128) l)

/-- The table the kernel builds from all points. -/
abbrev tabK : Cert.KernelIdeal.S5x608x128.Idx → EReal :=
  tabEnd (F := Ideal) ids (shapeCast _ x shapeCasts_S3x640x10240_S1920x10240) (shapeCast _ xs shapeCasts_S3x640_S1920x1) w (shapeCast _ ws shapeCasts_S384_S1x384) (shapeCast _ b shapeCasts_S384_S1x384) w2 (shapeCast _ w2s shapeCasts_S192_S1x192)

/-- The bits of minus infinity are minus infinity. -/
theorem negInf : Ideal.ofBits .f32 0xFF800000#32 = (⊥ : EReal) := by simp [Ideal.ofBits, Ideal.ieee]

/-- The place of a point's id among the ids, by its scene and its number in the scene. -/
theorem pointIdx_eq (q : Fin 1920) : pointIdx q.val = ix2 (⟨q.val / 640, by omega⟩ : Fin 3) (⟨q.val % 640, by omega⟩ : Fin 640) := by
  funext a
  fin_cases a
  · exact Fin.ext (Nat.mod_eq_of_lt (by have := q.isLt; show q.val / 640 < 3; omega))
  · rfl

/-- One point's update of the table, read at an entry. -/
theorem bump_at (T : Cert.KernelIdeal.S5x608x128.Idx → EReal) (G : Cert.KernelIdeal.S5x128x128.Idx → EReal) (n : ℕ) (p : Fin 128) (j : Fin 5) (r : Fin 608) (l : Fin 128) :
    bump (F := Ideal) T G n p (ix3 j r l) = if r.val = n then max (T (ix3 j r l)) (G (ix3 j p l)) else T (ix3 j r l) := by
  unfold bump
  refine ite_congr rfl (fun _ => congrArg (max _) (congrArg G ?_)) fun _ => rfl
  funext a
  fin_cases a <;> rfl

/-- After `n` points, the table's entry is at most `c` exactly when the value of each of these points of that row is. -/
theorem tabP_le_iff (j : Fin 5) (r : Fin 608) (l : Fin 128) (c : EReal) (n : ℕ) (hn : n ≤ 1920) :
    tabP (F := Ideal) ids (shapeCast _ x shapeCasts_S3x640x10240_S1920x10240) (shapeCast _ xs shapeCasts_S3x640_S1920x1) (k0_pay15 w) (shapeCast _ ws shapeCasts_S384_S1x384) (shapeCast _ b shapeCasts_S384_S1x384) (k0_pay16 w2) (shapeCast _ w2s shapeCasts_S192_S1x192) n (ix3 j r l) ≤ c
      ↔ ∀ q : Fin 1920, q.val < n → rowQ ids q = r.val → gAt x xs w ws b w2 w2s j l q ≤ c := by
  induction n with
  | zero =>
    refine ⟨fun _ q hq => absurd hq (Nat.not_lt_zero _), fun _ => ?_⟩
    refine le_trans (le_of_eq ?_) (bot_le (a := c))
    show k0_pay17 (F := Ideal) (ix3 j r l) = ⊥
    pointwise [k0_pay17]
    exact negInf
  | succ n ih =>
    have hq : rowAt (n / 128) (ids (pointIdx n)) = rowQ ids ⟨n, hn⟩ := by
      unfold rowQ
      rw [← pointIdx_eq ⟨n, hn⟩]
    have ih := ih (by omega)
    have hlt : ∀ q : Fin 1920, q.val < n + 1 ↔ q.val < n ∨ q = ⟨n, hn⟩ := fun q => by
      rw [Fin.ext_iff]; show q.val < n + 1 ↔ q.val < n ∨ q.val = n; omega
    unfold tabP
    rw [hq, bump_at]
    by_cases h : r.val = rowQ ids ⟨n, hn⟩
    · rw [if_pos h, max_le_iff, ih]
      change _ ∧ gAt x xs w ws b w2 w2s j l ⟨n, hn⟩ ≤ c ↔ _
      constructor
      · rintro ⟨h1, h2⟩ q hq hr
        rcases (hlt q).1 hq with hq | rfl
        · exact h1 q hq hr
        · exact h2
      · intro h1
        exact ⟨fun q hq hr => h1 q (by omega) hr, h1 _ (Nat.lt_succ_self n) h.symm⟩
    · rw [if_neg h, ih]
      refine forall_congr' fun q => ?_
      rw [hlt]
      constructor
      · rintro h1 (hq | rfl) hr
        · exact h1 hq hr
        · exact absurd hr.symm h
      · exact fun h1 hq hr => h1 (Or.inl hq) hr

/-- The table's entry is the largest value among the row's points. -/
theorem tabK_eq (j : Fin 5) (r : Fin 608) (l : Fin 128) :
    tabK x xs w ws b ids w2 w2s (ix3 j r l) = top ids (gAt x xs w ws b w2 w2s j l) r.val := by
  refine eq_of_forall_ge_iff fun c => ?_
  rw [top_le_iff]
  refine (tabP_le_iff x xs w ws b ids w2 w2s j r l c 1920 le_rfl).trans ?_
  exact forall_congr' fun q => ⟨fun h => h q.isLt, fun h _ => h⟩

/-- The first three slabs hold the features. -/
theorem gAt_h (j : Fin 5) (l : Fin 128) (q : Fin 1920) (hj : j.val < 3) (k : Fin 384) (hk : k.val = 128 * j.val + l.val) :
    gAt x xs w ws b w2 w2s j l q = hAt x xs w ws b q k := by
  have hm : q.val = 128 * (q.val / 128) + (⟨q.val % 128, Nat.mod_lt _ (by decide)⟩ : Fin 128).val := by show q.val = 128 * (q.val / 128) + q.val % 128; omega
  unfold gAt gBlk gOf
  rw [dif_pos (show ((ix3 j (⟨q.val % 128, Nat.mod_lt _ (by decide)⟩ : Fin 128) l : Cert.KernelIdeal.S5x128x128.Idx) 0).val < 3 from hj)]
  refine Eq.trans (congrArg _ ?_) (hBlk_eq x xs w ws b (q.val / 128) ⟨q.val % 128, Nat.mod_lt _ (by decide)⟩ k q hm)
  funext a
  fin_cases a
  · rfl
  · exact Fin.ext hk.symm

/-- The last two slabs hold the scaled products. -/
theorem gAt_a (j : Fin 5) (l : Fin 128) (q : Fin 1920) (hj : 3 ≤ j.val) (d : Fin 192) (hd : d.val + 384 = 128 * j.val + l.val) :
    gAt x xs w ws b w2 w2s j l q = aAt x xs w ws b w2 w2s q d := by
  have hm : q.val = 128 * (q.val / 128) + (⟨q.val % 128, Nat.mod_lt _ (by decide)⟩ : Fin 128).val := by show q.val = 128 * (q.val / 128) + q.val % 128; omega
  have hj5 := j.isLt
  have hd2 := d.isLt
  unfold gAt gBlk gOf
  rw [dif_neg (show ¬ ((ix3 j (⟨q.val % 128, Nat.mod_lt _ (by decide)⟩ : Fin 128) l : Cert.KernelIdeal.S5x128x128.Idx) 0).val < 3 from by show ¬ j.val < 3; omega)]
  by_cases h3 : j.val = 3
  · rw [dif_pos (show ((ix3 j (⟨q.val % 128, Nat.mod_lt _ (by decide)⟩ : Fin 128) l : Cert.KernelIdeal.S5x128x128.Idx) 0).val = 3 from h3)]
    refine Eq.trans (congrArg _ ?_) (aBlk_eq x xs w ws b w2 w2s (q.val / 128) ⟨q.val % 128, Nat.mod_lt _ (by decide)⟩ d q hm)
    funext a
    fin_cases a
    · rfl
    · exact Fin.ext (show l.val = d.val by omega)
  · rw [dif_neg (show ¬ ((ix3 j (⟨q.val % 128, Nat.mod_lt _ (by decide)⟩ : Fin 128) l : Cert.KernelIdeal.S5x128x128.Idx) 0).val = 3 from h3),
      dif_pos (show ((ix3 j (⟨q.val % 128, Nat.mod_lt _ (by decide)⟩ : Fin 128) l : Cert.KernelIdeal.S5x128x128.Idx) 2).val < 64 from by show l.val < 64; omega)]
    refine Eq.trans (congrArg _ ?_) (aBlk_eq x xs w ws b w2 w2s (q.val / 128) ⟨q.val % 128, Nat.mod_lt _ (by decide)⟩ d q hm)
    funext a
    fin_cases a
    · rfl
    · exact Fin.ext (show 128 + l.val = d.val by omega)

end Cert.Algebra
end
-- ==== Proof.Algebra.Voxels.lean ====
module

public import proofs.«01_k».proof.Proof.KernelIdeal.Values
public import proofs.«01_k».proof.Proof.ReferenceIdeal.Values
public import Idealize.ShloMosaic.Lib.Pointwise
public import Idealize.ShloMosaic.Lib.Routing.Ops
public import Idealize.ShloMosaic.Lib.Pointwise.IndexBridge
public import proofs.«01_k».proof.Proof.Algebra.Table

@[expose] public section

noncomputable section

namespace Cert.Algebra

open Idealize.ShloMosaic Idealize.ShloMosaic.TcCoe Idealize.ShloMosaic.Tactic
open Cert.KernelIdeal.Gen (shapeCasts_S3x640x10240_S1920x10240 shapeCasts_S3x640_S1920x1 shapeCasts_S384_S1x384 shapeCasts_S192_S1x192
  bitsLt_fp8e4m3_bf16 k0_pay7 k0_pay8 k0_pay9 k0_pay15 k0_pay16 k0_pay17 k0_pay21 k0_pay22 k0_pay23 k0_pay24 k0_pay25 k0_pay31 k0_pay32 k1_pay1)
open Cert.KernelIdeal.Hand
open Cert.ReferenceIdeal.Hand (hR offR segR memR cntR occR maskR vmaxR vfR gixR gR h2R mask2R vmax2R vf2R)

variable (x : S3x640x10240.Idx → BitVec 8) (xs : FVec Ideal S3x640 .f32) (w : FVec Ideal S10240x384 .fp8e4m3) (ws : FVec Ideal S384 .f32) (b : FVec Ideal S384 .f32)
  (ids : S3x640.Idx → BitVec 32) (w2 : FVec Ideal S2x384x192 .fp8e4m3) (w2s : FVec Ideal S192 .f32)

/-- A voxel's feature: the largest among its points, floored at zero. -/
def vox (r : ℕ) (k : Fin 384) : EReal := max (top ids (fun q => hAt x xs w ws b q k) r) 0

/-- The table's first three slabs hold the largest features. -/
theorem tabK_h (i : Cert.KernelIdeal.S5x608x128.Idx) (r : ℕ) (k : Fin 384) (hj : (i 0).val < 3) (hr : (i 1).val = r) (hk : k.val = 128 * (i 0).val + (i 2).val) :
    tabK x xs w ws b ids w2 w2s i = top ids (fun q => hAt x xs w ws b q k) r := by
  idx_vars i
  refine (tabK_eq x xs w ws b ids w2 w2s _ _ _).trans ?_
  rw [funext fun q => gAt_h x xs w ws b w2 w2s i0 i2 q hj k hk, ← hr]

/-- The table's last two slabs hold the largest scaled products. -/
theorem tabK_a (i : Cert.KernelIdeal.S5x608x128.Idx) (r : ℕ) (d : Fin 192) (hj : 3 ≤ (i 0).val) (hr : (i 1).val = r) (hd : d.val + 384 = 128 * (i 0).val + (i 2).val) :
    tabK x xs w ws b ids w2 w2s i = top ids (fun q => aAt x xs w ws b w2 w2s q d) r := by
  idx_vars i
  refine (tabK_eq x xs w ws b ids w2 w2s _ _ _).trans ?_
  rw [funext fun q => gAt_a x xs w ws b w2 w2s i0 i2 q hj d hd, ← hr]

set_option maxRecDepth 16384 in
/-- The kernel's voxel features of scene `s`. -/
theorem pay31_eq (s : ℕ) (hs : s < 3) (p : Fin 200) (k : Fin 384) :
    k0_pay31 (F := Ideal) (tabWin (tabK x xs w ws b ids w2 w2s) 0 s) (tabWin (tabK x xs w ws b ids w2 w2s) 1 s) (tabWin (tabK x xs w ws b ids w2 w2s) 2 s) (ix2 p k)
      = vox x xs w ws b ids (200 * s + p.val) k := by
  have hp := p.isLt
  have hm : (200 * s + p.val) % 608 = 200 * s + p.val := Nat.mod_eq_of_lt (by omega)
  unfold vox
  generalize hT : tabK x xs w ws b ids w2 w2s = T
  pointwise [k0_pay31, tabWin]
  subst hT
  by_cases h1 : k.val < 128
  · rw [dif_pos h1, tabK_h x xs w ws b ids w2 w2s _ (200 * s + p.val) k (show 0 < 3 by decide) hm (by show k.val = 128 * 0 + k.val; omega)]
  · rw [dif_neg h1]
    by_cases h2 : k.val - 128 < 128
    · rw [dif_pos h2]
      rw [tabK_h x xs w ws b ids w2 w2s _ (200 * s + p.val) k (show 1 < 3 by decide) hm (by show k.val = 128 * 1 + (k.val - 128); omega)]
    · rw [dif_neg h2]
      rw [tabK_h x xs w ws b ids w2 w2s _ (200 * s + p.val) k (show 2 < 3 by decide) hm (by show k.val = 128 * 2 + (k.val - 128 - 128); omega)]

set_option maxRecDepth 16384 in
/-- The same features as the second layer reads them. -/
theorem pay23_eq (s : ℕ) (hs : s < 3) (p : Fin 200) (k : Fin 384) :
    k0_pay23 (F := Ideal) (k0_pay21 (tabWin (tabK x xs w ws b ids w2 w2s) 0 s)) (k0_pay22 (tabWin (tabK x xs w ws b ids w2 w2s) 1 s)) (tabWin (tabK x xs w ws b ids w2 w2s) 2 s) (ix2 p k)
      = vox x xs w ws b ids (200 * s + p.val) k :=
  (show _ = _ from rfl).trans (pay31_eq x xs w ws b ids w2 w2s s hs p k)

variable {ids} (hids : ∀ i, (ids i).toInt < 200)

/-- A masked maximum over the points, in the reference's words, is the largest among a voxel's points. -/
theorem fold_top (v : Fin 600) (f : Fin 1920 → EReal) (hids : ∀ i, (ids i).toInt < 200) :
    Finset.fold max (Ideal.ofBits .f32 0xFF800000#32 : EReal) (fun q : Fin 1920 => Scalar.select (memR ids (ix2 v q)) (f q) (Ideal.ofBits .f32 0xFF800000#32 : EReal)) Finset.univ = top ids f v.val := by
  rw [negInf]
  unfold top
  simp only [select_ite, memR_one hids]
  rfl

set_option maxRecDepth 16384 in
include hids in
/-- The reference's voxel features. -/
theorem vfR_eq (v : Fin 600) (k : Fin 384) :
    vfR (F := Ideal) (sitofp .bf16 x) (extf .bf16 w Cert.ReferenceIdeal.Gen.bitsLt_fp8e4m3_bf16) xs ws b ids (ix2 v k) = vox x xs w ws b ids v.val k := by
  pointwise [vfR, vmaxR, maskR, occR]
  rw [select_ite]
  have hf := fold_top v (fun q => hAt x xs w ws b q k) hids
  unfold hAt at hf
  refine (ite_congr rfl (fun _ => hf) fun _ => rfl).trans ?_
  unfold vox
  split
  · obtain ⟨q, hq⟩ := (occ_iff hids v).1 ‹_›
    exact (max_eq_left (le_trans (hAt_nonneg x xs w ws b q k) ((top_le_iff ids (fun q => hAt x xs w ws b q k) v.val _).1 le_rfl q hq))).symm
  · rw [top_empty ids _ _ fun h => ‹¬ _› ((occ_iff hids v).2 h)]
    exact (max_eq_right bot_le).symm

set_option maxRecDepth 16384 in
include hids in
/-- The voxel features of the two programs agree. -/
theorem result_voxels :
    vfV (F := Ideal) (tabK x xs w ws b ids w2 w2s)
      = shapeCast Cert.ReferenceIdeal.S3x200x384 (vfR (F := Ideal) (sitofp .bf16 x) (extf .bf16 w Cert.ReferenceIdeal.Gen.bitsLt_fp8e4m3_bf16) xs ws b ids) Cert.ReferenceIdeal.Gen.shapeCasts_S600x384_S3x200x384 := by
  funext j
  idx_vars j
  have hk := pay31_eq x xs w ws b ids w2 w2s j0.val j0.isLt j1 j2
  generalize tabK x xs w ws b ids w2 w2s = T at hk ⊢
  pointwise [vfV, vfS, k0_pay32]
  rw [vfR_eq x xs w ws b hids]
  refine Eq.trans (Eq.trans ?_ hk) ?_
  · rfl
  · show vox x xs w ws b ids _ _ = vox x xs w ws b ids _ _
    congr 1
    show 200 * j0.val + j1.val = j0.val * 200 + j1.val
    omega

end Cert.Algebra
end
-- ==== Proof.Algebra.Second.lean ====
module

public import proofs.«01_k».proof.Proof.KernelIdeal.Values
public import proofs.«01_k».proof.Proof.ReferenceIdeal.Values
public import Idealize.ShloMosaic.Lib.Pointwise
public import Idealize.ShloMosaic.Lib.Routing.Ops
public import Idealize.ShloMosaic.Lib.Pointwise.IndexBridge
public import proofs.«01_k».proof.Proof.Algebra.Voxels

@[expose] public section

noncomputable section

namespace Cert.Algebra

open Idealize.ShloMosaic Idealize.ShloMosaic.TcCoe Idealize.ShloMosaic.Tactic
open Cert.KernelIdeal.Gen (shapeCasts_S3x640x10240_S1920x10240 shapeCasts_S3x640_S1920x1 shapeCasts_S384_S1x384 shapeCasts_S192_S1x192
  bitsLt_fp8e4m3_bf16 k0_pay7 k0_pay8 k0_pay9 k0_pay15 k0_pay16 k0_pay17 k0_pay21 k0_pay22 k0_pay23 k0_pay24 k0_pay25 k0_pay31 k0_pay32 k1_pay1)
open Cert.KernelIdeal.Hand
open Cert.ReferenceIdeal.Hand (hR offR segR memR cntR occR maskR vmaxR vfR gixR gR h2R mask2R vmax2R vf2R)

variable (x : S3x640x10240.Idx → BitVec 8) (xs : FVec Ideal S3x640 .f32) (w : FVec Ideal S10240x384 .fp8e4m3) (ws : FVec Ideal S384 .f32) (b : FVec Ideal S384 .f32)
  (ids : S3x640.Idx → BitVec 32) (w2 : FVec Ideal S2x384x192 .fp8e4m3) (w2s b2 : FVec Ideal S192 .f32)

/-- The product of a voxel's features with column `d` of the second layer's second slab. -/
def cAt (r : ℕ) (d : Fin 192) : EReal := ∑ k : Fin 384, vox x xs w ws b ids r k * w2 (ix3 1 k d)

set_option maxRecDepth 16384 in
/-- The kernel's second-layer voxel features of scene `s`. -/
theorem vf2S_eq (s : ℕ) (hs : s < 3) (p : Fin 200) (d : Fin 192) :
    vf2S (F := Ideal) (tabK x xs w ws b ids w2 w2s) (k0_pay16 w2) (shapeCast _ w2s shapeCasts_S192_S1x192) (shapeCast _ b2 shapeCasts_S192_S1x192) s (ix3 0 p d)
      = max (top ids (fun q => aAt x xs w ws b w2 w2s q d) (200 * s + p.val) + cAt x xs w ws b ids w2 (200 * s + p.val) d * w2s (ix1 d) + b2 (ix1 d)) 0 := by
  have hp := p.isLt
  have hd := d.isLt
  have hm : (200 * s + p.val) % 608 = 200 * s + p.val := Nat.mod_eq_of_lt (by omega)
  unfold cAt
  simp only [← pay23_eq x xs w ws b ids w2 w2s s hs p]
  generalize hT : tabK x xs w ws b ids w2 w2s = T
  pointwise [vf2S, k0_pay25, w2bot, tabWin, tabWin64, k0_pay16]
  subst hT
  have hc : ∀ k : Fin 384, (fun a : Fin 3 => match a with
      | 0 => (1 : Fin 2)
      | 1 => k
      | 2 => d : S2x384x192.Idx) = ix3 1 k d := fun k => by funext a; fin_cases a <;> rfl
  by_cases h1 : d.val < 128
  · rw [dif_pos h1, tabK_a x xs w ws b ids w2 w2s _ (200 * s + p.val) d (show 3 ≤ 3 by decide) hm (by show d.val + 384 = 128 * 3 + d.val; omega)]
    congr 4
    refine Finset.sum_congr rfl fun k _ => ?_
    congr 2
    exact hc k
  · rw [dif_neg h1, tabK_a x xs w ws b ids w2 w2s _ (200 * s + p.val) d (show 3 ≤ 4 by decide) hm (by show d.val + 384 = 128 * 4 + (d.val - 128); omega)]
    congr 4
    refine Finset.sum_congr rfl fun k _ => ?_
    congr 2
    exact hc k

variable {ids} (hids : ∀ i, (ids i).toInt < 200)

set_option maxRecDepth 16384 in
include hids in
/-- A point of row `v` reads back voxel row `v`. -/
theorem gixR_eq (q : Fin 1920) (v : Fin 600) (hv : rowQ ids q = v.val) : gixR ids (ix2 q 0) = BitVec.ofNat 32 v.val := by
  have hi := hids (ix2 (⟨q.val / 640, by omega⟩ : Fin 3) (⟨q.val % 640, by omega⟩ : Fin 640))
  have hq := q.isLt
  have hvl := v.isLt
  pointwise [gixR, offR]
  unfold rowQ rowAt at hv
  generalize ids (ix2 (⟨q.val / 640, by omega⟩ : Fin 3) (⟨q.val % 640, by omega⟩ : Fin 640)) = u at *
  have e : q.val / 128 / 5 = q.val / 640 := by omega
  have h0 : 0 ≤ u.toInt := by
    by_contra h0
    rw [if_neg h0] at hv
    omega
  rw [if_pos h0, e] at hv
  have hn := toNat_of_toInt h0 hi
  have hmx : IntOp.maxsi u 0#32 = u := by
    unfold IntOp.maxsi
    split
    · rfl
    · rename_i h
      rw [BitVec.slt, decide_eq_true_eq] at h
      have hz : (0#32 : BitVec 32).toInt = 0 := rfl
      exact BitVec.toInt_inj.1 (by omega)
  rw [hmx]
  have hw : IntOp.addi (IntOp.muli (BitVec.ofNat 32 (q.val / 640)) 200#32) u = BitVec.ofNat 32 v.val := by
    rw [← BitVec.toNat_inj]
    simp only [IntOp.addi, IntOp.muli, BitVec.toNat_add, BitVec.toNat_mul, BitVec.toNat_ofNat]
    omega
  rw [hw, select_ite, if_neg]
  rw [cmpi_slt_one, BitVec.toInt_eq_toNat_cond, BitVec.toNat_ofNat]
  split <;> omega

include hids in
/-- The features a point of row `v` reads back are that voxel's. -/
theorem gR_eq (q : Fin 1920) (v : Fin 600) (hv : rowQ ids q = v.val) (k : Fin 384) :
    gR (F := Ideal) (sitofp .bf16 x) (extf .bf16 w Cert.ReferenceIdeal.Gen.bitsLt_fp8e4m3_bf16) xs ws b ids (ix2 q k) = vox x xs w ws b ids v.val k := by
  rw [← vfR_eq x xs w ws b hids v k]
  unfold gR
  rw [ix2_eq_valueIdx, ix2_eq_valueIdx]
  exact Routing.gather_row _ rfl rfl rfl rfl rfl _ _ q k v (by rw [← ix2_eq_valueIdx]; exact gixR_eq hids q v hv) (by decide)

set_option maxRecDepth 16384 in
include hids in
/-- The reference's second layer at a point of row `v`, for a second scale that is neither negative nor infinite. -/
theorem h2R_eq (hs0 : ∀ d, 0 ≤ w2s (ix1 d)) (hs1 : ∀ d, w2s (ix1 d) < ⊤) (q : Fin 1920) (v : Fin 600) (hv : rowQ ids q = v.val) (d : Fin 192) :
    h2R (F := Ideal) (sitofp .bf16 x) (extf .bf16 w Cert.ReferenceIdeal.Gen.bitsLt_fp8e4m3_bf16) (extf .bf16 w2 Cert.ReferenceIdeal.Gen.bitsLt_fp8e4m3_bf16) xs ws b ids w2s b2 (ix2 q d)
      = max (aAt x xs w ws b w2 w2s q d + cAt x xs w ws b ids w2 v.val d * w2s (ix1 d) + b2 (ix1 d)) 0 := by
  have hg := gR_eq x xs w ws b hids q v hv
  unfold aAt cAt
  rw [← EReal.right_distrib_of_nonneg_of_ne_top (hs0 d) (hs1 d).ne]
  simp only [← hg]
  unfold hAt
  pointwise [h2R]

set_option maxRecDepth 16384 in
include hids in
/-- The reference's second-layer voxel features. -/
theorem vf2R_eq (hs0 : ∀ d, 0 ≤ w2s (ix1 d)) (hs1 : ∀ d, w2s (ix1 d) < ⊤) (v : Fin 600) (d : Fin 192) :
    vf2R (F := Ideal) (sitofp .bf16 x) (extf .bf16 w Cert.ReferenceIdeal.Gen.bitsLt_fp8e4m3_bf16) (extf .bf16 w2 Cert.ReferenceIdeal.Gen.bitsLt_fp8e4m3_bf16) xs ws b ids w2s b2 (ix2 v d)
      = max (top ids (fun q => aAt x xs w ws b w2 w2s q d) v.val + cAt x xs w ws b ids w2 v.val d * w2s (ix1 d) + b2 (ix1 d)) 0 := by
  pointwise [vf2R, vmax2R, mask2R, occR]
  rw [select_ite]
  have hf := fold_top v (fun q => h2R (F := Ideal) (sitofp .bf16 x) (extf .bf16 w Cert.ReferenceIdeal.Gen.bitsLt_fp8e4m3_bf16) (extf .bf16 w2 Cert.ReferenceIdeal.Gen.bitsLt_fp8e4m3_bf16) xs ws b ids w2s b2 (ix2 q d)) hids
  refine (ite_congr rfl (fun _ => hf) fun _ => rfl).trans ?_
  split
  · have ho := (occ_iff hids v).1 ‹_›
    have hm : Monotone fun t : EReal => max (t + cAt x xs w ws b ids w2 v.val d * w2s (ix1 d) + b2 (ix1 d)) 0 := fun s t h => max_le_max (add_le_add_left (add_le_add_left h _) _) le_rfl
    rw [← top_map ids (fun q => aAt x xs w ws b w2 w2s q d) _ hm v.val ho]
    refine eq_of_forall_ge_iff fun c => ?_
    rw [top_le_iff, top_le_iff]
    refine forall_congr' fun q => forall_congr' fun hq => ?_
    rw [h2R_eq x xs w ws b w2 w2s b2 hids hs0 hs1 q v hq d]
  · rw [top_empty ids _ _ fun h => ‹¬ _› ((occ_iff hids v).2 h), EReal.bot_add, EReal.bot_add]
    exact (max_eq_right bot_le).symm

set_option maxRecDepth 16384 in
include hids in
/-- The second-layer voxel features of the two programs agree. -/
theorem result_second (hs0 : ∀ d, 0 ≤ w2s (ix1 d)) (hs1 : ∀ d, w2s (ix1 d) < ⊤) :
    vf2V (F := Ideal) (tabK x xs w ws b ids w2 w2s) (k0_pay16 w2) (shapeCast _ w2s shapeCasts_S192_S1x192) (shapeCast _ b2 shapeCasts_S192_S1x192)
      = shapeCast Cert.ReferenceIdeal.S3x200x192 (vf2R (F := Ideal) (sitofp .bf16 x) (extf .bf16 w Cert.ReferenceIdeal.Gen.bitsLt_fp8e4m3_bf16) (extf .bf16 w2 Cert.ReferenceIdeal.Gen.bitsLt_fp8e4m3_bf16) xs ws b ids w2s b2) Cert.ReferenceIdeal.Gen.shapeCasts_S600x192_S3x200x192 := by
  funext j
  idx_vars j
  have hk := vf2S_eq x xs w ws b ids w2 w2s b2 j0.val j0.isLt j1 j2
  generalize tabK x xs w ws b ids w2 w2s = T at hk ⊢
  have hl : vf2V (F := Ideal) T (k0_pay16 w2) (shapeCast _ w2s shapeCasts_S192_S1x192) (shapeCast _ b2 shapeCasts_S192_S1x192) (ix3 j0 j1 j2)
      = vf2S (F := Ideal) T (k0_pay16 w2) (shapeCast _ w2s shapeCasts_S192_S1x192) (shapeCast _ b2 shapeCasts_S192_S1x192) j0.val (ix3 0 j1 j2) := by
    unfold vf2V
    refine congrArg _ ?_
    funext a
    fin_cases a <;> rfl
  rw [hl, hk]
  pointwise []
  rw [vf2R_eq x xs w ws b w2 w2s b2 hids hs0 hs1]
  have e : (⟨j0.val * 200 + j1.val, by omega⟩ : Fin 600).val = 200 * j0.val + j1.val := by show j0.val * 200 + j1.val = _; omega
  rw [e]

end Cert.Algebra
end
-- ==== Proof.Algebra.Kernel.lean ====
module

public import proofs.«01_k».proof.Proof.Algebra.Second

@[expose] public section

noncomputable section

namespace Cert.Algebra

open Cert.KernelIdeal Cert.KernelIdeal.Gen Cert.KernelIdeal.Hand
open Idealize.ShloMosaic Idealize.ShloMosaic.TcCoe Idealize.ShloMosaic.Tactic

variable (m : (ℓ : Loc nD τ sig) → Buf (Elt Ideal) ℓ) (c : Dev nD)

/-- The ids the fused kernel reads are the launch's. -/
theorem stg_0 : stg0_0 (U1 m c) = m ((c : Thread nD τ).loc main_arg5) := (read0_0 _).trans (U1_of m c main_arg5 (by decide))
/-- The points it reads are the launch's, scene after scene. -/
theorem stg_1 : stg0_1 (U1 m c) = shapeCast S1920x10240 (m ((c : Thread nD τ).loc main_arg0)) shapeCasts_S3x640x10240_S1920x10240 := (read0_1 _).trans (U1_main_v0 m c)
/-- The points' scales it reads are the launch's. -/
theorem stg_2 : stg0_2 (U1 m c) = shapeCast S1920x1 (m ((c : Thread nD τ).loc main_arg1)) shapeCasts_S3x640_S1920x1 := (read0_2 _).trans (U1_main_v1 m c)
/-- The first layer's weights it reads are the launch's. -/
theorem stg_3 : stg0_3 (U1 m c) = m ((c : Thread nD τ).loc main_arg2) := (read0_3 _).trans (U1_of m c main_arg2 (by decide))
/-- The first layer's scales it reads are the launch's. -/
theorem stg_4 : stg0_4 (U1 m c) = shapeCast S1x384 (m ((c : Thread nD τ).loc main_arg3)) shapeCasts_S384_S1x384 := (read0_4 _).trans (U1_main_v2 m c)
/-- The first layer's bias it reads is the launch's. -/
theorem stg_5 : stg0_5 (U1 m c) = shapeCast S1x384 (m ((c : Thread nD τ).loc main_arg4)) shapeCasts_S384_S1x384 := (read0_5 _).trans (U1_main_v3 m c)
/-- The second layer's weights it reads are the launch's. -/
theorem stg_6 : stg0_6 (U1 m c) = m ((c : Thread nD τ).loc main_arg6) := (read0_6 _).trans (U1_of m c main_arg6 (by decide))
/-- The second layer's scales it reads are the launch's. -/
theorem stg_7 : stg0_7 (U1 m c) = shapeCast S1x192 (m ((c : Thread nD τ).loc main_arg7)) shapeCasts_S192_S1x192 := (read0_7 _).trans (U1_main_v4 m c)
/-- The second layer's bias it reads is the launch's. -/
theorem stg_8 : stg0_8 (U1 m c) = shapeCast S1x192 (m ((c : Thread nD τ).loc main_arg8)) shapeCasts_S192_S1x192 := (read0_8 _).trans (U1_main_v5 m c)

/-- The table, from the launch's arguments. -/
theorem tab0_eq : tab0 (U1 m c) = tabK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold tab0
  rw [stg_0, stg_1, stg_2, stg_3, stg_4, stg_5, stg_6, stg_7]

/-- The points' features, from the launch's arguments. -/
theorem out10_eq : out10 (U1 m c) = pfV (shapeCast S1920x10240 (m ((c : Thread nD τ).loc main_arg0)) shapeCasts_S3x640x10240_S1920x10240) (shapeCast S1920x1 (m ((c : Thread nD τ).loc main_arg1)) shapeCasts_S3x640_S1920x1) (k0_pay15 (m ((c : Thread nD τ).loc main_arg2))) (shapeCast S1x384 (m ((c : Thread nD τ).loc main_arg3)) shapeCasts_S384_S1x384) (shapeCast S1x384 (m ((c : Thread nD τ).loc main_arg4)) shapeCasts_S384_S1x384) := by
  unfold out10
  rw [stg_1, stg_2, stg_3, stg_4, stg_5]

/-- The voxel features, from the launch's arguments. -/
theorem out11_eq : out11 (U1 m c) = vfV (tabK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  unfold out11
  rw [tab0_eq]

/-- The second-layer voxel features, from the launch's arguments. -/
theorem out9_eq : out9 (U1 m c) = vf2V (tabK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (k0_pay16 (m ((c : Thread nD τ).loc main_arg6))) (shapeCast S1x192 (m ((c : Thread nD τ).loc main_arg7)) shapeCasts_S192_S1x192) (shapeCast S1x192 (m ((c : Thread nD τ).loc main_arg8)) shapeCasts_S192_S1x192) := by
  unfold out9
  rw [tab0_eq, stg_6, stg_7, stg_8]

end Cert.Algebra
end
-- ==== Proof.Scaled.lean ====
module

public import proofs.«01_k».proof.Proof.Frames
public import proofs.«01_k».proof.Proof.ReferenceIdeal.Values
public import proofs.«01_k».proof.Proof.Algebra.Kernel

@[expose] public section

noncomputable section

namespace Cert.Proof

open Idealize.ShloMosaic Idealize.ShloMosaic.TcCoe Idealize.ShloMosaic.Tactic
open Idealize.SL Idealize.SL.Sem

/-- The side conditions the predicate `ids_named_and_scaled` states. -/
instance preScaled : Cert.Pre_ids_named_and_scaled.Facts where
  bcast_S_S3x640 := by decide
  bcast_S_S192 := by decide

variable (m : (ℓ : Loc Cert.KernelIdeal.nD Cert.KernelIdeal.τ Cert.KernelIdeal.sig) → Buf (Elt Ideal) ℓ) (h : Cert.Pre_KernelIdeal_ids_named_and_scaled m)

include h in
/-- `ids_named_and_scaled`, read word by word: every voxel id is below 200. -/
theorem ids_of_scaled (c : Dev Cert.KernelIdeal.nD) (i : Cert.KernelIdeal.S3x640.Idx) :
    (show BitVec 32 from m ((c : Thread Cert.KernelIdeal.nD Cert.KernelIdeal.τ).loc Cert.KernelIdeal.main_arg5) i).toInt < 200 := by
  have e := congrFun (h c).1 i
  simp only [Cert.Pre_ids_named_and_scaled.fn, cmpi, broadcastInDim, constantI, IntOp.cmpi, ofBool_eq_one, BitVec.slt, decide_eq_true_eq] at e
  exact of_decide_eq_true e

/-- The bits of plus infinity are plus infinity. -/
theorem posInf : Ideal.ofBits .f32 0x7F800000#32 = (⊤ : EReal) := by simp [Ideal.ofBits, Ideal.ieee]

include h in
/-- `ids_named_and_scaled`, read number by number: no second scale is negative. -/
theorem scale_nonneg (c : Dev Cert.KernelIdeal.nD) (d : Fin 192) :
    (0 : EReal) ≤ (show Cert.KernelIdeal.S192.Idx → EReal from m ((c : Thread Cert.KernelIdeal.nD Cert.KernelIdeal.τ).loc Cert.KernelIdeal.main_arg7)) (ix1 d) := by
  have e := congrFun (h c).2.1 (ix1 d)
  pointwise [Cert.Pre_ids_named_and_scaled.fn] at e
  exact of_decide_eq_true ((ofBool_eq_one _).1 e)

include h in
/-- `ids_named_and_scaled`, read number by number: no second scale is infinite. -/
theorem scale_finite (c : Dev Cert.KernelIdeal.nD) (d : Fin 192) :
    (show Cert.KernelIdeal.S192.Idx → EReal from m ((c : Thread Cert.KernelIdeal.nD Cert.KernelIdeal.τ).loc Cert.KernelIdeal.main_arg7)) (ix1 d) < ⊤ := by
  have e := congrFun (h c).2.2 (ix1 d)
  pointwise [Cert.Pre_ids_named_and_scaled.fn] at e
  have e := of_decide_eq_true ((ofBool_eq_one _).1 e)
  rwa [posInf] at e

/-- The ideal kernel's frame, from any memory whose ids are below 200 and whose second scales are nonnegative and finite. -/
theorem frame_KernelIdeal_scaled : Cert.quiescent_KernelIdeal_pre_ids_named_and_scaled := fun m g h =>
  (θ_run (Cert.KernelIdeal.defs (F := Ideal)) _ _).mono (fun r h => ⟨fun c => (h.1 c).2, h.2⟩)
    (Cert.KernelIdeal.Hand.run_values m g (ids_of_scaled m h))

/-- The reference's frame, from any such memory. -/
theorem frame_ReferenceIdeal_scaled : Cert.quiescent_ReferenceIdeal_pre_ids_named_and_scaled := fun m g _ => Cert.ReferenceIdeal.Gen.frame m g

/-- From one launch's arguments the ideal kernel and the reference end with equal results, all four of them. -/
theorem algebraic : Cert.algebraic_KernelIdeal_ReferenceIdeal_pre_ids_named_and_scaled := fun m g m' g' hpre hagree => by
  have hids := ids_of_scaled m hpre
  refine ⟨fun c => Cert.KernelIdeal.Hand.out9 (Cert.KernelIdeal.Hand.U1 m c), fun c => shapeCast _ (Cert.KernelIdeal.Hand.countsV (F := Ideal) (m ((c : Thread Cert.KernelIdeal.nD Cert.KernelIdeal.τ).loc Cert.KernelIdeal.main_arg5))) Cert.KernelIdeal.Gen.shapeCasts_S3x200x1_S3x200,
    fun c => shapeCast _ (Cert.KernelIdeal.Hand.out10 (Cert.KernelIdeal.Hand.U1 m c)) Cert.KernelIdeal.Gen.shapeCasts_S1920x384_S3x640x384, fun c => Cert.KernelIdeal.Hand.out11 (Cert.KernelIdeal.Hand.U1 m c), ?_, ?_⟩
  · exact (θ_run (Cert.KernelIdeal.defs (F := Ideal)) _ _).mono
      (fun r hr c => ⟨(hr.1 c).1.1, (hr.1 c).1.2.1, (hr.1 c).1.2.2.1, (hr.1 c).1.2.2.2, (hr.1 c).2⟩)
      (Cert.KernelIdeal.Hand.run_values m g hids)
  · refine (θ_run (Cert.ReferenceIdeal.defs (F := Ideal)) _ _).mono
      (fun r hr c => ⟨(hr c).1.1.trans ?_, (hr c).1.2.1.trans ?_, (hr c).1.2.2.1.trans ?_, (hr c).1.2.2.2.trans ?_, (hr c).2⟩)
      (Cert.ReferenceIdeal.Hand.run_values m' g')
    all_goals obtain ⟨a0, a1, a2, a3, a4, a5, a6, a7, a8⟩ := hagree c
    · rw [a0, a1, a2, a3, a4, a5, a6, a7, a8]
      exact ((Cert.Algebra.out9_eq m c).trans (Cert.Algebra.result_second _ _ _ _ _ _ _ _ (hids c) (scale_nonneg m hpre c) (scale_finite m hpre c))).symm
    · rw [a5]
      exact (Cert.Algebra.result_counts (hids c)).symm
    · rw [a0, a1, a2, a3, a4]
      exact ((congrArg (fun t => shapeCast _ t Cert.KernelIdeal.Gen.shapeCasts_S1920x384_S3x640x384) (Cert.Algebra.out10_eq m c)).trans (Cert.Algebra.result_features _ _ _ _ _)).symm
    · rw [a0, a1, a2, a3, a4, a5]
      exact ((Cert.Algebra.out11_eq m c).trans (Cert.Algebra.result_voxels _ _ _ _ _ _ _ (hids c))).symm

end Cert.Proof
end
-- ==== Proof.lean ====
module

public import proofs.«01_k».proof.Proof.Scaled

@[expose] public section

noncomputable section

namespace Cert.Proof

/-- The claims, proved: the frames of the kernel, the ideal kernel and the reference, the idealization, and the equality of the
    ideal kernel's four results with the reference's. -/
theorem claim : Cert.Claim :=
  ⟨Cert.Kernel.Gen.facts, Cert.KernelIdeal.Gen.facts, Cert.ReferenceIdeal.Gen.facts, preNamed, preScaled,
    frame_Kernel, frame_KernelIdeal, frame_KernelIdeal_scaled, frame_ReferenceIdeal, frame_ReferenceIdeal_scaled, trivial, algebraic⟩

end Cert.Proof
